-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)) (v3 : (c : Dev Cert.Kernel2Ideal.nD) → Buf (Elt Ideal) ((c.tc : Thread Cert.Kernel2Ideal.nD Cert.Kernel2Ideal.τ).loc Cert.Kernel2Ideal.main_v19_3)) (v4 : (c : Dev Cert.Kernel2Ideal.nD) → Buf (Elt Ideal) ((c.tc : Thread Cert.Kernel2Ideal.nD Cert.Kernel2Ideal.τ).loc Cert.Kernel2Ideal.main_v19_4)) (v5 : (c : Dev Cert.Kernel2Ideal.nD) → Buf (Elt Ideal) ((c.tc : Thread Cert.Kernel2Ideal.nD Cert.Kernel2Ideal.τ).loc Cert.Kernel2Ideal.main_v19_5)) (v6 : (c : Dev Cert.Kernel2Ideal.nD) → Buf (Elt Ideal) ((c.tc : Thread Cert.Kernel2Ideal.nD Cert.Kernel2Ideal.τ).loc Cert.Kernel2Ideal.main_v19_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_v19_3) = v3 c
          ∧ r.2.mem ((c.tc : Thread Cert.Kernel2Ideal.nD Cert.Kernel2Ideal.τ).loc Cert.Kernel2Ideal.main_v19_4) = v4 c
          ∧ r.2.mem ((c.tc : Thread Cert.Kernel2Ideal.nD Cert.Kernel2Ideal.τ).loc Cert.Kernel2Ideal.main_v19_5) = v5 c
          ∧ r.2.mem ((c.tc : Thread Cert.Kernel2Ideal.nD Cert.Kernel2Ideal.τ).loc Cert.Kernel2Ideal.main_v19_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v147) = v0 c
          ∧ r.2.mem ((c.tc : Thread Cert.Reference2Ideal.nD Cert.Reference2Ideal.τ).loc Cert.Reference2Ideal.main_v148) = v1 c
          ∧ r.2.mem ((c.tc : Thread Cert.Reference2Ideal.nD Cert.Reference2Ideal.τ).loc Cert.Reference2Ideal.main_v143) = v2 c
          ∧ r.2.mem ((c.tc : Thread Cert.Reference2Ideal.nD Cert.Reference2Ideal.τ).loc Cert.Reference2Ideal.main_v149) = v3 c
          ∧ r.2.mem ((c.tc : Thread Cert.Reference2Ideal.nD Cert.Reference2Ideal.τ).loc Cert.Reference2Ideal.main_v150) = v4 c
          ∧ r.2.mem ((c.tc : Thread Cert.Reference2Ideal.nD Cert.Reference2Ideal.τ).loc Cert.Reference2Ideal.main_v146) = v5 c
          ∧ r.2.mem ((c.tc : Thread Cert.Reference2Ideal.nD Cert.Reference2Ideal.τ).loc Cert.Reference2Ideal.main_v151) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v20_4)) (v5 : (c : Dev Cert.Kernel3Ideal.nD) → Buf (Elt Ideal) ((c.tc : Thread Cert.Kernel3Ideal.nD Cert.Kernel3Ideal.τ).loc Cert.Kernel3Ideal.main_v20_5)) (v6 : (c : Dev Cert.Kernel3Ideal.nD) → Buf (Elt Ideal) ((c.tc : Thread Cert.Kernel3Ideal.nD Cert.Kernel3Ideal.τ).loc Cert.Kernel3Ideal.main_v20_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v20_4) = v4 c
          ∧ r.2.mem ((c.tc : Thread Cert.Kernel3Ideal.nD Cert.Kernel3Ideal.τ).loc Cert.Kernel3Ideal.main_v20_5) = v5 c
          ∧ r.2.mem ((c.tc : Thread Cert.Kernel3Ideal.nD Cert.Kernel3Ideal.τ).loc Cert.Kernel3Ideal.main_v20_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v150) = v0 c
          ∧ r.2.mem ((c.tc : Thread Cert.Reference3Ideal.nD Cert.Reference3Ideal.τ).loc Cert.Reference3Ideal.main_v151) = v1 c
          ∧ r.2.mem ((c.tc : Thread Cert.Reference3Ideal.nD Cert.Reference3Ideal.τ).loc Cert.Reference3Ideal.main_v146) = v2 c
          ∧ r.2.mem ((c.tc : Thread Cert.Reference3Ideal.nD Cert.Reference3Ideal.τ).loc Cert.Reference3Ideal.main_v152) = v3 c
          ∧ r.2.mem ((c.tc : Thread Cert.Reference3Ideal.nD Cert.Reference3Ideal.τ).loc Cert.Reference3Ideal.main_v153) = v4 c
          ∧ r.2.mem ((c.tc : Thread Cert.Reference3Ideal.nD Cert.Reference3Ideal.τ).loc Cert.Reference3Ideal.main_v149) = v5 c
          ∧ r.2.mem ((c.tc : Thread Cert.Reference3Ideal.nD Cert.Reference3Ideal.τ).loc Cert.Reference3Ideal.main_v154) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x4352x1536 : Shape := ⟨3, ![8, 4352, 1536]⟩
abbrev S8x4352x128 : Shape := ⟨3, ![8, 4352, 128]⟩
abbrev S2x16 : Shape := ⟨2, ![2, 16]⟩
abbrev S16 : Shape := ⟨1, ![16]⟩
abbrev S1x32 : Shape := ⟨2, ![1, 32]⟩
abbrev S_ : Shape := ⟨0, ![]⟩
abbrev S1x128 : Shape := ⟨2, ![1, 128]⟩
abbrev S16x64 : Shape := ⟨2, ![16, 64]⟩
abbrev S1024 : Shape := ⟨1, ![1024]⟩
abbrev S1x1024 : Shape := ⟨2, ![1, 1024]⟩
abbrev S8x4352x1024 : Shape := ⟨3, ![8, 4352, 1024]⟩
abbrev S2x128x1536 : Shape := ⟨3, ![2, 128, 1536]⟩
abbrev S2x128x128 : Shape := ⟨3, ![2, 128, 128]⟩
abbrev S2x128x1024 : Shape := ⟨3, ![2, 128, 1024]⟩
abbrev S2x8x128x128 : Shape := ⟨4, ![2, 8, 128, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x1x128x128 : Shape := ⟨4, ![1, 1, 128, 128]⟩
abbrev S1x1 : Shape := ⟨2, ![1, 1]⟩

abbrev nBuf : Space → Nat
  | .hbm => 18
  | .vmem => 17
  | .smem => 0
  | _ => 0

abbrev bufTy : (tb : Table) → Fin (tcTables nBuf tb) → BufTy
  | .hbm, ⟨0, _⟩ => ⟨S8x4352x1536, .bf16⟩
  | .hbm, ⟨1, _⟩ => ⟨S8x4352x128, .f32⟩
  | .hbm, ⟨2, _⟩ => ⟨S2x16, .f32⟩
  | .hbm, ⟨3, _⟩ => ⟨S2x16, .f32⟩
  | .hbm, ⟨4, _⟩ => ⟨S16, .f32⟩
  | .hbm, ⟨5, _⟩ => ⟨S1x32, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S1x32, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S8x4352x1024, .bf16⟩
  | .hbm, ⟨17, _⟩ => ⟨S8x4352x1024, .bf16⟩
  | .local _ .vmem, ⟨0, _⟩ => ⟨S2x128x1536, .bf16⟩
  | .local _ .vmem, ⟨1, _⟩ => ⟨S2x128x1536, .bf16⟩
  | .local _ .vmem, ⟨2, _⟩ => ⟨S2x128x128, .f32⟩
  | .local _ .vmem, ⟨3, _⟩ => ⟨S2x128x128, .f32⟩
  | .local _ .vmem, ⟨4, _⟩ => ⟨S2x128x1536, .bf16⟩
  | .local _ .vmem, ⟨5, _⟩ => ⟨S2x128x1536, .bf16⟩
  | .local _ .vmem, ⟨6, _⟩ => ⟨S2x128x128, .f32⟩
  | .local _ .vmem, ⟨7, _⟩ => ⟨S2x128x128, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S2x128x1024, .bf16⟩
  | .local _ .vmem, ⟨12, _⟩ => ⟨S2x128x1024, .bf16⟩
  | .local _ .vmem, ⟨13, _⟩ => ⟨S2x128x1024, .bf16⟩
  | .local _ .vmem, ⟨14, _⟩ => ⟨S2x128x1024, .bf16⟩
  | .local _ .vmem, ⟨15, _⟩ => ⟨S2x8x128x128, .f32⟩
  | .local _ .vmem, ⟨16, _⟩ => ⟨S2x8x128x128, .f32⟩
  | _, _ => ⟨S8x4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 34], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c32_i32 : BitVec 32 := 32#32
  let v1 : BitVec 32 := Scalar.addi c32_i32 arg1
  let c2_i32_0 : BitVec 32 := 2#32
  let v2 : BitVec 32 := Scalar.subi arg1 c2_i32_0
  let v3 : BitVec 32 := Scalar.select v0 v1 v2
  let c0_i32 : BitVec 32 := 0#32
  let c0_i32_1 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c32_i32 : BitVec 32 := 32#32
  let v1 : BitVec 32 := Scalar.addi c32_i32 arg1
  let c2_i32_0 : BitVec 32 := 2#32
  let v2 : BitVec 32 := Scalar.subi arg1 c2_i32_0
  let v3 : BitVec 32 := Scalar.select v0 v1 v2
  let c0_i32 : BitVec 32 := 0#32
  let c0_i32_1 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.subi c33_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.subi c33_i32 arg1
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c32_i32 : BitVec 32 := 32#32
  let v1 : BitVec 32 := Scalar.addi c32_i32 arg1
  let c2_i32_0 : BitVec 32 := 2#32
  let v2 : BitVec 32 := Scalar.subi arg1 c2_i32_0
  let v3 : BitVec 32 := Scalar.select v0 v1 v2
  let c0_i32 : BitVec 32 := 0#32
  let c0_i32_1 : BitVec 32 := 0#32
  ![arg0.toNat, v3.toNat, c0_i32.toNat]

def cc0_transform_8 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.subi c33_i32 arg1
  let c0_i32 : BitVec 32 := 0#32
  let c0_i32_0 : BitVec 32 := 0#32
  ![arg0.toNat, v0.toNat, c0_i32.toNat]

abbrev stage0_0 : Fin 2 → Memref sig .tc .vmem S2x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4352x1536 : Shape := ⟨3, ![8, 4352, 1536]⟩
abbrev S8x4352x128 : Shape := ⟨3, ![8, 4352, 128]⟩
abbrev S2x16 : Shape := ⟨2, ![2, 16]⟩
abbrev S16 : Shape := ⟨1, ![16]⟩
abbrev S8x4352x1024 : Shape := ⟨3, ![8, 4352, 1024]⟩
abbrev S8x4352x2x8x64 : Shape := ⟨5, ![8, 4352, 2, 8, 64]⟩
abbrev S8x4352x256 : Shape := ⟨3, ![8, 4352, 256]⟩
abbrev S8x4352x2x128 : Shape := ⟨4, ![8, 4352, 2, 128]⟩
abbrev S8x4352x32 : Shape := ⟨3, ![8, 4352, 32]⟩
abbrev S8x4352x2x16 : Shape := ⟨4, ![8, 4352, 2, 16]⟩
abbrev S1x1x2x16 : Shape := ⟨4, ![1, 1, 2, 16]⟩
abbrev S_ : Shape := ⟨0, ![]⟩
abbrev S8x4352x2x2x8 : Shape := ⟨5, ![8, 4352, 2, 2, 8]⟩
abbrev S8x4352x1x2x8 : Shape := ⟨5, ![8, 4352, 1, 2, 8]⟩
abbrev S8x4352x2x8 : Shape := ⟨4, ![8, 4352, 2, 8]⟩
abbrev S8x4352x2x8x1 : Shape := ⟨5, ![8, 4352, 2, 8, 1]⟩
abbrev S8x256x2x8x64 : Shape := ⟨5, ![8, 256, 2, 8, 64]⟩
abbrev S8x4096x2x8x64 : Shape := ⟨5, ![8, 4096, 2, 8, 64]⟩
abbrev S16x4352x2x8x64 : Shape := ⟨5, ![16, 4352, 2, 8, 64]⟩
abbrev S1x16 : Shape := ⟨2, ![1, 16]⟩
abbrev S2x8 : Shape := ⟨2, ![2, 8]⟩
abbrev S1x1x2x8 : Shape := ⟨4, ![1, 1, 2, 8]⟩
abbrev S8x256x2x8 : Shape := ⟨4, ![8, 256, 2, 8]⟩
abbrev S8x4096x2x8 : Shape := ⟨4, ![8, 4096, 2, 8]⟩
abbrev S16x4352x2x8 : Shape := ⟨4, ![16, 4352, 2, 8]⟩
abbrev S8x256x2x128 : Shape := ⟨4, ![8, 256, 2, 128]⟩
abbrev S8x4096x2x128 : Shape := ⟨4, ![8, 4096, 2, 128]⟩
abbrev S16x4352x2x128 : Shape := ⟨4, ![16, 4352, 2, 128]⟩
abbrev S16x2x8x64x128 : Shape := ⟨5, ![16, 2, 8, 64, 128]⟩
abbrev S16x34x128x2x8x64 : Shape := ⟨6, ![16, 34, 128, 2, 8, 64]⟩
abbrev S34x16x128x2x8x64 : Shape := ⟨6, ![34, 16, 128, 2, 8, 64]⟩
abbrev S16x34x128x2x128 : Shape := ⟨5, ![16, 34, 128, 2, 128]⟩
abbrev S34x16x128x2x128 : Shape := ⟨5, ![34, 16, 128, 2, 128]⟩
abbrev S16x34x128x2x8 : Shape := ⟨5, ![16, 34, 128, 2, 8]⟩
abbrev S34x16x2x8x128 : Shape := ⟨5, ![34, 16, 2, 8, 128]⟩
abbrev S34x16x2x8x128x64 : Shape := ⟨6, ![34, 16, 2, 8, 128, 64]⟩
abbrev S1x16x128x2x8x64 : Shape := ⟨6, ![1, 16, 128, 2, 8, 64]⟩
abbrev S16x128x2x8x64 : Shape := ⟨5, ![16, 128, 2, 8, 64]⟩
abbrev S1x16x2x8x128 : Shape := ⟨5, ![1, 16, 2, 8, 128]⟩
abbrev S16x2x8x128 : Shape := ⟨4, ![16, 2, 8, 128]⟩
abbrev S1x16x128x2x128 : Shape := ⟨5, ![1, 16, 128, 2, 128]⟩
abbrev S16x128x2x128 : Shape := ⟨4, ![16, 128, 2, 128]⟩
abbrev S16x2x8x128x1 : Shape := ⟨5, ![16, 2, 8, 128, 1]⟩
abbrev S16x2x8x1x128 : Shape := ⟨5, ![16, 2, 8, 1, 128]⟩
abbrev S16x2x8x128x128 : Shape := ⟨5, ![16, 2, 8, 128, 128]⟩
abbrev S128x128 : Shape := ⟨2, ![128, 128]⟩
abbrev S16x2x128x128 : Shape := ⟨4, ![16, 2, 128, 128]⟩
abbrev S16x2x1x128x128 : Shape := ⟨5, ![16, 2, 1, 128, 128]⟩
abbrev S16x2x8x128x64 : Shape := ⟨5, ![16, 2, 8, 128, 64]⟩
abbrev S16x2x8x1 : Shape := ⟨4, ![16, 2, 8, 1]⟩
abbrev S16x128x2x8 : Shape := ⟨4, ![16, 128, 2, 8]⟩
abbrev S16x128x2x8x1 : Shape := ⟨5, ![16, 128, 2, 8, 1]⟩
abbrev S16x2x8 : Shape := ⟨3, ![16, 2, 8]⟩
abbrev S16x2x8x1x1 : Shape := ⟨5, ![16, 2, 8, 1, 1]⟩
abbrev S1x16x2x8x128x64 : Shape := ⟨6, ![1, 16, 2, 8, 128, 64]⟩
abbrev S2x8x1 : Shape := ⟨3, ![2, 8, 1]⟩
abbrev S1x1x2x8x1 : Shape := ⟨5, ![1, 1, 2, 8, 1]⟩

abbrev nBuf : Space → Nat
  | .hbm => 227
  | .vmem => 0
  | .smem => 0
  | _ => 0

abbrev hbmTy0_0 (i : Nat) : BufTy := match i % 128 with
  | 0 => ⟨S8x4352x1536, .bf16⟩
  | 1 => ⟨S8x4352x128, .f32⟩
  | 2 => ⟨S2x16, .f32⟩
  | 3 => ⟨S2x16, .f32⟩
  | 4 => ⟨S16, .f32⟩
  | 5 => ⟨S8x4352x1024, .bf16⟩
  | 6 => ⟨S8x4352x1024, .f32⟩
  | 7 => ⟨S8x4352x2x8x64, .f32⟩
  | 8 => ⟨S8x4352x256, .bf16⟩
  | 9 => ⟨S8x4352x256, .f32⟩
  | 10 => ⟨S8x4352x2x128, .f32⟩
  | 11 => ⟨S8x4352x256, .bf16⟩
  | 12 => ⟨S8x4352x256, .f32⟩
  | 13 => ⟨S8x4352x2x128, .f32⟩
  | 14 => ⟨S8x4352x32, .f32⟩
  | 15 => ⟨S8x4352x2x16, .f32⟩
  | 16 => ⟨S1x1x2x16, .f32⟩
  | 17 => ⟨S8x4352x2x16, .f32⟩
  | 18 => ⟨S8x4352x2x16, .f32⟩
  | 19 => ⟨S_, .f32⟩
  | 20 => ⟨S8x4352x2x16, .f32⟩
  | 21 => ⟨S8x4352x2x16, .f32⟩
  | 22 => ⟨S8x4352x2x16, .f32⟩
  | 23 => ⟨S8x4352x2x16, .f32⟩
  | 24 => ⟨S8x4352x2x16, .i1⟩
  | 25 => ⟨S8x4352x2x16, .f32⟩
  | 26 => ⟨S8x4352x2x16, .f32⟩
  | 27 => ⟨S8x4352x2x16, .f32⟩
  | 28 => ⟨S8x4352x2x16, .f32⟩
  | 29 => ⟨S8x4352x2x16, .f32⟩
  | 30 => ⟨S8x4352x2x16, .f32⟩
  | 31 => ⟨S8x4352x2x16, .f32⟩
  | 32 => ⟨S8x4352x2x16, .f32⟩
  | 33 => ⟨S8x4352x2x2x8, .f32⟩
  | 34 => ⟨S2x16, .f32⟩
  | 35 => ⟨S2x16, .f32⟩
  | 36 => ⟨S8x4352x1x2x8, .f32⟩
  | 37 => ⟨S8x4352x2x8, .f32⟩
  | 38 => ⟨S8x4352x1x2x8, .f32⟩
  | 39 => ⟨S8x4352x2x8, .f32⟩
  | 40 => ⟨S8x4352x2x8x1, .f32⟩
  | 41 => ⟨S8x4352x2x8x64, .f32⟩
  | 42 => ⟨S8x4352x2x8x64, .f32⟩
  | 43 => ⟨S8x4352x2x8x1, .f32⟩
  | 44 => ⟨S8x4352x2x8x64, .f32⟩
  | 45 => ⟨S8x4352x2x8x64, .f32⟩
  | 46 => ⟨S8x256x2x8x64, .f32⟩
  | 47 => ⟨S8x4096x2x8x64, .f32⟩
  | 48 => ⟨S8x4352x2x8x64, .f32⟩
  | 49 => ⟨S8x256x2x8x64, .f32⟩
  | 50 => ⟨S8x256x2x8x64, .f32⟩
  | 51 => ⟨S8x4096x2x8x64, .f32⟩
  | 52 => ⟨S8x4096x2x8x64, .f32⟩
  | 53 => ⟨S8x4352x2x8x64, .f32⟩
  | 54 => ⟨S16x4352x2x8x64, .f32⟩
  | 55 => ⟨S1x16, .f32⟩
  | 56 => ⟨S16, .f32⟩
  | 57 => ⟨S2x8, .f32⟩
  | 58 => ⟨S1x1x2x8, .f32⟩
  | 59 => ⟨S8x4352x2x8, .f32⟩
  | 60 => ⟨S8x4352x2x8, .f32⟩
  | 61 => ⟨S1x16, .f32⟩
  | 62 => ⟨S16, .f32⟩
  | 63 => ⟨S2x8, .f32⟩
  | 64 => ⟨S1x1x2x8, .f32⟩
  | 65 => ⟨S8x4352x2x8, .f32⟩
  | 66 => ⟨S8x4352x2x8, .f32⟩
  | 67 => ⟨S8x256x2x8, .f32⟩
  | 68 => ⟨S8x4096x2x8, .f32⟩
  | 69 => ⟨S8x4352x2x8, .f32⟩
  | 70 => ⟨S8x256x2x8, .f32⟩
  | 71 => ⟨S8x256x2x8, .f32⟩
  | 72 => ⟨S8x4096x2x8, .f32⟩
  | 73 => ⟨S8x4096x2x8, .f32⟩
  | 74 => ⟨S8x4352x2x8, .f32⟩
  | 75 => ⟨S16x4352x2x8, .f32⟩
  | 76 => ⟨S8x256x2x128, .f32⟩
  | 77 => ⟨S8x4096x2x128, .f32⟩
  | 78 => ⟨S8x4352x2x128, .f32⟩
  | 79 => ⟨S8x256x2x128, .f32⟩
  | 80 => ⟨S8x256x2x128, .f32⟩
  | 81 => ⟨S8x4096x2x128, .f32⟩
  | 82 => ⟨S8x4096x2x128, .f32⟩
  | 83 => ⟨S8x4352x2x128, .f32⟩
  | 84 => ⟨S16x4352x2x128, .f32⟩
  | 85 => ⟨S8x256x2x128, .f32⟩
  | 86 => ⟨S8x4096x2x128, .f32⟩
  | 87 => ⟨S8x4352x2x128, .f32⟩
  | 88 => ⟨S8x256x2x128, .f32⟩
  | 89 => ⟨S8x256x2x128, .f32⟩
  | 90 => ⟨S8x4096x2x128, .f32⟩
  | 91 => ⟨S8x4096x2x128, .f32⟩
  | 92 => ⟨S8x4352x2x128, .f32⟩
  | 93 => ⟨S16x4352x2x128, .f32⟩
  | 94 => ⟨S_, .f32⟩
  | 95 => ⟨S16x2x8x64x128, .f32⟩
  | 96 => ⟨S16x34x128x2x8x64, .f32⟩
  | 97 => ⟨S34x16x128x2x8x64, .f32⟩
  | 98 => ⟨S16x34x128x2x128, .f32⟩
  | 99 => ⟨S34x16x128x2x128, .f32⟩
  | 100 => ⟨S16x34x128x2x128, .f32⟩
  | 101 => ⟨S34x16x128x2x128, .f32⟩
  | 102 => ⟨S16x34x128x2x8, .f32⟩
  | 103 => ⟨S34x16x2x8x128, .f32⟩
  | 104 => ⟨S_, .f32⟩
  | 105 => ⟨S34x16x2x8x128x64, .f32⟩
  | 106 => ⟨S_, .i32⟩
  | 107 => ⟨S34x16x128x2x8x64, .f32⟩
  | 108 => ⟨S34x16x2x8x128, .f32⟩
  | 109 => ⟨S34x16x128x2x128, .f32⟩
  | 110 => ⟨S34x16x128x2x128, .f32⟩
  | 111 => ⟨S_, .i32⟩
  | 112 => ⟨S16x2x8x64x128, .f32⟩
  | 113 => ⟨S34x16x2x8x128x64, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x16x128x2x8x64, .f32⟩
  | 122 => ⟨S16x128x2x8x64, .f32⟩
  | 123 => ⟨S_, .i32⟩
  | 124 => ⟨S_, .i32⟩
  | 125 => ⟨S_, .i32⟩
  | 126 => ⟨S_, .i32⟩
  | 127 => ⟨S1x16x2x8x128, .f32⟩
  | _ => ⟨S8x4352x1536, .bf16⟩

abbrev hbmTy0_1 (i : Nat) : BufTy := match i % 128 with
  | 0 => ⟨S16x2x8x128, .f32⟩
  | 1 => ⟨S_, .i32⟩
  | 2 => ⟨S_, .i32⟩
  | 3 => ⟨S_, .i32⟩
  | 4 => ⟨S_, .i32⟩
  | 5 => ⟨S1x16x128x2x128, .f32⟩
  | 6 => ⟨S16x128x2x128, .f32⟩
  | 7 => ⟨S_, .i32⟩
  | 8 => ⟨S_, .i32⟩
  | 9 => ⟨S_, .i32⟩
  | 10 => ⟨S_, .i32⟩
  | 11 => ⟨S1x16x128x2x128, .f32⟩
  | 12 => ⟨S16x128x2x128, .f32⟩
  | 13 => ⟨S_, .f32⟩
  | 14 => ⟨S_, .f32⟩
  | 15 => ⟨S16x2x8x128, .f32⟩
  | 16 => ⟨S16x2x8x128x1, .f32⟩
  | 17 => ⟨S16x2x8x1x128, .f32⟩
  | 18 => ⟨S16x2x8x128x128, .f32⟩
  | 19 => ⟨S16x2x8x128x128, .f32⟩
  | 20 => ⟨S16x2x8x128x128, .f32⟩
  | 21 => ⟨S_, .i1⟩
  | 22 => ⟨S128x128, .i1⟩
  | 23 => ⟨S128x128, .i32⟩
  | 24 => ⟨S_, .i32⟩
  | 25 => ⟨S128x128, .i32⟩
  | 26 => ⟨S128x128, .i32⟩
  | 27 => ⟨S128x128, .i32⟩
  | 28 => ⟨S128x128, .i1⟩
  | 29 => ⟨S_, .i1⟩
  | 30 => ⟨S128x128, .i1⟩
  | 31 => ⟨S128x128, .i1⟩
  | 32 => ⟨S_, .f32⟩
  | 33 => ⟨S_, .f32⟩
  | 34 => ⟨S16x2x8x128x128, .i1⟩
  | 35 => ⟨S16x2x8x128x128, .f32⟩
  | 36 => ⟨S16x2x8x128x128, .f32⟩
  | 37 => ⟨S16x2x8x128x128, .f32⟩
  | 38 => ⟨S16x2x128x128, .f32⟩
  | 39 => ⟨S16x2x1x128x128, .f32⟩
  | 40 => ⟨S16x2x8x128x128, .f32⟩
  | 41 => ⟨S16x2x8x128x128, .f32⟩
  | 42 => ⟨S16x2x8x128x64, .f32⟩
  | 43 => ⟨S16x2x8x1, .f32⟩
  | 44 => ⟨S16x2x8x128, .f32⟩
  | 45 => ⟨S16x2x8x128, .f32⟩
  | 46 => ⟨S16x2x8x128, .f32⟩
  | 47 => ⟨S16x128x2x8, .f32⟩
  | 48 => ⟨S16x128x2x8x1, .f32⟩
  | 49 => ⟨S16x128x2x8x64, .f32⟩
  | 50 => ⟨S16x128x2x8x64, .f32⟩
  | 51 => ⟨S16x2x8x64x128, .f32⟩
  | 52 => ⟨S16x2x8x64x128, .f32⟩
  | 53 => ⟨S16x2x8x128x64, .f32⟩
  | 54 => ⟨S16x2x8x128, .f32⟩
  | 55 => ⟨S16x2x8x128x1, .f32⟩
  | 56 => ⟨S16x2x8x128x64, .f32⟩
  | 57 => ⟨S16x2x8x128x64, .f32⟩
  | 58 => ⟨S16x2x8x1, .f32⟩
  | 59 => ⟨S16x2x8, .f32⟩
  | 60 => ⟨S16x2x8, .f32⟩
  | 61 => ⟨S16x2x8x1x1, .f32⟩
  | 62 => ⟨S16x2x8x64x128, .f32⟩
  | 63 => ⟨S16x2x8x64x128, .f32⟩
  | 64 => ⟨S16x2x8x64x128, .f32⟩
  | 65 => ⟨S16x2x8x128x64, .f32⟩
  | 66 => ⟨S1x16x2x8x128x64, .f32⟩
  | 67 => ⟨S_, .i32⟩
  | 68 => ⟨S_, .i32⟩
  | 69 => ⟨S_, .i32⟩
  | 70 => ⟨S_, .i32⟩
  | 71 => ⟨S_, .i32⟩
  | 72 => ⟨S34x16x2x8x128x64, .f32⟩
  | 73 => ⟨S_, .i32⟩
  | 74 => ⟨S_, .i32⟩
  | 75 => ⟨S16x34x128x2x8x64, .f32⟩
  | 76 => ⟨S16x4352x2x8x64, .f32⟩
  | 77 => ⟨S8x4352x2x8x64, .f32⟩
  | 78 => ⟨S8x4352x2x8x64, .f32⟩
  | 79 => ⟨S8x4096x2x8x64, .f32⟩
  | 80 => ⟨S8x256x2x8x64, .f32⟩
  | 81 => ⟨S8x4352x2x8x64, .f32⟩
  | 82 => ⟨S2x8x1, .f32⟩
  | 83 => ⟨S8x4352x1024, .bf16⟩
  | 84 => ⟨S8x4352x1024, .f32⟩
  | 85 => ⟨S8x4352x2x8x64, .f32⟩
  | 86 => ⟨S1x1x2x8x1, .f32⟩
  | 87 => ⟨S8x4352x2x8x64, .f32⟩
  | 88 => ⟨S8x4352x2x8x64, .f32⟩
  | 89 => ⟨S8x4352x2x8x64, .f32⟩
  | 90 => ⟨S8x4096x2x8x64, .f32⟩
  | 91 => ⟨S8x4096x2x8x64, .f32⟩
  | 92 => ⟨S8x256x2x8x64, .f32⟩
  | 93 => ⟨S8x256x2x8x64, .f32⟩
  | 94 => ⟨S8x4352x2x8x64, .f32⟩
  | 95 => ⟨S8x4352x1024, .f32⟩
  | 96 => ⟨S8x4352x1024, .bf16⟩
  | 97 => ⟨S8x4352x1024, .f32⟩
  | 98 => ⟨S8x4352x1024, .bf16⟩
  | _ => ⟨S8x4352x1536, .bf16⟩

abbrev hbmTy (i : Nat) : BufTy := match i / 128 with
  | 0 => hbmTy0_0 i
  | 1 => hbmTy0_1 i
  | _ => ⟨S8x4352x1536, .bf16⟩

abbrev bufTy : (tb : Table) → Fin (tcTables nBuf tb) → BufTy
  | .hbm, ⟨i, _⟩ => hbmTy i
  | _, _ => ⟨S8x4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_0 : Ref sig .tc := ⟨.hbm, 104, rfl⟩
abbrev main_v85 : Ref sig .tc := ⟨.hbm, 105, rfl⟩
abbrev main_c : Ref sig .tc := ⟨.hbm, 106, rfl⟩
abbrev main_v86_0 : Ref sig .tc := ⟨.hbm, 107, rfl⟩
abbrev main_v86_1 : Ref sig .tc := ⟨.hbm, 108, rfl⟩
abbrev main_v86_2 : Ref sig .tc := ⟨.hbm, 109, rfl⟩
abbrev main_v86_3 : Ref sig .tc := ⟨.hbm, 110, rfl⟩
abbrev main_v86_4 : Ref sig .tc := ⟨.hbm, 111, rfl⟩
abbrev main_v86_5 : Ref sig .tc := ⟨.hbm, 112, rfl⟩
abbrev main_v86_6 : Ref sig .tc := ⟨.hbm, 113, rfl⟩
abbrev main_while0c_c_7 : Ref sig .tc := ⟨.hbm, 114, rfl⟩
abbrev main_while0c_v111 : Ref sig .tc := ⟨.hbm, 115, rfl⟩
abbrev main_while0b_call9_c : Ref sig .tc := ⟨.hbm, 116, rfl⟩
abbrev main_while0b_call9_c_0 : Ref sig .tc := ⟨.hbm, 117, rfl⟩
abbrev main_while0b_call9_c_1 : Ref sig .tc := ⟨.hbm, 118, rfl⟩
abbrev main_while0b_call9_c_2 : Ref sig .tc := ⟨.hbm, 119, rfl⟩
abbrev main_while0b_call9_c_3 : Ref sig .tc := ⟨.hbm, 120, rfl⟩
abbrev main_while0b_call9_v0 : Ref sig .tc := ⟨.hbm, 121, rfl⟩
abbrev main_while0b_v111 : Ref sig .tc := ⟨.hbm, 122, rfl⟩
abbrev main_while0b_call10_c : Ref sig .tc := ⟨.hbm, 123, rfl⟩
abbrev main_while0b_call10_c_0 : Ref sig .tc := ⟨.hbm, 124, rfl⟩
abbrev main_while0b_call10_c_1 : Ref sig .tc := ⟨.hbm, 125, rfl⟩
abbrev main_while0b_call10_c_2 : Ref sig .tc := ⟨.hbm, 126, rfl⟩
abbrev main_while0b_call10_v0 : Ref sig .tc := ⟨.hbm, 127, rfl⟩
abbrev main_while0b_v112 : Ref sig .tc := ⟨.hbm, 128, rfl⟩
abbrev main_while0b_call11_c : Ref sig .tc := ⟨.hbm, 129, rfl⟩
abbrev main_while0b_call11_c_0 : Ref sig .tc := ⟨.hbm, 130, rfl⟩
abbrev main_while0b_call11_c_1 : Ref sig .tc := ⟨.hbm, 131, rfl⟩
abbrev main_while0b_call11_c_2 : Ref sig .tc := ⟨.hbm, 132, rfl⟩
abbrev main_while0b_call11_v0 : Ref sig .tc := ⟨.hbm, 133, rfl⟩
abbrev main_while0b_v113 : Ref sig .tc := ⟨.hbm, 134, rfl⟩
abbrev main_while0b_call12_c : Ref sig .tc := ⟨.hbm, 135, rfl⟩
abbrev main_while0b_call12_c_0 : Ref sig .tc := ⟨.hbm, 136, rfl⟩
abbrev main_while0b_call12_c_1 : Ref sig .tc := ⟨.hbm, 137, rfl⟩
abbrev main_while0b_call12_c_2 : Ref sig .tc := ⟨.hbm, 138, rfl⟩
abbrev main_while0b_call12_v0 : Ref sig .tc := ⟨.hbm, 139, rfl⟩
abbrev main_while0b_v114 : Ref sig .tc := ⟨.hbm, 140, rfl⟩
abbrev main_while0b_call13_call0_cst : Ref sig .tc := ⟨.hbm, 141, rfl⟩
abbrev main_while0b_call13_call0_v0 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_c_7 : Ref sig .tc := ⟨.hbm, 149, rfl⟩
abbrev main_while0b_v121 : Ref sig .tc := ⟨.hbm, 150, rfl⟩
abbrev main_while0b_call14_v0 : Ref sig .tc := ⟨.hbm, 151, rfl⟩
abbrev main_while0b_call14_c : Ref sig .tc := ⟨.hbm, 152, rfl⟩
abbrev main_while0b_call14_v1 : Ref sig .tc := ⟨.hbm, 153, rfl⟩
abbrev main_while0b_call14_v2 : Ref sig .tc := ⟨.hbm, 154, rfl⟩
abbrev main_while0b_call14_v3 : Ref sig .tc := ⟨.hbm, 155, rfl⟩
abbrev main_while0b_call14_v4 : Ref sig .tc := ⟨.hbm, 156, rfl⟩
abbrev main_while0b_call14_c_0 : Ref sig .tc := ⟨.hbm, 157, rfl⟩
abbrev main_while0b_call14_v5 : Ref sig .tc := ⟨.hbm, 158, rfl⟩
abbrev main_while0b_v122 : Ref sig .tc := ⟨.hbm, 159, rfl⟩
abbrev main_while0b_cst_8 : Ref sig .tc := ⟨.hbm, 160, rfl⟩
abbrev main_while0b_call15_v0 : Ref sig .tc := ⟨.hbm, 161, rfl⟩
abbrev main_while0b_call15_v1 : Ref sig .tc := ⟨.hbm, 162, rfl⟩
abbrev main_while0b_call15_v2 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_v133 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_v144 : Ref sig .tc := ⟨.hbm, 185, rfl⟩
abbrev main_while0b_v145 : Ref sig .tc := ⟨.hbm, 186, rfl⟩
abbrev main_while0b_v146 : Ref sig .tc := ⟨.hbm, 187, rfl⟩
abbrev main_while0b_v147 : Ref sig .tc := ⟨.hbm, 188, rfl⟩
abbrev main_while0b_v148 : Ref sig .tc := ⟨.hbm, 189, rfl⟩
abbrev main_while0b_v149 : Ref sig .tc := ⟨.hbm, 190, rfl⟩
abbrev main_while0b_v150 : Ref sig .tc := ⟨.hbm, 191, rfl⟩
abbrev main_while0b_v151 : Ref sig .tc := ⟨.hbm, 192, rfl⟩
abbrev main_while0b_v152 : Ref sig .tc := ⟨.hbm, 193, rfl⟩
abbrev main_while0b_call16_v0 : Ref sig .tc := ⟨.hbm, 194, rfl⟩
abbrev main_while0b_call16_c : Ref sig .tc := ⟨.hbm, 195, rfl⟩
abbrev main_while0b_call16_c_0 : Ref sig .tc := ⟨.hbm, 196, rfl⟩
abbrev main_while0b_call16_c_1 : Ref sig .tc := ⟨.hbm, 197, rfl⟩
abbrev main_while0b_call16_c_2 : Ref sig .tc := ⟨.hbm, 198, rfl⟩
abbrev main_while0b_call16_c_3 : Ref sig .tc := ⟨.hbm, 199, rfl⟩
abbrev main_while0b_v153 : Ref sig .tc := ⟨.hbm, 200, rfl⟩
abbrev main_while0b_c_9 : Ref sig .tc := ⟨.hbm, 201, rfl⟩
abbrev main_while0b_v154 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_v95 : Ref sig .tc := ⟨.hbm, 211, rfl⟩
abbrev main_v96 : Ref sig .tc := ⟨.hbm, 212, rfl⟩
abbrev main_v97 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩

abbrev nD : Nat := 1
abbrev τ : Topo := Topo.v7x

variable {F : FTy → Type} [FloatOps F]

abbrev main_while0_count : Scf.Loop 32 := ⟨0#32, 34#32, 1#32⟩
-- ==== Kernel2.lean ====
abbrev S8x4096x1024 : Shape := ⟨3, ![8, 4096, 1024]⟩
abbrev S8x256x1024 : Shape := ⟨3, ![8, 256, 1024]⟩
abbrev S8x3072 : Shape := ⟨2, ![8, 3072]⟩
abbrev S3072 : Shape := ⟨1, ![3072]⟩
abbrev S1024 : Shape := ⟨1, ![1024]⟩
abbrev S1024x5184 : Shape := ⟨2, ![1024, 5184]⟩
abbrev S5x1536 : Shape := ⟨2, ![5, 1536]⟩
abbrev S1536 : Shape := ⟨1, ![1536]⟩
abbrev S1x3072 : Shape := ⟨2, ![1, 3072]⟩
abbrev S_ : Shape := ⟨0, ![]⟩
abbrev S7x3072 : Shape := ⟨2, ![7, 3072]⟩
abbrev S16x3072 : Shape := ⟨2, ![16, 3072]⟩
abbrev S1x1024 : Shape := ⟨2, ![1, 1024]⟩
abbrev S1024x1024 : Shape := ⟨2, ![1024, 1024]⟩
abbrev S1024x1536 : Shape := ⟨2, ![1024, 1536]⟩
abbrev S1024x32 : Shape := ⟨2, ![1024, 32]⟩
abbrev S1024x256 : Shape := ⟨2, ![1024, 256]⟩
abbrev S1024x512 : Shape := ⟨2, ![1024, 512]⟩
abbrev S1024x64 : Shape := ⟨2, ![1024, 64]⟩
abbrev S1024x128 : Shape := ⟨2, ![1024, 128]⟩
abbrev S1024x5248 : Shape := ⟨2, ![1024, 5248]⟩
abbrev S1x1536 : Shape := ⟨2, ![1, 1536]⟩
abbrev S8x4352x1024 : Shape := ⟨3, ![8, 4352, 1024]⟩
abbrev S8x4352x1536 : Shape := ⟨3, ![8, 4352, 1536]⟩
abbrev S8x4352x128 : Shape := ⟨3, ![8, 4352, 128]⟩
abbrev S8x4352x512 : Shape := ⟨3, ![8, 4352, 512]⟩
abbrev S8x4x4352x128 : Shape := ⟨4, ![8, 4, 4352, 128]⟩
abbrev S1x256x1024 : Shape := ⟨3, ![1, 256, 1024]⟩
abbrev S1x8x1024 : Shape := ⟨3, ![1, 8, 1024]⟩
abbrev S1x256x1536 : Shape := ⟨3, ![1, 256, 1536]⟩
abbrev S1x256x128 : Shape := ⟨3, ![1, 256, 128]⟩
abbrev S1x256x512 : Shape := ⟨3, ![1, 256, 512]⟩
abbrev S1x4x256x128 : Shape := ⟨4, ![1, 4, 256, 128]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S16x256 : Shape := ⟨2, ![16, 256]⟩
abbrev S8x256 : Shape := ⟨2, ![8, 256]⟩
abbrev S256x256 : Shape := ⟨2, ![256, 256]⟩
abbrev S272x256 : Shape := ⟨2, ![272, 256]⟩
abbrev S1x256 : Shape := ⟨2, ![1, 256]⟩
abbrev S1x256x256 : Shape := ⟨3, ![1, 256, 256]⟩
abbrev S256x128 : Shape := ⟨2, ![256, 128]⟩
abbrev S256x512 : Shape := ⟨2, ![256, 512]⟩
abbrev S1x1x256x128 : Shape := ⟨4, ![1, 1, 256, 128]⟩

abbrev nBuf : Space → Nat
  | .hbm => 37
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x3072, .f32⟩
  | .hbm, ⟨3, _⟩ => ⟨S3072, .f32⟩
  | .hbm, ⟨4, _⟩ => ⟨S1024, .f32⟩
  | .hbm, ⟨5, _⟩ => ⟨S1024x5184, .f32⟩
  | .hbm, ⟨6, _⟩ => ⟨S5x1536, .f32⟩
  | .hbm, ⟨7, _⟩ => ⟨S1536, .f32⟩
  | .hbm, ⟨8, _⟩ => ⟨S1x3072, .f32⟩
  | .hbm, ⟨9, _⟩ => ⟨S_, .f32⟩
  | .hbm, ⟨10, _⟩ => ⟨S7x3072, .f32⟩
  | .hbm, ⟨11, _⟩ => ⟨S16x3072, .f32⟩
  | .hbm, ⟨12, _⟩ => ⟨S1x1024, .f32⟩
  | .hbm, ⟨13, _⟩ => ⟨S1024x1024, .f32⟩
  | .hbm, ⟨14, _⟩ => ⟨S1024x1536, .f32⟩
  | .hbm, ⟨15, _⟩ => ⟨S1024x32, .f32⟩
  | .hbm, ⟨16, _⟩ => ⟨S1024x256, .f32⟩
  | .hbm, ⟨17, _⟩ => ⟨S1024x256, .f32⟩
  | .hbm, ⟨18, _⟩ => ⟨S1024x512, .f32⟩
  | .hbm, ⟨19, _⟩ => ⟨S1024x512, .f32⟩
  | .hbm, ⟨20, _⟩ => ⟨S1024x32, .f32⟩
  | .hbm, ⟨21, _⟩ => ⟨S1024x512, .f32⟩
  | .hbm, ⟨22, _⟩ => ⟨S1024x512, .f32⟩
  | .hbm, ⟨23, _⟩ => ⟨S1024x64, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x5248, .f32⟩
  | .hbm, ⟨28, _⟩ => ⟨S1024x5248, .bf16⟩
  | .hbm, ⟨29, _⟩ => ⟨S1x1536, .f32⟩
  | .hbm, ⟨30, _⟩ => ⟨S8x4352x1024, .bf16⟩
  | .hbm, ⟨31, _⟩ => ⟨S8x4352x1536, .bf16⟩
  | .hbm, ⟨32, _⟩ => ⟨S8x4352x128, .f32⟩
  | .hbm, ⟨33, _⟩ => ⟨S8x4352x1024, .bf16⟩
  | .hbm, ⟨34, _⟩ => ⟨S8x4352x512, .bf16⟩
  | .hbm, ⟨35, _⟩ => ⟨S8x4x4352x128, .f32⟩
  | .hbm, ⟨36, _⟩ => ⟨S8x4352x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S16x3072, .f32⟩
  | .local _ .vmem, ⟨9, _⟩ => ⟨S1x1024, .f32⟩
  | .local _ .vmem, ⟨10, _⟩ => ⟨S1024x5248, .bf16⟩
  | .local _ .vmem, ⟨11, _⟩ => ⟨S5x1536, .f32⟩
  | .local _ .vmem, ⟨12, _⟩ => ⟨S1x1536, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1536, .bf16⟩
  | .local _ .vmem, ⟨16, _⟩ => ⟨S1x256x1536, .bf16⟩
  | .local _ .vmem, ⟨17, _⟩ => ⟨S1x256x128, .f32⟩
  | .local _ .vmem, ⟨18, _⟩ => ⟨S1x256x128, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x512, .bf16⟩
  | .local _ .vmem, ⟨22, _⟩ => ⟨S1x256x512, .bf16⟩
  | .local _ .vmem, ⟨23, _⟩ => ⟨S1x4x256x128, .f32⟩
  | .local _ .vmem, ⟨24, _⟩ => ⟨S1x4x256x128, .f32⟩
  | .local _ .vmem, ⟨25, _⟩ => ⟨S1x256x512, .bf16⟩
  | .local _ .vmem, ⟨26, _⟩ => ⟨S1x256x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 17], ![false, false]⟩

def k0_off1 (i : grid0.Coords) : Fin 2 → Nat :=
  let arg1 : BitVec 32 := BitVec.ofNat 32 (i 1).val
  let c16_i32 : BitVec 32 := 16#32
  let v0 : BitVec 1 := Scalar.cmpi .eq arg1 c16_i32
  let c8_i32 : BitVec 32 := 8#32
  let arg0 : BitVec 32 := BitVec.ofNat 32 (i 0).val
  let v6 : BitVec 32 := Scalar.select v0 c8_i32 arg0
  let v7 : Index := Scalar.indexCast v6
  let c0_5 : Index := 0#32
  ![v7.toNat, 0]
def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c0_i32 : BitVec 32 := 0#32
  let c0_i32_0 : BitVec 32 := 0#32
  ![arg0.toNat, v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5248 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x4096x1024 : Shape := ⟨3, ![8, 4096, 1024]⟩
abbrev S8x256x1024 : Shape := ⟨3, ![8, 256, 1024]⟩
abbrev S8x3072 : Shape := ⟨2, ![8, 3072]⟩
abbrev S3072 : Shape := ⟨1, ![3072]⟩
abbrev S1024 : Shape := ⟨1, ![1024]⟩
abbrev S1024x5184 : Shape := ⟨2, ![1024, 5184]⟩
abbrev S5x1536 : Shape := ⟨2, ![5, 1536]⟩
abbrev S1536 : Shape := ⟨1, ![1536]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x4352x1024 : Shape := ⟨3, ![8, 4352, 1024]⟩
abbrev S8x4352x5184 : Shape := ⟨3, ![8, 4352, 5184]⟩
abbrev S8x4352x1536 : Shape := ⟨3, ![8, 4352, 1536]⟩
abbrev S8x4352x32 : Shape := ⟨3, ![8, 4352, 32]⟩
abbrev S8x4352x256 : Shape := ⟨3, ![8, 4352, 256]⟩
abbrev S8x4352x512 : Shape := ⟨3, ![8, 4352, 512]⟩
abbrev S8x4096x1536 : Shape := ⟨3, ![8, 4096, 1536]⟩
abbrev S8x4100x1536 : Shape := ⟨3, ![8, 4100, 1536]⟩
abbrev S1x1536 : Shape := ⟨2, ![1, 1536]⟩
abbrev S1x1x1536 : Shape := ⟨3, ![1, 1, 1536]⟩
abbrev S8x256x1536 : Shape := ⟨3, ![8, 256, 1536]⟩
abbrev S8x260x1536 : Shape := ⟨3, ![8, 260, 1536]⟩
abbrev S8x4352x64 : Shape := ⟨3, ![8, 4352, 64]⟩
abbrev S8x4352x128 : Shape := ⟨3, ![8, 4352, 128]⟩
abbrev S8x4352x4x128 : Shape := ⟨4, ![8, 4352, 4, 128]⟩
abbrev S8x4x4352x128 : Shape := ⟨4, ![8, 4, 4352, 128]⟩

abbrev nBuf : Space → Nat
  | .hbm => 183
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x3072, .f32⟩
  | 3 => ⟨S3072, .f32⟩
  | 4 => ⟨S1024, .f32⟩
  | 5 => ⟨S1024x5184, .f32⟩
  | 6 => ⟨S5x1536, .f32⟩
  | 7 => ⟨S1536, .f32⟩
  | 8 => ⟨S8x1024, .f32⟩
  | 9 => ⟨S8x1024, .f32⟩
  | 10 => ⟨S1024, .f32⟩
  | 11 => ⟨S1024, .f32⟩
  | 12 => ⟨S8x4096x1024, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x1024, .f32⟩
  | 24 => ⟨S8x4096x1024, .f32⟩
  | 25 => ⟨S1x1x1024, .f32⟩
  | 26 => ⟨S8x4096x1024, .f32⟩
  | 27 => ⟨S8x4096x1024, .f32⟩
  | 28 => ⟨S8x1x1024, .f32⟩
  | 29 => ⟨S_, .f32⟩
  | 30 => ⟨S8x1x1024, .f32⟩
  | 31 => ⟨S8x1x1024, .f32⟩
  | 32 => ⟨S8x4096x1024, .f32⟩
  | 33 => ⟨S8x4096x1024, .f32⟩
  | 34 => ⟨S8x1x1024, .f32⟩
  | 35 => ⟨S8x4096x1024, .f32⟩
  | 36 => ⟨S8x4096x1024, .f32⟩
  | 37 => ⟨S8x256x1024, .f32⟩
  | 38 => ⟨S_, .f32⟩
  | 39 => ⟨S8x256, .f32⟩
  | 40 => ⟨S8x256x1, .f32⟩
  | 41 => ⟨S_, .f32⟩
  | 42 => ⟨S8x256x1, .f32⟩
  | 43 => ⟨S8x256x1, .f32⟩
  | 44 => ⟨S_, .f32⟩
  | 45 => ⟨S8x256x1, .f32⟩
  | 46 => ⟨S8x256x1, .f32⟩
  | 47 => ⟨S8x256x1, .f32⟩
  | 48 => ⟨S8x256x1024, .f32⟩
  | 49 => ⟨S8x256x1024, .f32⟩
  | 50 => ⟨S1x1x1024, .f32⟩
  | 51 => ⟨S8x256x1024, .f32⟩
  | 52 => ⟨S8x256x1024, .f32⟩
  | 53 => ⟨S_, .f32⟩
  | 54 => ⟨S1024, .f32⟩
  | 55 => ⟨S1024, .f32⟩
  | 56 => ⟨S1x1x1024, .f32⟩
  | 57 => ⟨S8x256x1024, .f32⟩
  | 58 => ⟨S8x256x1024, .f32⟩
  | 59 => ⟨S1x1x1024, .f32⟩
  | 60 => ⟨S8x256x1024, .f32⟩
  | 61 => ⟨S8x256x1024, .f32⟩
  | 62 => ⟨S8x4352x1024, .f32⟩
  | 63 => ⟨S8x4352x5184, .f32⟩
  | 64 => ⟨S8x4352x1024, .f32⟩
  | 65 => ⟨S8x4352x1536, .f32⟩
  | 66 => ⟨S8x4352x32, .f32⟩
  | 67 => ⟨S8x4352x256, .f32⟩
  | 68 => ⟨S8x4352x256, .f32⟩
  | 69 => ⟨S8x4352x512, .f32⟩
  | 70 => ⟨S8x4352x512, .f32⟩
  | 71 => ⟨S8x4352x32, .f32⟩
  | 72 => ⟨S8x4352x512, .f32⟩
  | 73 => ⟨S8x4352x512, .f32⟩
  | 74 => ⟨S8x4096x1536, .f32⟩
  | 75 => ⟨S_, .i32⟩
  | 76 => ⟨S_, .f32⟩
  | 77 => ⟨S8x4100x1536, .f32⟩
  | 78 => ⟨S8x4096x1536, .f32⟩
  | 79 => ⟨S1x1536, .f32⟩
  | 80 => ⟨S1536, .f32⟩
  | 81 => ⟨S1x1x1536, .f32⟩
  | 82 => ⟨S8x4096x1536, .f32⟩
  | 83 => ⟨S8x4096x1536, .f32⟩
  | 84 => ⟨S_, .f32⟩
  | 85 => ⟨S8x4096x1536, .f32⟩
  | 86 => ⟨S8x4096x1536, .f32⟩
  | 87 => ⟨S8x4096x1536, .f32⟩
  | 88 => ⟨S1x1536, .f32⟩
  | 89 => ⟨S1536, .f32⟩
  | 90 => ⟨S1x1x1536, .f32⟩
  | 91 => ⟨S8x4096x1536, .f32⟩
  | 92 => ⟨S8x4096x1536, .f32⟩
  | 93 => ⟨S8x4096x1536, .f32⟩
  | 94 => ⟨S8x4096x1536, .f32⟩
  | 95 => ⟨S1x1536, .f32⟩
  | 96 => ⟨S1536, .f32⟩
  | 97 => ⟨S1x1x1536, .f32⟩
  | 98 => ⟨S8x4096x1536, .f32⟩
  | 99 => ⟨S8x4096x1536, .f32⟩
  | 100 => ⟨S8x4096x1536, .f32⟩
  | 101 => ⟨S8x4096x1536, .f32⟩
  | 102 => ⟨S1x1536, .f32⟩
  | 103 => ⟨S1536, .f32⟩
  | 104 => ⟨S1x1x1536, .f32⟩
  | 105 => ⟨S8x4096x1536, .f32⟩
  | 106 => ⟨S8x4096x1536, .f32⟩
  | 107 => ⟨S8x4096x1536, .f32⟩
  | 108 => ⟨S8x4096x1536, .f32⟩
  | 109 => ⟨S1x1536, .f32⟩
  | 110 => ⟨S1536, .f32⟩
  | 111 => ⟨S1x1x1536, .f32⟩
  | 112 => ⟨S8x4096x1536, .f32⟩
  | 113 => ⟨S8x4096x1536, .f32⟩
  | 114 => ⟨S8x4096x1536, .f32⟩
  | 115 => ⟨S1x1x1536, .f32⟩
  | 116 => ⟨S8x4096x1536, .f32⟩
  | 117 => ⟨S8x4096x1536, .f32⟩
  | 118 => ⟨S8x256x1536, .f32⟩
  | 119 => ⟨S_, .i32⟩
  | 120 => ⟨S_, .f32⟩
  | 121 => ⟨S8x260x1536, .f32⟩
  | 122 => ⟨S8x256x1536, .f32⟩
  | 123 => ⟨S1x1536, .f32⟩
  | 124 => ⟨S1536, .f32⟩
  | 125 => ⟨S1x1x1536, .f32⟩
  | 126 => ⟨S8x256x1536, .f32⟩
  | 127 => ⟨S8x256x1536, .f32⟩
  | _ => ⟨S8x4096x1024, .f32⟩

abbrev hbmTy0_1 (i : Nat) : BufTy := match i % 128 with
  | 0 => ⟨S_, .f32⟩
  | 1 => ⟨S8x256x1536, .f32⟩
  | 2 => ⟨S8x256x1536, .f32⟩
  | 3 => ⟨S8x256x1536, .f32⟩
  | 4 => ⟨S1x1536, .f32⟩
  | 5 => ⟨S1536, .f32⟩
  | 6 => ⟨S1x1x1536, .f32⟩
  | 7 => ⟨S8x256x1536, .f32⟩
  | 8 => ⟨S8x256x1536, .f32⟩
  | 9 => ⟨S8x256x1536, .f32⟩
  | 10 => ⟨S8x256x1536, .f32⟩
  | 11 => ⟨S1x1536, .f32⟩
  | 12 => ⟨S1536, .f32⟩
  | 13 => ⟨S1x1x1536, .f32⟩
  | 14 => ⟨S8x256x1536, .f32⟩
  | 15 => ⟨S8x256x1536, .f32⟩
  | 16 => ⟨S8x256x1536, .f32⟩
  | 17 => ⟨S8x256x1536, .f32⟩
  | 18 => ⟨S1x1536, .f32⟩
  | 19 => ⟨S1536, .f32⟩
  | 20 => ⟨S1x1x1536, .f32⟩
  | 21 => ⟨S8x256x1536, .f32⟩
  | 22 => ⟨S8x256x1536, .f32⟩
  | 23 => ⟨S8x256x1536, .f32⟩
  | 24 => ⟨S8x256x1536, .f32⟩
  | 25 => ⟨S1x1536, .f32⟩
  | 26 => ⟨S1536, .f32⟩
  | 27 => ⟨S1x1x1536, .f32⟩
  | 28 => ⟨S8x256x1536, .f32⟩
  | 29 => ⟨S8x256x1536, .f32⟩
  | 30 => ⟨S8x256x1536, .f32⟩
  | 31 => ⟨S1x1x1536, .f32⟩
  | 32 => ⟨S8x256x1536, .f32⟩
  | 33 => ⟨S8x256x1536, .f32⟩
  | 34 => ⟨S8x4352x1536, .f32⟩
  | 35 => ⟨S8x4352x1536, .f32⟩
  | 36 => ⟨S8x4352x1536, .f32⟩
  | 37 => ⟨S_, .f32⟩
  | 38 => ⟨S8x4352x1536, .f32⟩
  | 39 => ⟨S8x4352x1536, .f32⟩
  | 40 => ⟨S_, .f32⟩
  | 41 => ⟨S8x4352x1536, .f32⟩
  | 42 => ⟨S8x4352x1536, .f32⟩
  | 43 => ⟨S8x4352x1536, .f32⟩
  | 44 => ⟨S_, .f32⟩
  | 45 => ⟨S8x4352x64, .f32⟩
  | 46 => ⟨S8x4352x128, .f32⟩
  | 47 => ⟨S8x4352x1024, .f32⟩
  | 48 => ⟨S8x4352x4x128, .f32⟩
  | 49 => ⟨S8x4x4352x128, .f32⟩
  | 50 => ⟨S8x4352x1024, .bf16⟩
  | 51 => ⟨S8x4352x1536, .bf16⟩
  | 52 => ⟨S8x4352x1024, .bf16⟩
  | 53 => ⟨S8x4352x512, .bf16⟩
  | 54 => ⟨S8x4352x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c : Ref sig .tc := ⟨.hbm, 75, rfl⟩
abbrev main_call0_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_c_8 : Ref sig .tc := ⟨.hbm, 119, rfl⟩
abbrev main_call1_v0 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_9 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_call2_v0 : Ref sig .tc := ⟨.hbm, 163, rfl⟩
abbrev main_call2_v1 : Ref sig .tc := ⟨.hbm, 164, rfl⟩
abbrev main_call2_cst : Ref sig .tc := ⟨.hbm, 165, rfl⟩
abbrev main_call2_v2 : Ref sig .tc := ⟨.hbm, 166, rfl⟩
abbrev main_call2_v3 : Ref sig .tc := ⟨.hbm, 167, rfl⟩
abbrev main_call2_cst_0 : Ref sig .tc := ⟨.hbm, 168, rfl⟩
abbrev main_call2_v4 : Ref sig .tc := ⟨.hbm, 169, rfl⟩
abbrev main_call2_v5 : Ref sig .tc := ⟨.hbm, 170, rfl⟩
abbrev main_v141 : Ref sig .tc := ⟨.hbm, 171, rfl⟩
abbrev main_cst_10 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x1024 : Shape := ⟨3, ![8, 256, 1024]⟩
abbrev S8x3072 : Shape := ⟨2, ![8, 3072]⟩
abbrev S3072 : Shape := ⟨1, ![3072]⟩
abbrev S1024 : Shape := ⟨1, ![1024]⟩
abbrev S1024x5184 : Shape := ⟨2, ![1024, 5184]⟩
abbrev S5x1536 : Shape := ⟨2, ![5, 1536]⟩
abbrev S1536 : Shape := ⟨1, ![1536]⟩
abbrev S1x3072 : Shape := ⟨2, ![1, 3072]⟩
abbrev S_ : Shape := ⟨0, ![]⟩
abbrev S7x3072 : Shape := ⟨2, ![7, 3072]⟩
abbrev S16x3072 : Shape := ⟨2, ![16, 3072]⟩
abbrev S8x64x64x1024 : Shape := ⟨4, ![8, 64, 64, 1024]⟩
abbrev S1x1024 : Shape := ⟨2, ![1, 1024]⟩
abbrev S1024x1024 : Shape := ⟨2, ![1024, 1024]⟩
abbrev S1024x1536 : Shape := ⟨2, ![1024, 1536]⟩
abbrev S1024x32 : Shape := ⟨2, ![1024, 32]⟩
abbrev S1024x256 : Shape := ⟨2, ![1024, 256]⟩
abbrev S1024x512 : Shape := ⟨2, ![1024, 512]⟩
abbrev S1024x64 : Shape := ⟨2, ![1024, 64]⟩
abbrev S1024x128 : Shape := ⟨2, ![1024, 128]⟩
abbrev S1024x5248 : Shape := ⟨2, ![1024, 5248]⟩
abbrev S1x1536 : Shape := ⟨2, ![1, 1536]⟩
abbrev S8x4352x1024 : Shape := ⟨3, ![8, 4352, 1024]⟩
abbrev S8x4352x1536 : Shape := ⟨3, ![8, 4352, 1536]⟩
abbrev S8x4352x128 : Shape := ⟨3, ![8, 4352, 128]⟩
abbrev S8x4352x512 : Shape := ⟨3, ![8, 4352, 512]⟩
abbrev S8x4x4352x128 : Shape := ⟨4, ![8, 4, 4352, 128]⟩
abbrev S1x64x8x1024 : Shape := ⟨4, ![1, 64, 8, 1024]⟩
abbrev S1x256x1024 : Shape := ⟨3, ![1, 256, 1024]⟩
abbrev S1x8x8x1024 : Shape := ⟨4, ![1, 8, 8, 1024]⟩
abbrev S1x256x1536 : Shape := ⟨3, ![1, 256, 1536]⟩
abbrev S1x256x128 : Shape := ⟨3, ![1, 256, 128]⟩
abbrev S1x256x512 : Shape := ⟨3, ![1, 256, 512]⟩
abbrev S1x4x256x128 : Shape := ⟨4, ![1, 4, 256, 128]⟩
abbrev S1x64x1x1024 : Shape := ⟨4, ![1, 64, 1, 1024]⟩
abbrev S64x1024 : Shape := ⟨2, ![64, 1024]⟩
abbrev S256x1024 : Shape := ⟨2, ![256, 1024]⟩
abbrev S256 : Shape := ⟨1, ![256]⟩
abbrev S256x1 : Shape := ⟨2, ![256, 1]⟩
abbrev S1x8x1x1024 : Shape := ⟨4, ![1, 8, 1, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S16x256 : Shape := ⟨2, ![16, 256]⟩
abbrev S8x256 : Shape := ⟨2, ![8, 256]⟩
abbrev S256x256 : Shape := ⟨2, ![256, 256]⟩
abbrev S272x256 : Shape := ⟨2, ![272, 256]⟩
abbrev S1x256 : Shape := ⟨2, ![1, 256]⟩
abbrev S1x256x256 : Shape := ⟨3, ![1, 256, 256]⟩
abbrev S256x128 : Shape := ⟨2, ![256, 128]⟩
abbrev S256x512 : Shape := ⟨2, ![256, 512]⟩
abbrev S1x1x256x128 : Shape := ⟨4, ![1, 1, 256, 128]⟩

abbrev nBuf : Space → Nat
  | .hbm => 38
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x3072, .f32⟩
  | .hbm, ⟨3, _⟩ => ⟨S3072, .f32⟩
  | .hbm, ⟨4, _⟩ => ⟨S1024, .f32⟩
  | .hbm, ⟨5, _⟩ => ⟨S1024x5184, .f32⟩
  | .hbm, ⟨6, _⟩ => ⟨S5x1536, .f32⟩
  | .hbm, ⟨7, _⟩ => ⟨S1536, .f32⟩
  | .hbm, ⟨8, _⟩ => ⟨S1x3072, .f32⟩
  | .hbm, ⟨9, _⟩ => ⟨S_, .f32⟩
  | .hbm, ⟨10, _⟩ => ⟨S7x3072, .f32⟩
  | .hbm, ⟨11, _⟩ => ⟨S16x3072, .f32⟩
  | .hbm, ⟨12, _⟩ => ⟨S8x64x64x1024, .f32⟩
  | .hbm, ⟨13, _⟩ => ⟨S1x1024, .f32⟩
  | .hbm, ⟨14, _⟩ => ⟨S1024x1024, .f32⟩
  | .hbm, ⟨15, _⟩ => ⟨S1024x1536, .f32⟩
  | .hbm, ⟨16, _⟩ => ⟨S1024x32, .f32⟩
  | .hbm, ⟨17, _⟩ => ⟨S1024x256, .f32⟩
  | .hbm, ⟨18, _⟩ => ⟨S1024x256, .f32⟩
  | .hbm, ⟨19, _⟩ => ⟨S1024x512, .f32⟩
  | .hbm, ⟨20, _⟩ => ⟨S1024x512, .f32⟩
  | .hbm, ⟨21, _⟩ => ⟨S1024x32, .f32⟩
  | .hbm, ⟨22, _⟩ => ⟨S1024x512, .f32⟩
  | .hbm, ⟨23, _⟩ => ⟨S1024x512, .f32⟩
  | .hbm, ⟨24, _⟩ => ⟨S1024x64, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x5248, .f32⟩
  | .hbm, ⟨29, _⟩ => ⟨S1024x5248, .bf16⟩
  | .hbm, ⟨30, _⟩ => ⟨S1x1536, .f32⟩
  | .hbm, ⟨31, _⟩ => ⟨S8x4352x1024, .bf16⟩
  | .hbm, ⟨32, _⟩ => ⟨S8x4352x1536, .bf16⟩
  | .hbm, ⟨33, _⟩ => ⟨S8x4352x128, .f32⟩
  | .hbm, ⟨34, _⟩ => ⟨S8x4352x1024, .bf16⟩
  | .hbm, ⟨35, _⟩ => ⟨S8x4352x512, .bf16⟩
  | .hbm, ⟨36, _⟩ => ⟨S8x4x4352x128, .f32⟩
  | .hbm, ⟨37, _⟩ => ⟨S8x4352x512, .bf16⟩
  | .local _ .vmem, ⟨0, _⟩ => ⟨S1x64x8x1024, .f32⟩
  | .local _ .vmem, ⟨1, _⟩ => ⟨S1x64x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x8x1024, .f32⟩
  | .local _ .vmem, ⟨5, _⟩ => ⟨S1x8x8x1024, .f32⟩
  | .local _ .vmem, ⟨6, _⟩ => ⟨S1x8x8x1024, .f32⟩
  | .local _ .vmem, ⟨7, _⟩ => ⟨S1x8x8x1024, .f32⟩
  | .local _ .vmem, ⟨8, _⟩ => ⟨S16x3072, .f32⟩
  | .local _ .vmem, ⟨9, _⟩ => ⟨S1x1024, .f32⟩
  | .local _ .vmem, ⟨10, _⟩ => ⟨S1024x5248, .bf16⟩
  | .local _ .vmem, ⟨11, _⟩ => ⟨S5x1536, .f32⟩
  | .local _ .vmem, ⟨12, _⟩ => ⟨S1x1536, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1536, .bf16⟩
  | .local _ .vmem, ⟨16, _⟩ => ⟨S1x256x1536, .bf16⟩
  | .local _ .vmem, ⟨17, _⟩ => ⟨S1x256x128, .f32⟩
  | .local _ .vmem, ⟨18, _⟩ => ⟨S1x256x128, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x512, .bf16⟩
  | .local _ .vmem, ⟨22, _⟩ => ⟨S1x256x512, .bf16⟩
  | .local _ .vmem, ⟨23, _⟩ => ⟨S1x4x256x128, .f32⟩
  | .local _ .vmem, ⟨24, _⟩ => ⟨S1x4x256x128, .f32⟩
  | .local _ .vmem, ⟨25, _⟩ => ⟨S1x256x512, .bf16⟩
  | .local _ .vmem, ⟨26, _⟩ => ⟨S1x256x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 17], ![false, false]⟩

def k0_off1 (i : grid0.Coords) (c0_i32_3 : BitVec 32) : Fin 4 → Nat :=
  let c0 : Index := 0#32
  let c0_4 : Index := 0#32
  let arg1 : BitVec 32 := BitVec.ofNat 32 (i 1).val
  let c15_i32 : BitVec 32 := 15#32
  let v1 : BitVec 32 := Scalar.minsi arg1 c15_i32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c4_i32 : BitVec 32 := 4#32
  let v12 : BitVec 32 := Scalar.muli v11 c4_i32
  let v13 : BitVec 32 := Scalar.addi v12 c0_i32_3
  let v14 : Index := Scalar.indexCast v13
  let c0_5 : Index := 0#32
  ![0, 0, v14.toNat, 0]
def k0_off2 (i : grid0.Coords) : Fin 2 → Nat :=
  let arg1 : BitVec 32 := BitVec.ofNat 32 (i 1).val
  let c16_i32 : BitVec 32 := 16#32
  let v0 : BitVec 1 := Scalar.cmpi .eq arg1 c16_i32
  let c8_i32 : BitVec 32 := 8#32
  let arg0 : BitVec 32 := BitVec.ofNat 32 (i 0).val
  let v33 : BitVec 32 := Scalar.select v0 c8_i32 arg0
  let v34 : Index := Scalar.indexCast v33
  let c0_20 : Index := 0#32
  ![v34.toNat, 0]
def k0_off3 (i : grid0.Coords) : Fin 4 → Nat :=
  let c0_35 : Index := 0#32
  let c0_36 : Index := 0#32
  let arg1 : BitVec 32 := BitVec.ofNat 32 (i 1).val
  let c15_i32 : BitVec 32 := 15#32
  let v1 : BitVec 32 := Scalar.minsi arg1 c15_i32
  let c4_i32_26 : BitVec 32 := 4#32
  let v60 : BitVec 32 := Scalar.muli v1 c4_i32_26
  let c1_i32_27 : BitVec 32 := 1#32
  let v61 : BitVec 32 := Scalar.subi v60 c1_i32_27
  let c0_i32_28 : BitVec 32 := 0#32
  let v62 : BitVec 32 := Scalar.maxsi v61 c0_i32_28
  let c8_i32_29 : BitVec 32 := 8#32
  let c0_i32_30 : BitVec 32 := 0#32
  let v63 : BitVec 1 := Scalar.cmpi .eq c8_i32_29 c0_i32_30
  let c1_i32_31 : BitVec 32 := 1#32
  let v64 : BitVec 32 := Scalar.select v63 c1_i32_31 c8_i32_29
  let v65 : BitVec 32 := Scalar.remsi v62 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let v73 : Index := Scalar.indexCast v72
  let c0_37 : Index := 0#32
  ![0, 0, v73.toNat, 0]
def k0_off4 (i : grid0.Coords) : Fin 4 → Nat :=
  let c0_46 : Index := 0#32
  let c0_47 : Index := 0#32
  let arg1 : BitVec 32 := BitVec.ofNat 32 (i 1).val
  let c15_i32 : BitVec 32 := 15#32
  let v1 : BitVec 32 := Scalar.minsi arg1 c15_i32
  let c1_i32_38 : BitVec 32 := 1#32
  let v76 : BitVec 32 := Scalar.addi v1 c1_i32_38
  let c4_i32_39 : BitVec 32 := 4#32
  let v77 : BitVec 32 := Scalar.muli v76 c4_i32_39
  let c63_i32 : BitVec 32 := 63#32
  let v78 : BitVec 32 := Scalar.minsi v77 c63_i32
  let c8_i32_40 : BitVec 32 := 8#32
  let c0_i32_41 : BitVec 32 := 0#32
  let v79 : BitVec 1 := Scalar.cmpi .eq c8_i32_40 c0_i32_41
  let c1_i32_42 : BitVec 32 := 1#32
  let v80 : BitVec 32 := Scalar.select v79 c1_i32_42 c8_i32_40
  let v81 : BitVec 32 := Scalar.remsi v78 v80
  let c0_i32_44 : BitVec 32 := 0#32
  let v83 : BitVec 1 := Scalar.cmpi .slt v81 c0_i32_44
  let c0_i32_45 : BitVec 32 := 0#32
  let v84 : BitVec 1 := Scalar.cmpi .slt v80 c0_i32_45
  let v85 : BitVec 1 := Scalar.xori v83 v84
  let c0_i32_43 : BitVec 32 := 0#32
  let v82 : BitVec 1 := Scalar.cmpi .ne v81 c0_i32_43
  let v86 : BitVec 1 := Scalar.andi v85 v82
  let v87 : BitVec 32 := Scalar.addi v81 v80
  let v88 : BitVec 32 := Scalar.select v86 v87 v81
  let v89 : Index := Scalar.indexCast v88
  let c0_48 : Index := 0#32
  ![0, 0, v89.toNat, 0]
def cc0_transform_0 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![arg0.toNat, c0_i32_4.toNat, v17.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let v4 : BitVec 32 := Scalar.divsi v3 c8_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c7_i32 : BitVec 32 := 7#32
  let c0_i32_6 : BitVec 32 := 0#32
  let c0_i32_7 : BitVec 32 := 0#32
  ![arg0.toNat, c7_i32.toNat, v20.toNat, c0_i32_6.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let v1 : BitVec 32 := Scalar.addi v0 c1_i32
  let c4_i32 : BitVec 32 := 4#32
  let v2 : BitVec 32 := Scalar.muli v1 c4_i32
  let c63_i32 : BitVec 32 := 63#32
  let v3 : BitVec 32 := Scalar.minsi v2 c63_i32
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![arg0.toNat, c0_i32_5.toNat, v20.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5248 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x4096x1024 : Shape := ⟨3, ![8, 4096, 1024]⟩
abbrev S8x256x1024 : Shape := ⟨3, ![8, 256, 1024]⟩
abbrev S8x3072 : Shape := ⟨2, ![8, 3072]⟩
abbrev S3072 : Shape := ⟨1, ![3072]⟩
abbrev S1024 : Shape := ⟨1, ![1024]⟩
abbrev S1024x5184 : Shape := ⟨2, ![1024, 5184]⟩
abbrev S5x1536 : Shape := ⟨2, ![5, 1536]⟩
abbrev S1536 : Shape := ⟨1, ![1536]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x64x64x1024 : Shape := ⟨4, ![8, 64, 64, 1024]⟩
abbrev S8x4352x1024 : Shape := ⟨3, ![8, 4352, 1024]⟩
abbrev S8x4352x5184 : Shape := ⟨3, ![8, 4352, 5184]⟩
abbrev S8x4352x1536 : Shape := ⟨3, ![8, 4352, 1536]⟩
abbrev S8x4352x32 : Shape := ⟨3, ![8, 4352, 32]⟩
abbrev S8x4352x256 : Shape := ⟨3, ![8, 4352, 256]⟩
abbrev S8x4352x512 : Shape := ⟨3, ![8, 4352, 512]⟩
abbrev S8x4096x1536 : Shape := ⟨3, ![8, 4096, 1536]⟩
abbrev S8x4100x1536 : Shape := ⟨3, ![8, 4100, 1536]⟩
abbrev S1x1536 : Shape := ⟨2, ![1, 1536]⟩
abbrev S1x1x1536 : Shape := ⟨3, ![1, 1, 1536]⟩
abbrev S8x256x1536 : Shape := ⟨3, ![8, 256, 1536]⟩
abbrev S8x260x1536 : Shape := ⟨3, ![8, 260, 1536]⟩
abbrev S8x4352x64 : Shape := ⟨3, ![8, 4352, 64]⟩
abbrev S8x4352x128 : Shape := ⟨3, ![8, 4352, 128]⟩
abbrev S8x4352x4x128 : Shape := ⟨4, ![8, 4352, 4, 128]⟩
abbrev S8x4x4352x128 : Shape := ⟨4, ![8, 4, 4352, 128]⟩

abbrev nBuf : Space → Nat
  | .hbm => 186
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x3072, .f32⟩
  | 3 => ⟨S3072, .f32⟩
  | 4 => ⟨S1024, .f32⟩
  | 5 => ⟨S1024x5184, .f32⟩
  | 6 => ⟨S5x1536, .f32⟩
  | 7 => ⟨S1536, .f32⟩
  | 8 => ⟨S8x1024, .f32⟩
  | 9 => ⟨S8x1024, .f32⟩
  | 10 => ⟨S1024, .f32⟩
  | 11 => ⟨S1024, .f32⟩
  | 12 => ⟨S8x4096x1024, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x1024, .f32⟩
  | 24 => ⟨S8x4096x1024, .f32⟩
  | 25 => ⟨S1x1x1024, .f32⟩
  | 26 => ⟨S8x4096x1024, .f32⟩
  | 27 => ⟨S8x4096x1024, .f32⟩
  | 28 => ⟨S8x1x1024, .f32⟩
  | 29 => ⟨S_, .f32⟩
  | 30 => ⟨S8x1x1024, .f32⟩
  | 31 => ⟨S8x1x1024, .f32⟩
  | 32 => ⟨S8x4096x1024, .f32⟩
  | 33 => ⟨S8x4096x1024, .f32⟩
  | 34 => ⟨S8x1x1024, .f32⟩
  | 35 => ⟨S8x4096x1024, .f32⟩
  | 36 => ⟨S8x4096x1024, .f32⟩
  | 37 => ⟨S8x256x1024, .f32⟩
  | 38 => ⟨S_, .f32⟩
  | 39 => ⟨S8x256, .f32⟩
  | 40 => ⟨S8x256x1, .f32⟩
  | 41 => ⟨S_, .f32⟩
  | 42 => ⟨S8x256x1, .f32⟩
  | 43 => ⟨S8x256x1, .f32⟩
  | 44 => ⟨S_, .f32⟩
  | 45 => ⟨S8x256x1, .f32⟩
  | 46 => ⟨S8x256x1, .f32⟩
  | 47 => ⟨S8x256x1, .f32⟩
  | 48 => ⟨S8x256x1024, .f32⟩
  | 49 => ⟨S8x256x1024, .f32⟩
  | 50 => ⟨S1x1x1024, .f32⟩
  | 51 => ⟨S8x256x1024, .f32⟩
  | 52 => ⟨S8x256x1024, .f32⟩
  | 53 => ⟨S_, .f32⟩
  | 54 => ⟨S1024, .f32⟩
  | 55 => ⟨S1024, .f32⟩
  | 56 => ⟨S1x1x1024, .f32⟩
  | 57 => ⟨S8x256x1024, .f32⟩
  | 58 => ⟨S8x256x1024, .f32⟩
  | 59 => ⟨S1x1x1024, .f32⟩
  | 60 => ⟨S8x256x1024, .f32⟩
  | 61 => ⟨S8x256x1024, .f32⟩
  | 62 => ⟨S8x64x64x1024, .f32⟩
  | 63 => ⟨S8x64x64x1024, .f32⟩
  | 64 => ⟨S8x4096x1024, .f32⟩
  | 65 => ⟨S8x4352x1024, .f32⟩
  | 66 => ⟨S8x4352x5184, .f32⟩
  | 67 => ⟨S8x4352x1024, .f32⟩
  | 68 => ⟨S8x4352x1536, .f32⟩
  | 69 => ⟨S8x4352x32, .f32⟩
  | 70 => ⟨S8x4352x256, .f32⟩
  | 71 => ⟨S8x4352x256, .f32⟩
  | 72 => ⟨S8x4352x512, .f32⟩
  | 73 => ⟨S8x4352x512, .f32⟩
  | 74 => ⟨S8x4352x32, .f32⟩
  | 75 => ⟨S8x4352x512, .f32⟩
  | 76 => ⟨S8x4352x512, .f32⟩
  | 77 => ⟨S8x4096x1536, .f32⟩
  | 78 => ⟨S_, .i32⟩
  | 79 => ⟨S_, .f32⟩
  | 80 => ⟨S8x4100x1536, .f32⟩
  | 81 => ⟨S8x4096x1536, .f32⟩
  | 82 => ⟨S1x1536, .f32⟩
  | 83 => ⟨S1536, .f32⟩
  | 84 => ⟨S1x1x1536, .f32⟩
  | 85 => ⟨S8x4096x1536, .f32⟩
  | 86 => ⟨S8x4096x1536, .f32⟩
  | 87 => ⟨S_, .f32⟩
  | 88 => ⟨S8x4096x1536, .f32⟩
  | 89 => ⟨S8x4096x1536, .f32⟩
  | 90 => ⟨S8x4096x1536, .f32⟩
  | 91 => ⟨S1x1536, .f32⟩
  | 92 => ⟨S1536, .f32⟩
  | 93 => ⟨S1x1x1536, .f32⟩
  | 94 => ⟨S8x4096x1536, .f32⟩
  | 95 => ⟨S8x4096x1536, .f32⟩
  | 96 => ⟨S8x4096x1536, .f32⟩
  | 97 => ⟨S8x4096x1536, .f32⟩
  | 98 => ⟨S1x1536, .f32⟩
  | 99 => ⟨S1536, .f32⟩
  | 100 => ⟨S1x1x1536, .f32⟩
  | 101 => ⟨S8x4096x1536, .f32⟩
  | 102 => ⟨S8x4096x1536, .f32⟩
  | 103 => ⟨S8x4096x1536, .f32⟩
  | 104 => ⟨S8x4096x1536, .f32⟩
  | 105 => ⟨S1x1536, .f32⟩
  | 106 => ⟨S1536, .f32⟩
  | 107 => ⟨S1x1x1536, .f32⟩
  | 108 => ⟨S8x4096x1536, .f32⟩
  | 109 => ⟨S8x4096x1536, .f32⟩
  | 110 => ⟨S8x4096x1536, .f32⟩
  | 111 => ⟨S8x4096x1536, .f32⟩
  | 112 => ⟨S1x1536, .f32⟩
  | 113 => ⟨S1536, .f32⟩
  | 114 => ⟨S1x1x1536, .f32⟩
  | 115 => ⟨S8x4096x1536, .f32⟩
  | 116 => ⟨S8x4096x1536, .f32⟩
  | 117 => ⟨S8x4096x1536, .f32⟩
  | 118 => ⟨S1x1x1536, .f32⟩
  | 119 => ⟨S8x4096x1536, .f32⟩
  | 120 => ⟨S8x4096x1536, .f32⟩
  | 121 => ⟨S8x256x1536, .f32⟩
  | 122 => ⟨S_, .i32⟩
  | 123 => ⟨S_, .f32⟩
  | 124 => ⟨S8x260x1536, .f32⟩
  | 125 => ⟨S8x256x1536, .f32⟩
  | 126 => ⟨S1x1536, .f32⟩
  | 127 => ⟨S1536, .f32⟩
  | _ => ⟨S8x4096x1024, .f32⟩

abbrev hbmTy0_1 (i : Nat) : BufTy := match i % 128 with
  | 0 => ⟨S1x1x1536, .f32⟩
  | 1 => ⟨S8x256x1536, .f32⟩
  | 2 => ⟨S8x256x1536, .f32⟩
  | 3 => ⟨S_, .f32⟩
  | 4 => ⟨S8x256x1536, .f32⟩
  | 5 => ⟨S8x256x1536, .f32⟩
  | 6 => ⟨S8x256x1536, .f32⟩
  | 7 => ⟨S1x1536, .f32⟩
  | 8 => ⟨S1536, .f32⟩
  | 9 => ⟨S1x1x1536, .f32⟩
  | 10 => ⟨S8x256x1536, .f32⟩
  | 11 => ⟨S8x256x1536, .f32⟩
  | 12 => ⟨S8x256x1536, .f32⟩
  | 13 => ⟨S8x256x1536, .f32⟩
  | 14 => ⟨S1x1536, .f32⟩
  | 15 => ⟨S1536, .f32⟩
  | 16 => ⟨S1x1x1536, .f32⟩
  | 17 => ⟨S8x256x1536, .f32⟩
  | 18 => ⟨S8x256x1536, .f32⟩
  | 19 => ⟨S8x256x1536, .f32⟩
  | 20 => ⟨S8x256x1536, .f32⟩
  | 21 => ⟨S1x1536, .f32⟩
  | 22 => ⟨S1536, .f32⟩
  | 23 => ⟨S1x1x1536, .f32⟩
  | 24 => ⟨S8x256x1536, .f32⟩
  | 25 => ⟨S8x256x1536, .f32⟩
  | 26 => ⟨S8x256x1536, .f32⟩
  | 27 => ⟨S8x256x1536, .f32⟩
  | 28 => ⟨S1x1536, .f32⟩
  | 29 => ⟨S1536, .f32⟩
  | 30 => ⟨S1x1x1536, .f32⟩
  | 31 => ⟨S8x256x1536, .f32⟩
  | 32 => ⟨S8x256x1536, .f32⟩
  | 33 => ⟨S8x256x1536, .f32⟩
  | 34 => ⟨S1x1x1536, .f32⟩
  | 35 => ⟨S8x256x1536, .f32⟩
  | 36 => ⟨S8x256x1536, .f32⟩
  | 37 => ⟨S8x4352x1536, .f32⟩
  | 38 => ⟨S8x4352x1536, .f32⟩
  | 39 => ⟨S8x4352x1536, .f32⟩
  | 40 => ⟨S_, .f32⟩
  | 41 => ⟨S8x4352x1536, .f32⟩
  | 42 => ⟨S8x4352x1536, .f32⟩
  | 43 => ⟨S_, .f32⟩
  | 44 => ⟨S8x4352x1536, .f32⟩
  | 45 => ⟨S8x4352x1536, .f32⟩
  | 46 => ⟨S8x4352x1536, .f32⟩
  | 47 => ⟨S_, .f32⟩
  | 48 => ⟨S8x4352x64, .f32⟩
  | 49 => ⟨S8x4352x128, .f32⟩
  | 50 => ⟨S8x4352x1024, .f32⟩
  | 51 => ⟨S8x4352x4x128, .f32⟩
  | 52 => ⟨S8x4x4352x128, .f32⟩
  | 53 => ⟨S8x4352x1024, .bf16⟩
  | 54 => ⟨S8x4352x1536, .bf16⟩
  | 55 => ⟨S8x4352x1024, .bf16⟩
  | 56 => ⟨S8x4352x512, .bf16⟩
  | 57 => ⟨S8x4352x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c : Ref sig .tc := ⟨.hbm, 78, rfl⟩
abbrev main_call0_v0 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c_8 : Ref sig .tc := ⟨.hbm, 122, rfl⟩
abbrev main_call1_v0 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_9 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_call2_v0 : Ref sig .tc := ⟨.hbm, 166, rfl⟩
abbrev main_call2_v1 : Ref sig .tc := ⟨.hbm, 167, rfl⟩
abbrev main_call2_cst : Ref sig .tc := ⟨.hbm, 168, rfl⟩
abbrev main_call2_v2 : Ref sig .tc := ⟨.hbm, 169, rfl⟩
abbrev main_call2_v3 : Ref sig .tc := ⟨.hbm, 170, rfl⟩
abbrev main_call2_cst_0 : Ref sig .tc := ⟨.hbm, 171, rfl⟩
abbrev main_call2_v4 : Ref sig .tc := ⟨.hbm, 172, rfl⟩
abbrev main_call2_v5 : Ref sig .tc := ⟨.hbm, 173, rfl⟩
abbrev main_v144 : Ref sig .tc := ⟨.hbm, 174, rfl⟩
abbrev main_cst_10 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩

abbrev nD : Nat := 1
abbrev τ : Topo := Topo.v7x

variable {F : FTy → Type} [FloatOps F]
-- ==== Proof.RefFrame.lean ====
module

public import proofs.«01_k».proof.Defs
public import proofs.«01_k».proof.Proof.Gen.ReferenceIdeal.Run
public import Idealize.ShloMosaic.Lib.Quiescent

/-!
# The reference's run

The reference ends with its arguments unchanged and no semaphore raised.
-/

@[expose] public section

namespace Cert.Proof.Ref

open Idealize.ShloMosaic Idealize.ShloMosaic.TcCoe Idealize.SL.Sem

/-- The reference's frame. -/
theorem frame : Cert.quiescent_ReferenceIdeal := fun m ρ _ =>
  (θ_run Cert.ReferenceIdeal.defs _ _).mono
    (fun r h => ⟨fun c => (h c).2.2,
      Idealize.ShloMosaic.sem_eq_zero_of_no_sems (by decide) r.2⟩)
    (Cert.ReferenceIdeal.Value.run (F := Ideal) m ρ)

end Cert.Proof.Ref
-- ==== Proof.Chain.lean ====
/-
  One chunk of the kernel's scan, written once.  The kernel's body handles two rows of the batch, two directions and
  eight pairs of heads in turn; each of these 32 passes is the same sequence of vector operations, at other offsets of
  the buffers.  This module names that sequence with the row, the direction and the pair as parameters, so that
  everything later is proved once for all of them.
-/
module

public import proofs.«01_k».proof.Proof.Gen.KernelIdeal.Skeleton
public import Idealize.ShloMosaic.Lib.Pipeline.FrameBody

@[expose] public section

noncomputable section

namespace Cert.Proof.Chain

open Idealize.ShloMosaic Cert.KernelIdeal Cert.KernelIdeal.Gen

variable {F : FTy → Type} [FloatOps F]

/-- A matrix and a half-precision matrix of the chunk. -/
abbrev M (F : FTy → Type) := FVec F S128x128 .f32
abbrev Mb (F : FTy → Type) := FVec F S128x128 .bf16

theorem colOk (k : Fin 128) : S128x128.Slices ![0, k.val] S128x1 := by revert k; decide
theorem rowOk (k : Fin 128) : S128x128.Slices ![k.val, 0] S1x128 := by revert k; decide
theorem cellOk (k : Fin 128) : S1x128.Slices ![0, k.val] S1x1 := by revert k; decide

/-- Column `k` over all lanes, row `k` over all rows, entry `k` of a row over all lanes. -/
def colB (v : M F) (k : Fin 128) : M F :=
  broadcastTo S128x128 (shapeCast S128x1 (extractStridedSlice S128x1 ![0, k.val] v (colOk k)) shapeCasts_S128x1_S128x1)
    broadcasts_S128x1_S128x128
def rowB (v : M F) (k : Fin 128) : M F :=
  broadcastTo S128x128 (extractStridedSlice S1x128 ![k.val, 0] v (rowOk k)) broadcasts_S1x128_S128x128
def cellB (v : FVec F S1x128 .f32) (k : Fin 128) : FVec F S1x128 .f32 :=
  broadcastTo S1x128 (shapeCast S1x1 (extractStridedSlice S1x1 ![0, k.val] v (cellOk k)) shapeCasts_S1x1_S1x1)
    broadcasts_S1x1_S1x128

def mm (a b : Mb F) : M F := matmul dot_S128x128_S128x128_S128x128_1_0_0_1_n_n none a b (constant S128x128 .f32 0x00000000#32)

/-- Row `s` before or at row `r` (forward), at or after it (backward). -/
def tri (rev : Bool) : IVec S128x128 1 :=
  match rev with
  | false => cmpi .sge (iota .tc S128x128 32 [0] iota_S128x128_d0_w32) (iota .tc S128x128 32 [1] iota_S128x128_d1_w32)
  | true => cmpi .sle (iota .tc S128x128 32 [0] iota_S128x128_d0_w32) (iota .tc S128x128 32 [1] iota_S128x128_d1_w32)

def triB (rev : Bool) : Mb F :=
  truncf .bf16 (select (tri rev) (broadcast S128x128 (Scalar.ofBits .f32 0x3F800000#32 : F .f32))
    (broadcast S128x128 (Scalar.ofBits .f32 0x00000000#32 : F .f32))) bitsLt_bf16_f32

/-- The step sizes, the log decays, the running sums of the log decays (the product with the 0/1 matrix taken in three
    parts), their total. -/
def dt (v : Vec F S1x128x128 .f32) (b : Vec F S1x128 .f32) : M F := k0_pay6 v b
def da (v : Vec F S1x128x128 .f32) (b a : Vec F S1x128 .f32) : M F := k0_pay7 v b a
def rest (x : M F) : M F := subf x (extf .f32 (truncf .bf16 x bitsLt_bf16_f32) bitsLt_bf16_f32)
def cum3 (rev : Bool) (x : M F) : M F :=
  addf (addf (mm (triB rev) (truncf .bf16 x bitsLt_bf16_f32)) (mm (triB rev) (truncf .bf16 (rest x) bitsLt_bf16_f32)))
    (mm (triB rev) (truncf .bf16 (rest (rest x)) bitsLt_bf16_f32))
def tot (x : M F) : FVec F S1x128 .f32 := k0_pay15 x
def tr (x : M F) : M F := transpose S128x128 [1, 0] x transposes_S128x128_p1_0_S128x128
def wgt (rev : Bool) (d x : M F) : M F :=
  tr (mulf d (exp (subf (broadcastTo S128x128 (tot x) broadcasts_S1x128_S128x128) (cum3 rev x))))

def lo : IVec S1x128 1 := k0_pay20
def hi : IVec S1x128 1 := k0_pay21
def pick (s : IVec S1x128 1) (a b : M F) : M F :=
  select (broadcastTo S128x128 (shapeCast S1x128 s shapeCasts_S1x128_S1x128) broadcasts_S1x128_S128x128) a b
def half (s : IVec S1x128 1) (x : Mb F) : Mb F :=
  select (broadcastTo S128x128 (shapeCast S1x128 s shapeCasts_S1x128_S1x128) broadcasts_S1x128_S128x128) x
    (broadcast S128x128 (Scalar.ofBits .bf16 0x0000#16 : F .bf16))

/-- The chunk's decayed products of C and B for head `k`. -/
def dec (rev : Bool) (cb p d : M F) (k : Fin 128) : Mb F :=
  truncf .bf16 (mulf (mulf cb (select (tri rev) (exp (subf (colB p k) (rowB (tr p) k)))
    (broadcast S128x128 (Scalar.ofBits .f32 0x00000000#32 : F .f32)))) (rowB (tr d) k)) bitsLt_bf16_f32

def off (p : M F) (k0 k1 : Fin 128) (c : Mb F) (st : M F) : M F :=
  mulf (exp (pick lo (colB p k0) (colB p k1))) (mm c (truncf .bf16 st bitsLt_bf16_f32))

def outY (acc : M F) (rev : Bool) (cb p d : M F) (k0 k1 : Fin 128) (x : Mb F) : FVec F S1x128x128 .bf16 :=
  shapeCast S1x128x128 (truncf .bf16 (addf (addf acc (mm (dec rev cb p d k0) (half lo x))) (mm (dec rev cb p d k1) (half hi x)))
    bitsLt_bf16_f32) shapeCasts_S128x128_S1x128x128

def outS (e : FVec F S1x128 .f32) (bt w : M F) (k0 k1 : Fin 128) (x : Mb F) (st : M F) : FVec F S1x1x128x128 .f32 :=
  shapeCast S1x1x128x128 (addf (addf (mulf (broadcastTo S128x128 (select lo (cellB e k0) (cellB e k1)) broadcasts_S1x128_S128x128) st)
      (mm (truncf .bf16 (mulf bt (rowB w k0)) bitsLt_bf16_f32) (half lo x)))
      (mm (truncf .bf16 (mulf bt (rowB w k1)) bitsLt_bf16_f32) (half hi x))) shapeCasts_S128x128_S1x1x128x128

def cbOf (c b : Mb F) : M F := matmul dot_S128x128_S128x128_S128x128_1_1_0_0_n_n none c b (constant S128x128 .f32 0x00000000#32)

def sq {e : EltTy} (v : Vec F S1x128x128 e) : Vec F S128x128 e := shapeCast S128x128 v shapeCasts_S1x128x128_S128x128

/-! ## The pass of row `r`, pair `q` -/

theorem inX (r : Fin 2) (c : Fin 12) : ∀ a, (![r.val, 0, c.val * 128] : Fin 3 → Nat) a + S1x128x128.size a ≤ S2x128x1536.size a := by
  revert r c; decide
theorem inD (r : Fin 2) : ∀ a, (![r.val, 0, 0] : Fin 3 → Nat) a + S1x128x128.size a ≤ S2x128x128.size a := by revert r; decide
theorem inS (r : Fin 2) (q : Fin 8) : ∀ a, (![r.val, q.val, 0, 0] : Fin 4 → Nat) a + S1x1x128x128.size a ≤ S2x8x128x128.size a := by
  revert r q; decide
theorem inK (q : Fin 8) : ∀ a, (![0, q.val * 128] : Fin 2 → Nat) a + S1x128.size a ≤ S1x1024.size a := by revert q; decide
theorem inY (r : Fin 2) (q : Fin 8) : ∀ a, (![r.val, 0, q.val * 128] : Fin 3 → Nat) a + S1x128x128.size a ≤ S2x128x1024.size a := by
  revert r q; decide

def colX (X : Vec F S2x128x1536 .bf16) (r : Fin 2) (c : Fin 12) : Mb F := sq (View.ld X (Rect.unit ![r.val, 0, c.val * 128] S1x128x128.size (inX r c)))
def rowD (D : Vec F S2x128x128 .f32) (r : Fin 2) : Vec F S1x128x128 .f32 := View.ld D (Rect.unit ![r.val, 0, 0] S1x128x128.size (inD r))
def stOf (S : Vec F S2x8x128x128 .f32) (r : Fin 2) (q : Fin 8) : M F :=
  shapeCast S128x128 (View.ld S (Rect.unit ![r.val, q.val, 0, 0] S1x1x128x128.size (inS r q))) shapeCasts_S1x1x128x128_S128x128

def grp (q : Fin 8) : Fin 2 := ⟨q.val / 4, by omega⟩
def colXof (q : Fin 8) : Fin 12 := ⟨q.val, by omega⟩
def colBof (q : Fin 8) : Fin 12 := ⟨8 + q.val / 4, by omega⟩
def colCof (q : Fin 8) : Fin 12 := ⟨10 + q.val / 4, by omega⟩
/-- The two heads of the pair, forward and backward. -/
def hd0 (rev : Bool) (q : Fin 8) : Fin 128 := match rev with | false => ⟨2 * q.val, by omega⟩ | true => ⟨16 + 2 * q.val, by omega⟩
def hd1 (rev : Bool) (q : Fin 8) : Fin 128 := match rev with | false => ⟨2 * q.val + 1, by omega⟩ | true => ⟨16 + 2 * q.val + 1, by omega⟩

variable (X : Vec F S2x128x1536 .bf16) (D : Vec F S2x128x128 .f32) (b a : Vec F S1x128 .f32) (k : Vec F S1x1024 .f32) (S : Vec F S2x8x128x128 .f32)

def cumOf (rev : Bool) (r : Fin 2) : M F := cum3 rev (da (rowD D r) b a)

def accOf (rev : Bool) (r : Fin 2) (q : Fin 8) : M F :=
  off (cumOf D b a rev r) (hd0 rev q) (hd1 rev q) (colX X r (colCof q)) (stOf S r q)

def skip (r : Fin 2) (q : Fin 8) : M F :=
  mulf (broadcastTo S128x128 (shapeCast S1x128 (View.ld k (Rect.unit ![0, q.val * 128] S1x128.size (inK q))) shapeCasts_S1x128_S1x128) broadcasts_S1x128_S128x128)
    (extf .f32 (colX X r (colXof q)) bitsLt_bf16_f32)

def yOf (acc : M F) (rev : Bool) (r : Fin 2) (q : Fin 8) : FVec F S1x128x128 .bf16 :=
  outY acc rev (cbOf (colX X r (colCof q)) (colX X r (colBof q))) (cumOf D b a rev r) (dt (rowD D r) b) (hd0 rev q) (hd1 rev q) (colX X r (colXof q))

/-- What the forward pass and the backward pass store of the output, and what either leaves as state. -/
def yF (r : Fin 2) (q : Fin 8) : FVec F S1x128x128 .bf16 := yOf X D b a (addf (accOf X D b a S false r q) (skip X k r q)) false r q
def yB (r : Fin 2) (q : Fin 8) : FVec F S1x128x128 .bf16 := yOf X D b a (accOf X D b a S true r q) true r q
def sN (rev : Bool) (r : Fin 2) (q : Fin 8) : FVec F S1x1x128x128 .f32 :=
  outS (exp (tot (da (rowD D r) b a))) (tr (extf .f32 (colX X r (colBof q)) bitsLt_bf16_f32))
    (wgt rev (dt (rowD D r) b) (da (rowD D r) b a)) (hd0 rev q) (hd1 rev q) (colX X r (colXof q)) (stOf S r q)

end Cert.Proof.Chain

end
-- ==== Proof.Spec.lean ====
/-
  The scan as mathematics over the extended reals, of one direction, one row of the batch, one head and one lane: what a
  chunk adds to the output and what it leaves as state.  It is written twice: over the rows as they lie in memory (the
  kernel runs its backward direction without turning anything round) and over the positions of the scan (the reference turns the
  sequence round first).  The two agree.
-/
module

public import Idealize.ShloMosaic.Lib.Pointwise

@[expose] public section

noncomputable section

namespace Cert.Proof.Spec

open Idealize.ShloMosaic

/-- A function of the row, the position or the state coordinate. -/
abbrev V := Fin 128 → EReal

/-- The row at a position of the scan: the same row forwards, the mirrored row backwards. -/
def turn : Bool → Equiv.Perm (Fin 128)
  | false => Equiv.refl _
  | true => Fin.revPerm

/-- Row `s` is not scanned later than row `r`. -/
def upTo (rev : Bool) (s r : Fin 128) : Prop := match rev with
  | false => s.val ≤ r.val
  | true => r.val ≤ s.val

instance (rev : Bool) (s r : Fin 128) : Decidable (upTo rev s r) := by unfold upTo; cases rev <;> infer_instance

theorem upTo_turn (rev : Bool) (s r : Fin 128) : upTo rev (turn rev s) (turn rev r) ↔ s.val ≤ r.val := by
  cases rev
  · exact Iff.rfl
  · show (Fin.rev r).val ≤ (Fin.rev s).val ↔ _
    simp only [Fin.val_rev]
    omega

theorem turn_turn (rev : Bool) (r : Fin 128) : turn rev (turn rev r) = r := by
  cases rev
  · rfl
  · exact Fin.rev_rev r

/-! ## Over the rows of memory -/

/-- The running sum of the log decays, their total. -/
def cum (rev : Bool) (a : V) (r : Fin 128) : EReal := ∑ s, if upTo rev s r then a s else 0
def total (a : V) : EReal := ∑ s, a s

/-- What the chunk adds to the output of row `r`, in the kernel's order of operations; what it leaves as state. -/
def rowY (rev : Bool) (C B : Fin 128 → V) (a d x h : V) (r : Fin 128) : EReal :=
  Ideal.exp (cum rev a r) * (∑ n, C r n * h n)
    + ∑ s, ((∑ n, C r n * B s n) * (if upTo rev s r then Ideal.exp (cum rev a r - cum rev a s) else 0) * d s) * x s
def rowS (rev : Bool) (B : Fin 128 → V) (a d x h : V) (n : Fin 128) : EReal :=
  Ideal.exp (total a) * h n + ∑ l, (B l n * (d l * Ideal.exp (total a - cum rev a l))) * x l

/-! ## Over the positions of the scan -/

def runSum (a : V) (l : Fin 128) : EReal := ∑ s : Fin 128, if s.val ≤ l.val then a s else 0

/-- The same in the reference's order of operations, where `x` comes multiplied by the step sizes. -/
def posY (C B : Fin 128 → V) (a xd h : V) (l : Fin 128) : EReal :=
  (∑ s, ((∑ n, C l n * B s n) * (if s.val ≤ l.val then Ideal.exp (runSum a l - runSum a s) else 0)) * xd s)
    + (∑ n, h n * C l n) * Ideal.exp (runSum a l)
def posS (B : Fin 128 → V) (a xd h : V) (n : Fin 128) : EReal :=
  h n * Ideal.exp (runSum a 127) + ∑ l, (xd l * Ideal.exp (runSum a 127 - runSum a l)) * B l n

theorem cum_turn (rev : Bool) (a : V) (l : Fin 128) : cum rev a (turn rev l) = runSum (a ∘ turn rev) l := by
  unfold cum runSum
  rw [← Equiv.sum_comp (turn rev)]
  refine Finset.sum_congr rfl fun s _ => ?_
  simp only [upTo_turn, Function.comp_apply]

theorem total_turn (rev : Bool) (a : V) : total a = runSum (a ∘ turn rev) 127 := by
  unfold total runSum
  rw [← Equiv.sum_comp (turn rev)]
  refine Finset.sum_congr rfl fun s _ => ?_
  rw [if_pos (by have := s.isLt; show s.val ≤ 127; omega)]
  rfl

theorem rowY_turn (rev : Bool) (C B : Fin 128 → V) (a d x h : V) (l : Fin 128) :
    rowY rev C B a d x h (turn rev l)
      = posY (C ∘ turn rev) (B ∘ turn rev) (a ∘ turn rev) (fun s => x (turn rev s) * d (turn rev s)) h l := by
  unfold rowY posY
  rw [add_comm]
  refine Ideal.add_congr ?_ ?_
  · rw [← Equiv.sum_comp (turn rev)]
    refine Finset.sum_congr rfl fun s _ => ?_
    simp only [upTo_turn, cum_turn, Function.comp_apply]
    rw [mul_assoc, mul_comm (d _) (x _)]
  · rw [cum_turn, mul_comm]
    refine Ideal.mul_congr (Finset.sum_congr rfl fun n _ => ?_) rfl
    rw [mul_comm]; rfl

theorem rowS_turn (rev : Bool) (B : Fin 128 → V) (a d x h : V) (n : Fin 128) :
    rowS rev B a d x h n = posS (B ∘ turn rev) (a ∘ turn rev) (fun s => x (turn rev s) * d (turn rev s)) h n := by
  unfold rowS posS
  refine Ideal.add_congr ?_ ?_
  · rw [total_turn rev, mul_comm]
  · rw [← Equiv.sum_comp (turn rev)]
    refine Finset.sum_congr rfl fun l _ => ?_
    simp only [total_turn rev, cum_turn, Function.comp_apply]
    ac_rfl

/-! ## The step sizes -/

/-- The softplus of a number. -/
def sp (u : EReal) : EReal := max u 0 + Ideal.log1p (Ideal.exp (0 - FloatOps.absf (F := Ideal) (φ := .f32) u))

theorem exp_nonneg (u : EReal) : 0 ≤ Ideal.exp u := by
  induction u with
  | bot => exact le_refl _
  | top => exact le_top
  | coe r => exact EReal.coe_nonneg.mpr (Real.exp_pos r).le

theorem log1p_nonneg (u : EReal) (h : 0 ≤ u) : 0 ≤ Ideal.log1p u := by
  induction u with
  | bot => exact absurd h (by decide)
  | top =>
    have e : (1 : EReal) + ⊤ = ⊤ := by rfl
    show 0 ≤ Ideal.log (1 + ⊤)
    rw [e]
    exact le_top
  | coe r =>
    have hr : 0 ≤ r := EReal.coe_nonneg.mp h
    show 0 ≤ Ideal.log (((1 + r : ℝ)) : EReal)
    show 0 ≤ (if 1 + r ≤ 0 then (⊥ : EReal) else (Real.log (1 + r) : EReal))
    rw [if_neg (by linarith)]
    exact EReal.coe_nonneg.mpr (Real.log_nonneg (by linarith))

theorem sp_nonneg (u : EReal) : 0 ≤ sp u :=
  add_nonneg (le_max_right _ _) (log1p_nonneg _ (exp_nonneg _))

/-- A log decay is not positive, so it is not `⊤`. -/
theorem decay_ne_top (u e : EReal) : sp u * (0 - Ideal.exp e) ≠ ⊤ := by
  rw [zero_sub, mul_neg]
  intro h
  have h1 : sp u * Ideal.exp e = ⊥ := by rw [← neg_neg (sp u * Ideal.exp e), h]; rfl
  have h2 : 0 ≤ sp u * Ideal.exp e := mul_nonneg (sp_nonneg u) (exp_nonneg e)
  rw [h1] at h2
  exact absurd h2 (by decide)

/-- Splitting a number in three parts, each the remainder of the one before, loses nothing under a 0/1 factor. -/
theorem split3 (a : EReal) (h : a ≠ ⊤) (p : Prop) [Decidable p] :
    (if p then (1 : EReal) else 0) * a + (if p then (1 : EReal) else 0) * (a - a)
      + (if p then (1 : EReal) else 0) * ((a - a) - (a - a)) = if p then a else 0 := by
  by_cases hp : p
  · simp only [if_pos hp, one_mul]
    induction a with
    | bot => simp
    | top => exact absurd rfl h
    | coe r =>
      rw [← EReal.coe_sub, ← EReal.coe_sub, ← EReal.coe_add, ← EReal.coe_add]
      congr 1
      ring
  · simp only [if_neg hp, zero_mul, add_zero]

end Cert.Proof.Spec

end
-- ==== Proof.Elems.lean ====
/-
  The kernel's chunk, read at one element over the extended reals: a lane of a pair of heads sees the scan of its own
  head (`Spec.rowY`, `Spec.rowS`).
-/
module

public import proofs.«01_k».proof.Proof.Chain
public import proofs.«01_k».proof.Proof.Spec
public import Idealize.ShloMosaic.Lib.Pointwise

@[expose] public section

set_option maxRecDepth 16384

noncomputable section

namespace Cert.Proof.Chain

open Idealize.ShloMosaic Cert.KernelIdeal Cert.KernelIdeal.Gen Cert.Proof

/-- The head of lane `j` of pair `q`, as a column of the step sizes. -/
def hd (rev : Bool) (q : Fin 8) (j : Fin 128) : Fin 128 :=
  ⟨(match rev with | false => 0 | true => 16) + 2 * q.val + j.val / 64, by cases rev <;> simp <;> omega⟩

theorem hd_lo (rev : Bool) (q : Fin 8) (j : Fin 128) (h : j.val < 64) : hd0 rev q = hd rev q j := by
  cases rev <;> apply Fin.ext <;> simp only [hd0, hd] <;> omega
theorem hd_hi (rev : Bool) (q : Fin 8) (j : Fin 128) (h : ¬j.val < 64) : hd1 rev q = hd rev q j := by
  cases rev <;> apply Fin.ext <;> simp only [hd1, hd] <;> omega

theorem slt64 (j : Fin 128) : IntOp.cmpi CmpIPredicate.slt (BitVec.ofNat 32 j.val) 64#32 = BitVec.ofBool (decide (j.val < 64)) := by
  revert j; decide

theorem sel_of {α : Type} (p : Prop) [Decidable p] (x y : α) : Scalar.select (BitVec.ofBool (decide p)) x y = if p then x else y := by
  by_cases h : p <;> simp [h, Scalar.select]

theorem triCmp (rev : Bool) (r s : Fin 128) : tri rev (ix2 r s) = BitVec.ofBool (decide (Spec.upTo rev s r)) := by
  cases rev
  · pointwise [tri]
    show IntOp.cmpi CmpIPredicate.sge (BitVec.ofNat 32 r.val) (BitVec.ofNat 32 s.val) = BitVec.ofBool (decide (s.val ≤ r.val))
    have e : ∀ x : Fin 128, (BitVec.ofNat 32 x.val).toInt = x.val := by decide
    show BitVec.ofBool (decide ((BitVec.ofNat 32 r.val).toInt ≥ (BitVec.ofNat 32 s.val).toInt)) = _
    rw [e, e]
    congr 2
    exact propext Int.ofNat_le
  · pointwise [tri]
    show IntOp.cmpi CmpIPredicate.sle (BitVec.ofNat 32 r.val) (BitVec.ofNat 32 s.val) = BitVec.ofBool (decide (r.val ≤ s.val))
    have e : ∀ x : Fin 128, (BitVec.ofNat 32 x.val).toInt = x.val := by decide
    show BitVec.ofBool (decide ((BitVec.ofNat 32 r.val).toInt ≤ (BitVec.ofNat 32 s.val).toInt)) = _
    rw [e, e]
    congr 2
    exact propext Int.ofNat_le

theorem triB_at (rev : Bool) (r s : Fin 128) : triB (F := Ideal) rev (ix2 r s) = if Spec.upTo rev s r then (1 : EReal) else 0 := by
  pointwise [triB]
  rw [triCmp, sel_of]

theorem dt_at (v : Vec Ideal S1x128x128 .f32) (b : Vec Ideal S1x128 .f32) (r l : Fin 128) :
    dt v b (ix2 r l) = Spec.sp (v (ix3 0 r l) + b (ix2 0 l)) := by
  pointwise [dt, k0_pay6]
  rw [if_neg (by simp)]
  rfl

theorem da_at (v : Vec Ideal S1x128x128 .f32) (b a : Vec Ideal S1x128 .f32) (r l : Fin 128) :
    da v b a (ix2 r l) = Spec.sp (v (ix3 0 r l) + b (ix2 0 l)) * (0 - Ideal.exp (a (ix2 0 l))) := by
  rw [← dt_at v b r l]
  pointwise [da, k0_pay7, dt]

theorem cum3_at (rev : Bool) (x : M Ideal) (hx : ∀ i, x i ≠ (⊤ : EReal)) (r l : Fin 128) :
    cum3 rev x (ix2 r l) = Spec.cum rev (fun s => x (ix2 s l)) r := by
  pointwise [cum3, mm, rest]
  rw [← Finset.sum_add_distrib, ← Finset.sum_add_distrib]
  refine Finset.sum_congr rfl fun s _ => ?_
  simp only [triB_at]
  exact Spec.split3 _ (hx _) _

theorem tot_at (x : M Ideal) (l : Fin 128) : tot x (ix2 0 l) = Spec.total (fun s => x (ix2 s l)) := by
  pointwise [tot, k0_pay15]
  rfl

theorem colB_at (v : M Ideal) (k r l : Fin 128) : colB v k (ix2 r l) = v (ix2 r k) := by pointwise [colB]
theorem rowB_at (v : M Ideal) (k r l : Fin 128) : rowB v k (ix2 r l) = v (ix2 k l) := by pointwise [rowB]
theorem cellB_at (v : FVec Ideal S1x128 .f32) (k l : Fin 128) : cellB v k (ix2 0 l) = v (ix2 0 k) := by pointwise [cellB]
theorem tr_at (v : M Ideal) (r l : Fin 128) : tr v (ix2 r l) = v (ix2 l r) := by pointwise [tr]

theorem lo_at (j : Fin 128) : lo (ix2 0 j) = BitVec.ofBool (decide (j.val < 64)) := by
  pointwise [lo, k0_pay20]
  exact slt64 j
theorem hi_at (j : Fin 128) : hi (ix2 0 j) = BitVec.ofBool (decide (¬j.val < 64)) := by
  pointwise [hi, k0_pay21, k0_pay20]
  revert j; decide

theorem pick_lo (x y : M Ideal) (r j : Fin 128) : pick lo x y (ix2 r j) = if j.val < 64 then x (ix2 r j) else y (ix2 r j) := by
  pointwise [pick]
  rw [lo_at, sel_of]
theorem half_lo (x : Mb Ideal) (r j : Fin 128) : half lo x (ix2 r j) = if j.val < 64 then x (ix2 r j) else (0 : EReal) := by
  pointwise [half]
  rw [lo_at, sel_of]
theorem half_hi (x : Mb Ideal) (r j : Fin 128) : half hi x (ix2 r j) = if ¬j.val < 64 then x (ix2 r j) else (0 : EReal) := by
  pointwise [half]
  rw [hi_at, sel_of]

theorem wgt_at (rev : Bool) (d x : M Ideal) (hx : ∀ i, x i ≠ (⊤ : EReal)) (l k : Fin 128) :
    wgt rev d x (ix2 k l) = d (ix2 l k) * Ideal.exp (Spec.total (fun s => x (ix2 s k)) - Spec.cum rev (fun s => x (ix2 s k)) l) := by
  rw [← cum3_at rev x hx, ← tot_at]
  pointwise [wgt, tr]

theorem dec_at (rev : Bool) (cb p d : M Ideal) (k r s : Fin 128) : dec rev cb p d k (ix2 r s)
    = cb (ix2 r s) * (if Spec.upTo rev s r then Ideal.exp (p (ix2 r k) - p (ix2 s k)) else (0 : EReal)) * d (ix2 s k) := by
  pointwise [dec, colB, rowB, tr]
  rw [triCmp, sel_of]
  by_cases h : Spec.upTo rev s r
  · simp only [if_pos h]
  · simp only [if_neg h, mul_zero, zero_mul]

theorem off_at (p : M Ideal) (k0 k1 : Fin 128) (c : Mb Ideal) (st : M Ideal) (r j : Fin 128) : off p k0 k1 c st (ix2 r j)
    = Ideal.exp (if j.val < 64 then p (ix2 r k0) else p (ix2 r k1)) * ∑ n, c (ix2 r n) * st (ix2 n j) := by
  pointwise [off, mm]
  rw [pick_lo, colB_at, colB_at]

/-- Of the two products with half a block of lanes, the one of the lane's own half. -/
theorem halves (u v : Fin 128 → EReal) (x : Mb Ideal) (j : Fin 128) (w : Fin 128 → EReal) (hlo : j.val < 64 → u = w) (hhi : ¬j.val < 64 → v = w) :
    (∑ s, u s * half lo x (ix2 s j)) + ∑ s, v s * half hi x (ix2 s j) = ∑ s, w s * (x (ix2 s j) : EReal) := by
  simp only [half_lo, half_hi]
  by_cases h : j.val < 64
  · simp only [if_pos h, if_neg (not_not.mpr h), mul_zero, Finset.sum_const_zero, add_zero, hlo h]
  · simp only [if_neg h, if_pos h, mul_zero, Finset.sum_const_zero, zero_add, hhi h]

theorem outY_at (acc : M Ideal) (rev : Bool) (cb p d : M Ideal) (q : Fin 8) (x : Mb Ideal) (r j : Fin 128) :
    outY acc rev cb p d (hd0 rev q) (hd1 rev q) x (ix3 0 r j) = acc (ix2 r j) + ∑ s, (cb (ix2 r s)
      * (if Spec.upTo rev s r then Ideal.exp (p (ix2 r (hd rev q j)) - p (ix2 s (hd rev q j))) else (0 : EReal))
      * d (ix2 s (hd rev q j))) * x (ix2 s j) := by
  pointwise [outY, mm]
  rw [add_assoc]
  refine Ideal.add_congr rfl ?_
  refine halves _ _ x j _ ?_ ?_
  · intro h; funext s; rw [dec_at, hd_lo rev q j h]
  · intro h; funext s; rw [dec_at, hd_hi rev q j h]

theorem outS_at (e : FVec Ideal S1x128 .f32) (bt w : M Ideal) (rev : Bool) (q : Fin 8) (x : Mb Ideal) (st : M Ideal) (n j : Fin 128) :
    outS e bt w (hd0 rev q) (hd1 rev q) x st (ix4 0 0 n j) = (e (ix2 0 (hd rev q j)) : EReal) * st (ix2 n j)
      + ∑ l, ((bt (ix2 n l) : EReal) * w (ix2 (hd rev q j) l)) * x (ix2 l j) := by
  pointwise [outS, mm]
  rw [add_assoc]
  refine Ideal.add_congr ?_ ?_
  · refine Ideal.mul_congr ?_ rfl
    rw [lo_at, sel_of, cellB_at, cellB_at]
    by_cases h : j.val < 64
    · rw [if_pos h, hd_lo rev q j h]
    · rw [if_neg h, hd_hi rev q j h]
  · refine halves _ _ x j _ ?_ ?_
    · intro h; funext s; rw [rowB_at, hd_lo rev q j h]
    · intro h; funext s; rw [rowB_at, hd_hi rev q j h]

/-! ## The pass of row `r`, pair `q` of a block -/

variable (X : Vec Ideal S2x128x1536 .bf16) (D : Vec Ideal S2x128x128 .f32) (b a : Vec Ideal S1x128 .f32)
  (k : Vec Ideal S1x1024 .f32) (S : Vec Ideal S2x8x128x128 .f32) (rev : Bool) (r : Fin 2) (q : Fin 8) (j : Fin 128)

/-- What the lane's head reads of the block: its step sizes and log decays, its lane, its group's B and C, its state. -/
def dV : Spec.V := fun s => Spec.sp (D (ix3 r s (hd rev q j)) + b (ix2 0 (hd rev q j)))
def aV : Spec.V := fun s => dV D b rev r q j s * (0 - Ideal.exp (a (ix2 0 (hd rev q j))))
def xV : Spec.V := fun s => X (ix3 r s ⟨q.val * 128 + j.val, by omega⟩)
def bV : Fin 128 → Spec.V := fun s n => X (ix3 r s ⟨1024 + q.val / 4 * 128 + n.val, by omega⟩)
def cV : Fin 128 → Spec.V := fun s n => X (ix3 r s ⟨1280 + q.val / 4 * 128 + n.val, by omega⟩)
def sV : Spec.V := fun n => S (ix4 r q n j)

theorem colX_at (c : Fin 12) (i l : Fin 128) : colX X r c (ix2 i l) = X (ix3 r i ⟨c.val * 128 + l.val, by omega⟩) := by
  pointwise [colX, sq]
theorem rowD_at (i l : Fin 128) : rowD D r (ix3 0 i l) = D (ix3 r i l) := by pointwise [rowD]
theorem st_row (n l : Fin 128) : (S1x1x128x128.rowMajor (ix4 0 0 n l) : Nat) = S128x128.rowMajor (ix2 n l) := by
  rw [rowMajor_val2 _ 128 rfl, rowMajor_val4 _ 16384 16384 128 rfl rfl rfl]
  show 0 * 16384 + 0 * 16384 + n.val * 128 + l.val = n.val * 128 + l.val
  omega
theorem stOf_at (n l : Fin 128) : stOf S r q (ix2 n l) = S (ix4 r q n l) := by
  unfold stOf
  unfold shapeCast
  rw [Shape.reshapeEquiv_eq_of_rowMajor _ (st_row n l)]
  pointwise

theorem dtV (s : Fin 128) : dt (rowD D r) b (ix2 s (hd rev q j)) = dV D b rev r q j s := by rw [dt_at, rowD_at]; rfl
theorem daV (s : Fin 128) : da (rowD D r) b a (ix2 s (hd rev q j)) = aV D b a rev r q j s := by rw [da_at, rowD_at]; rfl
theorem da_ne (i : S128x128.Idx) : da (rowD D r) b a i ≠ (⊤ : EReal) := by
  idx_vars i
  rw [da_at]
  exact Spec.decay_ne_top _ _
theorem cumV (s : Fin 128) : cumOf D b a rev r (ix2 s (hd rev q j)) = Spec.cum rev (aV D b a rev r q j) s := by
  unfold cumOf
  rw [cum3_at rev _ (da_ne D b a r)]
  simp only [daV]
theorem colXV (s : Fin 128) : colX X r (colXof q) (ix2 s j) = xV X r q j s := colX_at X r _ s j
theorem colBV (s n : Fin 128) : colX X r (colBof q) (ix2 s n) = bV X r q s n := by
  rw [colX_at]
  exact congrArg (fun c => X (ix3 r s c)) (Fin.ext (by show (8 + q.val / 4) * 128 + n.val = 1024 + q.val / 4 * 128 + n.val; omega))
theorem colCV (s n : Fin 128) : colX X r (colCof q) (ix2 s n) = cV X r q s n := by
  rw [colX_at]
  exact congrArg (fun c => X (ix3 r s c)) (Fin.ext (by show (10 + q.val / 4) * 128 + n.val = 1280 + q.val / 4 * 128 + n.val; omega))

theorem accOf_at (i : Fin 128) : accOf X D b a S rev r q (ix2 i j)
    = Ideal.exp (Spec.cum rev (aV D b a rev r q j) i) * ∑ n, cV X r q i n * sV S r q j n := by
  unfold accOf
  rw [off_at]
  refine Ideal.mul_congr (congrArg Ideal.exp ?_) ?_
  · rw [← cumV]
    by_cases h : j.val < 64
    · rw [if_pos h, hd_lo rev q j h]
    · rw [if_neg h, hd_hi rev q j h]
  · refine Finset.sum_congr rfl fun n _ => ?_
    rw [colCV, stOf_at]; rfl

theorem yOf_at (acc : M Ideal) (i : Fin 128) : yOf X D b a acc rev r q (ix3 0 i j) = acc (ix2 i j)
    + ∑ s, ((∑ n, cV X r q i n * bV X r q s n) * (if Spec.upTo rev s i then Ideal.exp (Spec.cum rev (aV D b a rev r q j) i
      - Spec.cum rev (aV D b a rev r q j) s) else 0) * dV D b rev r q j s) * xV X r q j s := by
  unfold yOf
  rw [outY_at]
  refine Ideal.add_congr rfl (Finset.sum_congr rfl fun s _ => ?_)
  rw [cumV, cumV, dtV, colXV]
  pointwise [cbOf]
  simp only [colCV, colBV]

theorem skip_at (i : Fin 128) : skip X k r q (ix2 i j) = (k (ix2 0 ⟨q.val * 128 + j.val, by omega⟩) : EReal) * xV X r q j i := by
  unfold skip
  rw [← colXV X r q j i]
  generalize colX X r (colXof q) = x
  pointwise

theorem yB_at (i : Fin 128) : yB X D b a S r q (ix3 0 i j)
    = Spec.rowY true (cV X r q) (bV X r q) (aV D b a true r q j) (dV D b true r q j) (xV X r q j) (sV S r q j) i := by
  unfold yB
  rw [yOf_at, accOf_at]
  rfl

theorem yF_at (i : Fin 128) : yF X D b a k S r q (ix3 0 i j)
    = Spec.rowY false (cV X r q) (bV X r q) (aV D b a false r q j) (dV D b false r q j) (xV X r q j) (sV S r q j) i
      + (k (ix2 0 ⟨q.val * 128 + j.val, by omega⟩) : EReal) * xV X r q j i := by
  unfold yF
  rw [yOf_at]
  pointwise
  rw [accOf_at, skip_at, add_right_comm]
  rfl

theorem sN_at (n : Fin 128) : sN X D b a S rev r q (ix4 0 0 n j)
    = Spec.rowS rev (bV X r q) (aV D b a rev r q j) (dV D b rev r q j) (xV X r q j) (sV S r q j) n := by
  unfold sN
  rw [outS_at]
  refine Ideal.add_congr (Ideal.mul_congr ?_ ?_) (Finset.sum_congr rfl fun l _ => Ideal.mul_congr (Ideal.mul_congr ?_ ?_) ?_)
  · pointwise
    rw [tot_at]
    simp only [daV]
  · exact stOf_at S r q n j
  · rw [tr_at]
    pointwise
    exact colBV X r q l n
  · rw [wgt_at _ _ _ (da_ne D b a r), dtV]
    simp only [daV]
  · exact colXV X r q j l

end Cert.Proof.Chain

end
-- ==== Proof.Scan.lean ====
/-
  The whole scan as mathematics: the state after any number of chunks and the output of any row of memory, as functions
  of the five arguments; and that one pass of the kernel's body computes a chunk of it.
-/
module

public import proofs.«01_k».proof.Proof.Elems

@[expose] public section

noncomputable section

namespace Cert.Proof.Scan

open Idealize.ShloMosaic Cert.Proof

/-- The arguments: the convolved inputs, the step sizes before the bias, the bias, the logarithms of the decay rates and the
    skip weights. -/
structure Args where
  x : Fin 8 → Fin 4352 → Fin 1536 → EReal
  u : Fin 8 → Fin 4352 → Fin 128 → EReal
  bias : Fin 2 → Fin 16 → EReal
  alog : Fin 2 → Fin 16 → EReal
  skip : Fin 16 → EReal

/-- The chunk of memory that is scanned `c`-th, and its rows. The forward scan begins with the last two chunks. -/
def chunk (rev : Bool) (c : ℕ) : ℕ := match rev with
  | false => if c < 2 then 32 + c else c - 2
  | true => 33 - c
def row (rev : Bool) (c : ℕ) (r : Fin 128) : Fin 4352 := ⟨(chunk rev c * 128 + r.val) % 4352, Nat.mod_lt _ (by decide)⟩

def dir : Bool → Fin 2
  | false => 0
  | true => 1
/-- The head of a lane, a head's column of the step sizes. -/
def head (k : Fin 1024) : Fin 16 := ⟨k.val / 64, by omega⟩
def col (rev : Bool) (h : Fin 16) : Fin 128 := ⟨16 * (dir rev).val + h.val, by have := (dir rev).isLt; omega⟩

variable (A : Args) (rev : Bool) (b : Fin 8) (k : Fin 1024) (c : ℕ)

/-- Step sizes and log decays of the lane's head, the lane, its group's B and C, over the chunk's rows. -/
def dV : Spec.V := fun s => Spec.sp (A.u b (row rev c s) (col rev (head k)) + A.bias (dir rev) (head k))
def aV : Spec.V := fun s => dV A rev b k c s * (0 - Ideal.exp (A.alog (dir rev) (head k)))
def xV : Spec.V := fun s => A.x b (row rev c s) ⟨k.val, by omega⟩
def bV : Fin 128 → Spec.V := fun s n => A.x b (row rev c s) ⟨1024 + k.val / 512 * 128 + n.val, by omega⟩
def cV : Fin 128 → Spec.V := fun s n => A.x b (row rev c s) ⟨1280 + k.val / 512 * 128 + n.val, by omega⟩

/-- The state after `c` chunks; the output of row `r` of chunk `c`. -/
def state : ℕ → Spec.V
  | 0 => fun _ => 0
  | c + 1 => Spec.rowS rev (bV A rev b k c) (aV A rev b k c) (dV A rev b k c) (xV A rev b k c) (state c)
def out (r : Fin 128) : EReal :=
  Spec.rowY rev (cV A rev b k c) (bV A rev b k c) (aV A rev b k c) (dV A rev b k c) (xV A rev b k c) (state A rev b k c) r

/-- The number of the chunk that holds row `t`, in the order of the scan. -/
def ord (t : Fin 4352) : ℕ := match rev with
  | false => if t.val / 128 < 32 then t.val / 128 + 2 else t.val / 128 - 32
  | true => 33 - t.val / 128

theorem ord_row (hc : c < 34) (s : Fin 128) : ord rev (row rev c s) = c := by
  cases rev <;> simp only [ord, row, chunk] <;> (try split_ifs) <;> omega
theorem row_mod (hc : c < 34) (s : Fin 128) : (row rev c s).val % 128 = s.val := by
  cases rev <;> simp only [row, chunk] <;> (try split_ifs) <;> omega
theorem row_ord (t : Fin 4352) : row rev (ord rev t) ⟨t.val % 128, Nat.mod_lt _ (by decide)⟩ = t := by
  apply Fin.ext
  cases rev <;> simp only [ord, row, chunk] <;> (try split_ifs) <;> omega
theorem ord_lt (t : Fin 4352) : ord rev t < 34 := by
  cases rev <;> simp only [ord] <;> (try split_ifs) <;> omega

/-- The two results at row `t`: the forward scan's with the skip. -/
def scanned (t : Fin 4352) : EReal := out A rev b k (ord rev t) ⟨t.val % 128, Nat.mod_lt _ (by decide)⟩
def forward (t : Fin 4352) : EReal := scanned A false b k t + A.skip (head k) * A.x b t ⟨k.val, by omega⟩

theorem scanned_row (hc : c < 34) (s : Fin 128) : scanned A rev b k (row rev c s) = out A rev b k c s := by
  unfold scanned
  rw [ord_row rev c hc s]
  exact congrArg _ (Fin.ext (row_mod rev c hc s))

/-! ## One pass of the body -/

open Cert.KernelIdeal in
/-- The block's buffers hold the `c`-th chunk of row `b`, and the state after the chunks before it. -/
structure Holds (X : Vec Ideal S2x128x1536 .bf16) (D : Vec Ideal S2x128x128 .f32) (β α : Vec Ideal S1x128 .f32)
    (S : Vec Ideal S2x8x128x128 .f32) (r : Fin 2) : Prop where
  x : ∀ s l, X (ix3 r s l) = A.x b (row rev c s) l
  d : ∀ s l, D (ix3 r s l) = A.u b (row rev c s) l
  β : ∀ h, β (ix2 0 (col rev h)) = A.bias (dir rev) h
  α : ∀ h, α (ix2 0 (col rev h)) = A.alog (dir rev) h
  s : ∀ (q : Fin 8) n (j : Fin 128), S (ix4 r q n j) = state A rev b ⟨q.val * 128 + j.val, by omega⟩ c n

section
open Cert.KernelIdeal
variable {A rev b c} {X : Vec Ideal S2x128x1536 .bf16} {D : Vec Ideal S2x128x128 .f32} {β α : Vec Ideal S1x128 .f32}
  {S : Vec Ideal S2x8x128x128 .f32} {r : Fin 2} (H : Holds A rev b c X D β α S r) (q : Fin 8) (j : Fin 128)
include H

theorem hd_col : Chain.hd rev q j = col rev (head ⟨q.val * 128 + j.val, by omega⟩) := by
  apply Fin.ext
  cases rev <;> simp only [Chain.hd, col, dir, head] <;> simp <;> omega

theorem dV_eq : Chain.dV D β rev r q j = dV A rev b ⟨q.val * 128 + j.val, by omega⟩ c := by
  funext s
  simp only [Chain.dV, dV]
  rw [hd_col H q j, H.d, H.β]
theorem aV_eq : Chain.aV D β α rev r q j = aV A rev b ⟨q.val * 128 + j.val, by omega⟩ c := by
  funext s
  simp only [Chain.aV, aV]
  rw [dV_eq H q j, hd_col H q j, H.α]
theorem xV_eq : Chain.xV X r q j = xV A rev b ⟨q.val * 128 + j.val, by omega⟩ c := by
  funext s
  exact H.x s _
theorem bV_eq : Chain.bV X r q = bV A rev b ⟨q.val * 128 + j.val, by omega⟩ c := by
  funext s n
  refine (H.x s _).trans (congrArg (A.x b (row rev c s)) (Fin.ext ?_))
  show 1024 + q.val / 4 * 128 + n.val = 1024 + (q.val * 128 + j.val) / 512 * 128 + n.val
  omega
theorem cV_eq : Chain.cV X r q = cV A rev b ⟨q.val * 128 + j.val, by omega⟩ c := by
  funext s n
  refine (H.x s _).trans (congrArg (A.x b (row rev c s)) (Fin.ext ?_))
  show 1280 + q.val / 4 * 128 + n.val = 1280 + (q.val * 128 + j.val) / 512 * 128 + n.val
  omega
theorem sV_eq : Chain.sV S r q j = state A rev b ⟨q.val * 128 + j.val, by omega⟩ c := by
  funext n
  exact H.s q n j

theorem rowY_eq (i : Fin 128) :
    Spec.rowY rev (Chain.cV X r q) (Chain.bV X r q) (Chain.aV D β α rev r q j) (Chain.dV D β rev r q j) (Chain.xV X r q j) (Chain.sV S r q j) i
      = out A rev b ⟨q.val * 128 + j.val, by omega⟩ c i := by
  rw [cV_eq H q j, bV_eq H q j, aV_eq H q j, dV_eq H q j, xV_eq H q j, sV_eq H q j]
  rfl

theorem sN_eq (n : Fin 128) : Chain.sN X D β α S rev r q (ix4 0 0 n j) = state A rev b ⟨q.val * 128 + j.val, by omega⟩ (c + 1) n := by
  rw [Chain.sN_at, bV_eq H q j, aV_eq H q j, dV_eq H q j, xV_eq H q j, sV_eq H q j]
  rfl
end

end Cert.Proof.Scan

end
-- ==== Proof.Pieces.lean ====
/-
  What the kernel's body leaves in its output blocks and in its carried states, as arrays: each of the stores it makes is
  a block of one array (`GF`, `GB` of the output, `GS` of a state), whatever the row and the pair of heads.
-/
module

public import proofs.«01_k».proof.Proof.Gen.KernelIdeal.Frame
public import proofs.«01_k».proof.Proof.Chain
public import Idealize.ShloMosaic.Lib.Pointwise
public import Idealize.ShloMosaic.Lib.Pipeline.ReadBack

@[expose] public section

noncomputable section

namespace Cert.Proof.Pieces

open Idealize.ShloMosaic Idealize.ShloMosaic.TcCoe Idealize.SL.Sem Cert.KernelIdeal Cert.KernelIdeal.Gen

variable {F : FTy → Type} [FloatOps F]

/-- A load of a whole row is the row. -/
theorem ld_row (v : Vec F S1x128 .f32) : View.ld v (Rect.unit ![0, 0] ![1, 128] inb_S1x128_S1x128_0_0) = v := by
  funext j
  idx_vars j
  pointwise
  exact congrArg v (congrArg (ix2 · j1) (Subsingleton.elim _ _))

theorem emb_out (r : Fin 2) (q : Fin 8) (x0 : Fin 1) (x1 x2 : Fin 128) :
    (Rect.unit (s := S2x128x1024) ![r.val, 0, q.val * 128] S1x128x128.size (Chain.inY r q)).emb (ix3 x0 x1 x2)
      = ix3 r x1 ⟨q.val * 128 + x2.val, by omega⟩ := by
  funext a
  apply Fin.ext
  rw [Rect.emb_apply]
  match a with
  | 0 => show r.val + 1 * x0.val = r.val; omega
  | 1 => show 0 + 1 * x1.val = x1.val; omega
  | 2 => show q.val * 128 + 1 * x2.val = q.val * 128 + x2.val; omega

theorem emb_st (r : Fin 2) (q : Fin 8) (x0 x1 : Fin 1) (x2 x3 : Fin 128) :
    (Rect.unit (s := S2x8x128x128) ![r.val, q.val, 0, 0] S1x1x128x128.size (Chain.inS r q)).emb (ix4 x0 x1 x2 x3)
      = ix4 r q x2 x3 := by
  funext a
  apply Fin.ext
  rw [Rect.emb_apply]
  match a with
  | 0 => show r.val + 1 * x0.val = r.val; omega
  | 1 => show q.val + 1 * x1.val = q.val; omega
  | 2 => show 0 + 1 * x2.val = x2.val; omega
  | 3 => show 0 + 1 * x3.val = x3.val; omega

variable (X : Vec F S2x128x1536 .bf16) (D : Vec F S2x128x128 .f32) (b a : Vec F S1x128 .f32) (k : Vec F S1x1024 .f32)
  (S : Vec F S2x8x128x128 .f32)

/-- The forward output block, the backward output block, the state after the chunk. -/
def GF : Vec F S2x128x1024 .bf16 := fun j =>
  Chain.yF X D b a k S (j 0) ⟨(j 2).val / 128, by have := (j 2).isLt; simp [Shape.size] at this; omega⟩
    (ix3 0 (j 1) ⟨(j 2).val % 128, Nat.mod_lt _ (by decide)⟩)
def GB : Vec F S2x128x1024 .bf16 := fun j =>
  Chain.yB X D b a S (j 0) ⟨(j 2).val / 128, by have := (j 2).isLt; simp [Shape.size] at this; omega⟩
    (ix3 0 (j 1) ⟨(j 2).val % 128, Nat.mod_lt _ (by decide)⟩)
def GS (rev : Bool) : Vec F S2x8x128x128 .f32 := fun j => Chain.sN X D b a S rev (j 0) (j 1) (ix4 0 0 (j 2) (j 3))

/-- Store `(r, q)` is that block of the array. -/
theorem blockY (P : Fin 2 → Fin 8 → Vec F S1x128x128 .bf16) (r : Fin 2) (q : Fin 8) (x0 : Fin 1) (x1 x2 : Fin 128)
    (h : (q.val * 128 + x2.val) / 128 < 8) (h' : (q.val * 128 + x2.val) % 128 < 128) :
    P r q (ix3 x0 x1 x2) = P r ⟨(q.val * 128 + x2.val) / 128, h⟩ (ix3 0 x1 ⟨(q.val * 128 + x2.val) % 128, h'⟩) := by
  have h1 : (⟨(q.val * 128 + x2.val) / 128, h⟩ : Fin 8) = q := Fin.ext (by show (q.val * 128 + x2.val) / 128 = q.val; omega)
  have h2 : (⟨(q.val * 128 + x2.val) % 128, h'⟩ : Fin 128) = x2 := Fin.ext (by show (q.val * 128 + x2.val) % 128 = x2.val; omega)
  rw [h1, h2, Subsingleton.elim x0 0]

theorem pieceF (r : Fin 2) (q : Fin 8) (x : S1x128x128.Idx) : Chain.yF X D b a k S r q x = GF X D b a k S
    ((Rect.unit (s := S2x128x1024) ![r.val, 0, q.val * 128] S1x128x128.size (Chain.inY r q)).emb x) := by
  idx_vars x
  rw [emb_out]
  exact blockY (Chain.yF X D b a k S) r q x0 x1 x2 _ _
theorem pieceB (r : Fin 2) (q : Fin 8) (x : S1x128x128.Idx) : Chain.yB X D b a S r q x = GB X D b a S
    ((Rect.unit (s := S2x128x1024) ![r.val, 0, q.val * 128] S1x128x128.size (Chain.inY r q)).emb x) := by
  idx_vars x
  rw [emb_out]
  exact blockY (Chain.yB X D b a S) r q x0 x1 x2 _ _
theorem pieceS (rev : Bool) (r : Fin 2) (q : Fin 8) (x : S1x1x128x128.Idx) : Chain.sN X D b a S rev r q x = GS X D b a S rev
    ((Rect.unit (s := S2x8x128x128) ![r.val, q.val, 0, 0] S1x1x128x128.size (Chain.inS r q)).emb x) := by
  idx_vars x
  rw [emb_st, Subsingleton.elim x0 0, Subsingleton.elim x1 0]
  rfl

/-! ## A later chunk -/

theorem outB7 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : ¬cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) (xs0 : Vec F S2x8x128x128 .f32) (xs1 : Vec F S2x8x128x128 .f32) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 = GF x0 x1 x4 x5 x6 xs0 := by
  have cov := cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1
  unfold out0_B_7
  rw [View.read_writes_eq_canon _ _ _ cov]
  funext y
  refine View.canon_apply_of_pieces _ _ (View.PiecesOf.mem ?_) y (cov y)
  clear cov
  unfold kernelRun0_B
  dsimp only
  sl_unfold_words
  simp only [View.readAt_eq_ld, harg2.read_unread, harg3.read_unread, harg6.read_unread, harg7.read_unread, harg8.read_unread, harg11.read_unread, ld_row]
  exact ⟨pieceF _ _ _ _ _ _ 1 7, pieceF _ _ _ _ _ _ 0 7, pieceF _ _ _ _ _ _ 1 6, pieceF _ _ _ _ _ _ 0 6,
      pieceF _ _ _ _ _ _ 1 5, pieceF _ _ _ _ _ _ 0 5, pieceF _ _ _ _ _ _ 1 4, pieceF _ _ _ _ _ _ 0 4,
      pieceF _ _ _ _ _ _ 1 3, pieceF _ _ _ _ _ _ 0 3, pieceF _ _ _ _ _ _ 1 2, pieceF _ _ _ _ _ _ 0 2,
      pieceF _ _ _ _ _ _ 1 1, pieceF _ _ _ _ _ _ 0 1, pieceF _ _ _ _ _ _ 1 0, pieceF _ _ _ _ _ _ 0 0, trivial⟩

theorem outB8 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : ¬cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) (xs0 : Vec F S2x8x128x128 .f32) (xs1 : Vec F S2x8x128x128 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 xs0 xs1 = GB x2 x3 x4 x5 xs1 := by
  have cov := cover0_B_8 c i arg2 harg2 arg3 harg3 arg4 harg4 arg5 harg5 arg6 harg6 arg7 harg7 arg8 harg8 arg9 harg9 arg10 harg10 arg11 harg11 arg12 harg12 hc0 x0 x1 x2 x3 x4 x5 x6 xs0 xs1
  unfold out0_B_8
  rw [View.read_writes_eq_canon _ _ _ cov]
  funext y
  refine View.canon_apply_of_pieces _ _ (View.PiecesOf.mem ?_) y (cov y)
  clear cov
  unfold kernelRun0_B
  dsimp only
  sl_unfold_words
  simp only [View.readAt_eq_ld, harg4.read_unread, harg5.read_unread, harg6.read_unread, harg7.read_unread, harg12.read_unread, ld_row]
  exact ⟨pieceB _ _ _ _ _ 1 7, pieceB _ _ _ _ _ 0 7, pieceB _ _ _ _ _ 1 6, pieceB _ _ _ _ _ 0 6,
      pieceB _ _ _ _ _ 1 5, pieceB _ _ _ _ _ 0 5, pieceB _ _ _ _ _ 1 4, pieceB _ _ _ _ _ 0 4,
      pieceB _ _ _ _ _ 1 3, pieceB _ _ _ _ _ 0 3, pieceB _ _ _ _ _ 1 2, pieceB _ _ _ _ _ 0 2,
      pieceB _ _ _ _ _ 1 1, pieceB _ _ _ _ _ 0 1, pieceB _ _ _ _ _ 1 0, pieceB _ _ _ _ _ 0 0, trivial⟩

theorem stB0 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : ¬cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) (xs0 : Vec F S2x8x128x128 .f32) (xs1 : Vec F S2x8x128x128 .f32) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 = GS x0 x1 x4 x5 xs0 false := by
  have cov := scover0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1
  unfold sout0_B_0
  rw [View.read_writes_eq_canon _ _ _ cov]
  funext y
  refine View.canon_apply_of_pieces _ _ (View.PiecesOf.mem ?_) y (cov y)
  clear cov
  unfold kernelRun0_B
  dsimp only
  sl_unfold_words
  simp only [View.readAt_eq_ld, harg2.read_unread, harg3.read_unread, harg6.read_unread, harg7.read_unread, harg11.read_unread, ld_row]
  exact ⟨pieceS _ _ _ _ _ false 1 7, pieceS _ _ _ _ _ false 0 7, pieceS _ _ _ _ _ false 1 6, pieceS _ _ _ _ _ false 0 6,
      pieceS _ _ _ _ _ false 1 5, pieceS _ _ _ _ _ false 0 5, pieceS _ _ _ _ _ false 1 4, pieceS _ _ _ _ _ false 0 4,
      pieceS _ _ _ _ _ false 1 3, pieceS _ _ _ _ _ false 0 3, pieceS _ _ _ _ _ false 1 2, pieceS _ _ _ _ _ false 0 2,
      pieceS _ _ _ _ _ false 1 1, pieceS _ _ _ _ _ false 0 1, pieceS _ _ _ _ _ false 1 0, pieceS _ _ _ _ _ false 0 0, trivial⟩

theorem stB1 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : ¬cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) (xs0 : Vec F S2x8x128x128 .f32) (xs1 : Vec F S2x8x128x128 .f32) :
    sout0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 = GS x2 x3 x4 x5 xs1 true := by
  have cov := scover0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1
  unfold sout0_B_1
  rw [View.read_writes_eq_canon _ _ _ cov]
  funext y
  refine View.canon_apply_of_pieces _ _ (View.PiecesOf.mem ?_) y (cov y)
  clear cov
  unfold kernelRun0_B
  dsimp only
  sl_unfold_words
  simp only [View.readAt_eq_ld, harg4.read_unread, harg5.read_unread, harg6.read_unread, harg7.read_unread, harg12.read_unread, ld_row]
  exact ⟨pieceS _ _ _ _ _ true 1 7, pieceS _ _ _ _ _ true 0 7, pieceS _ _ _ _ _ true 1 6, pieceS _ _ _ _ _ true 0 6,
      pieceS _ _ _ _ _ true 1 5, pieceS _ _ _ _ _ true 0 5, pieceS _ _ _ _ _ true 1 4, pieceS _ _ _ _ _ true 0 4,
      pieceS _ _ _ _ _ true 1 3, pieceS _ _ _ _ _ true 0 3, pieceS _ _ _ _ _ true 1 2, pieceS _ _ _ _ _ true 0 2,
      pieceS _ _ _ _ _ true 1 1, pieceS _ _ _ _ _ true 0 1, pieceS _ _ _ _ _ true 1 0, pieceS _ _ _ _ _ true 0 0, trivial⟩

end Cert.Proof.Pieces

end
-- ==== Proof.First.lean ====
/-
  The first chunk of a sequence: the states are filled with zeros first, so the outputs and the states are those of a
  later chunk with zero states.
-/
module

public import proofs.«01_k».proof.Proof.Pieces

@[expose] public section

noncomputable section

namespace Cert.Proof.Pieces

open Idealize.ShloMosaic Idealize.ShloMosaic.TcCoe Idealize.SL.Sem Cert.KernelIdeal Cert.KernelIdeal.Gen

variable {F : FTy → Type} [FloatOps F]

theorem zoff : ∀ a : Fin S2x8x128x128.rank, (![0, 0, 0, 0] : Fin 4 → ℕ) a = 0 := by decide

theorem outA7 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = GF x0 x1 x4 x5 x6 k0_pay4 := by
  have cov := cover0_A_7 c i arg2 harg2 arg3 harg3 arg4 harg4 arg5 harg5 arg6 harg6 arg7 harg7 arg8 harg8 arg9 harg9 arg10 harg10 arg11 harg11 arg12 harg12 hc0 x0 x1 x2 x3 x4 x5 x6
  unfold out0_A_7
  rw [View.read_writes_eq_canon _ _ _ cov]
  funext y
  refine View.canon_apply_of_pieces _ _ (View.PiecesOf.mem ?_) y (cov y)
  clear cov
  unfold kernelRun0_A
  dsimp only
  sl_unfold_words
  simp (discharger := decide) only [↓View.readCov_skip, ↓View.readCov_fill _ _ _ _ _ zoff]
  simp only [View.readAt_eq_ld, harg2.read_unread, harg3.read_unread, harg6.read_unread, harg7.read_unread, harg8.read_unread, harg11.read_unread, ld_row]
  exact ⟨pieceF _ _ _ _ _ _ 1 7, pieceF _ _ _ _ _ _ 0 7, pieceF _ _ _ _ _ _ 1 6, pieceF _ _ _ _ _ _ 0 6
      , pieceF _ _ _ _ _ _ 1 5, pieceF _ _ _ _ _ _ 0 5, pieceF _ _ _ _ _ _ 1 4, pieceF _ _ _ _ _ _ 0 4
      , pieceF _ _ _ _ _ _ 1 3, pieceF _ _ _ _ _ _ 0 3, pieceF _ _ _ _ _ _ 1 2, pieceF _ _ _ _ _ _ 0 2
      , pieceF _ _ _ _ _ _ 1 1, pieceF _ _ _ _ _ _ 0 1, pieceF _ _ _ _ _ _ 1 0, pieceF _ _ _ _ _ _ 0 0
      , trivial⟩

theorem outA8 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 = GB x2 x3 x4 x5 k0_pay5 := by
  have cov := cover0_A_8 c i arg2 harg2 arg3 harg3 arg4 harg4 arg5 harg5 arg6 harg6 arg7 harg7 arg8 harg8 arg9 harg9 arg10 harg10 arg11 harg11 arg12 harg12 hc0 x0 x1 x2 x3 x4 x5 x6
  unfold out0_A_8
  rw [View.read_writes_eq_canon _ _ _ cov]
  funext y
  refine View.canon_apply_of_pieces _ _ (View.PiecesOf.mem ?_) y (cov y)
  clear cov
  unfold kernelRun0_A
  dsimp only
  sl_unfold_words
  simp (discharger := decide) only [↓View.readCov_skip, ↓View.readCov_fill _ _ _ _ _ zoff]
  simp only [View.readAt_eq_ld, harg4.read_unread, harg5.read_unread, harg6.read_unread, harg7.read_unread, harg12.read_unread, ld_row]
  exact ⟨pieceB _ _ _ _ _ 1 7, pieceB _ _ _ _ _ 0 7, pieceB _ _ _ _ _ 1 6, pieceB _ _ _ _ _ 0 6
      , pieceB _ _ _ _ _ 1 5, pieceB _ _ _ _ _ 0 5, pieceB _ _ _ _ _ 1 4, pieceB _ _ _ _ _ 0 4
      , pieceB _ _ _ _ _ 1 3, pieceB _ _ _ _ _ 0 3, pieceB _ _ _ _ _ 1 2, pieceB _ _ _ _ _ 0 2
      , pieceB _ _ _ _ _ 1 1, pieceB _ _ _ _ _ 0 1, pieceB _ _ _ _ _ 1 0, pieceB _ _ _ _ _ 0 0
      , trivial⟩

theorem stA0 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = GS x0 x1 x4 x5 k0_pay4 false := by
  have cov := scover0_A_0 c i arg2 harg2 arg3 harg3 arg4 harg4 arg5 harg5 arg6 harg6 arg7 harg7 arg8 harg8 arg9 harg9 arg10 harg10 arg11 harg11 arg12 harg12 hc0 x0 x1 x2 x3 x4 x5 x6
  unfold sout0_A_0
  rw [View.read_writes_eq_canon _ _ _ cov]
  funext y
  have hc := View.cover_of_tiledL (List.take 16 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1) S1x1x128x128.size (by sl_kernel_rfl) y
  have key := View.canon_append_of_pieces (GS x0 x1 x4 x5 k0_pay4 false) (List.drop 16 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1) (List.take 16 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1) (View.PiecesOf.mem ?_) y hc
  · rw [List.take_append_drop] at key
    exact key
  clear cov hc
  unfold kernelRun0_A
  dsimp only [List.take]
  sl_unfold_words
  simp (discharger := decide) only [↓View.readCov_skip, ↓View.readCov_fill _ _ _ _ _ zoff]
  simp only [View.readAt_eq_ld, harg2.read_unread, harg3.read_unread, harg6.read_unread, harg7.read_unread, harg11.read_unread, ld_row]
  exact ⟨pieceS _ _ _ _ _ false 1 7, pieceS _ _ _ _ _ false 0 7, pieceS _ _ _ _ _ false 1 6, pieceS _ _ _ _ _ false 0 6
      , pieceS _ _ _ _ _ false 1 5, pieceS _ _ _ _ _ false 0 5, pieceS _ _ _ _ _ false 1 4, pieceS _ _ _ _ _ false 0 4
      , pieceS _ _ _ _ _ false 1 3, pieceS _ _ _ _ _ false 0 3, pieceS _ _ _ _ _ false 1 2, pieceS _ _ _ _ _ false 0 2
      , pieceS _ _ _ _ _ false 1 1, pieceS _ _ _ _ _ false 0 1, pieceS _ _ _ _ _ false 1 0, pieceS _ _ _ _ _ false 0 0
      , trivial⟩

theorem stA1 (c : Dev nD) (i : grid0.Coords) (arg2 : Memref sig .tc .vmem S2x128x1536 .bf16) (harg2 : arg2.IsWhole) (arg3 : Memref sig .tc .vmem S2x128x128 .f32) (harg3 : arg3.IsWhole) (arg4 : Memref sig .tc .vmem S2x128x1536 .bf16) (harg4 : arg4.IsWhole) (arg5 : Memref sig .tc .vmem S2x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S2x128x1024 .bf16) (harg9 : arg9.IsWhole) (arg10 : Memref sig .tc .vmem S2x128x1024 .bf16) (harg10 : arg10.IsWhole) (arg11 : Memref sig .tc .vmem S2x8x128x128 .f32) (harg11 : arg11.IsWhole) (arg12 : Memref sig .tc .vmem S2x8x128x128 .f32) (harg12 : arg12.IsWhole) (hc0 : cond0_0 i)
    (x0 : Vec F S2x128x1536 .bf16) (x1 : Vec F S2x128x128 .f32) (x2 : Vec F S2x128x1536 .bf16) (x3 : Vec F S2x128x128 .f32) (x4 : Vec F S1x128 .f32) (x5 : Vec F S1x128 .f32) (x6 : Vec F S1x1024 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = GS x2 x3 x4 x5 k0_pay5 true := by
  have cov := scover0_A_1 c i arg2 harg2 arg3 harg3 arg4 harg4 arg5 harg5 arg6 harg6 arg7 harg7 arg8 harg8 arg9 harg9 arg10 harg10 arg11 harg11 arg12 harg12 hc0 x0 x1 x2 x3 x4 x5 x6
  unfold sout0_A_1
  rw [View.read_writes_eq_canon _ _ _ cov]
  funext y
  have hc := View.cover_of_tiledL (List.take 16 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1) S1x1x128x128.size (by sl_kernel_rfl) y
  have key := View.canon_append_of_pieces (GS x2 x3 x4 x5 k0_pay5 true) (List.drop 16 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1) (List.take 16 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1) (View.PiecesOf.mem ?_) y hc
  · rw [List.take_append_drop] at key
    exact key
  clear cov hc
  unfold kernelRun0_A
  dsimp only [List.take]
  sl_unfold_words
  simp (discharger := decide) only [↓View.readCov_skip, ↓View.readCov_fill _ _ _ _ _ zoff]
  simp only [View.readAt_eq_ld, harg4.read_unread, harg5.read_unread, harg6.read_unread, harg7.read_unread, harg12.read_unread, ld_row]
  exact ⟨pieceS _ _ _ _ _ true 1 7, pieceS _ _ _ _ _ true 0 7, pieceS _ _ _ _ _ true 1 6, pieceS _ _ _ _ _ true 0 6
      , pieceS _ _ _ _ _ true 1 5, pieceS _ _ _ _ _ true 0 5, pieceS _ _ _ _ _ true 1 4, pieceS _ _ _ _ _ true 0 4
      , pieceS _ _ _ _ _ true 1 3, pieceS _ _ _ _ _ true 0 3, pieceS _ _ _ _ _ true 1 2, pieceS _ _ _ _ _ true 0 2
      , pieceS _ _ _ _ _ true 1 1, pieceS _ _ _ _ _ true 0 1, pieceS _ _ _ _ _ true 1 0, pieceS _ _ _ _ _ true 0 0
      , trivial⟩

end Cert.Proof.Pieces

end
-- ==== Proof.Blocks.lean ====
/-
  The kernel's two result arrays: every grid point computes a chunk of each scan, from the states that the point before
  it left, and the points' blocks cover the arrays.
-/
module

public import proofs.«01_k».proof.Proof.Scan
public import proofs.«01_k».proof.Proof.First
public import proofs.«01_k».proof.Proof.Gen.KernelIdeal.Value
public import Idealize.ShloMosaic.Lib.StableHlo.ReadAt

@[expose] public section

noncomputable section

namespace Cert.Proof.Blocks

open Idealize.ShloMosaic Idealize.ShloMosaic.TcCoe Idealize.SL.Sem Cert.KernelIdeal Cert.KernelIdeal.Gen Cert.Proof

variable (m : (ℓ : Loc nD τ sig) → Buf (Elt Ideal) ℓ) (c : Dev nD)

/-- The arguments in core `c`'s memory. -/
def args : Scan.Args where
  x := fun b t l => (m ((c : Thread nD τ).loc main_arg0) : Vec Ideal S8x4352x1536 .bf16) (ix3 b t l)
  u := fun b t l => (m ((c : Thread nD τ).loc main_arg1) : Vec Ideal S8x4352x128 .f32) (ix3 b t l)
  bias := fun d h => (m ((c : Thread nD τ).loc main_arg2) : Vec Ideal S2x16 .f32) (ix2 d h)
  alog := fun d h => (m ((c : Thread nD τ).loc main_arg3) : Vec Ideal S2x16 .f32) (ix2 d h)
  skip := fun h => (m ((c : Thread nD τ).loc main_arg4) : Vec Ideal S16 .f32) (ix1 h)

/-- The row of the batch of a point. -/
def batch (t : Fin cfg0.N) (r : Fin 2) : Fin 8 := ⟨t.val / 34 * 2 + r.val, by have := t.isLt; have : cfg0.N = 136 := N_0; omega⟩

theorem idx0 : ∀ t : Fin cfg0.N, win0_0.index t 0 = t.val / 34 ∧ win0_0.index t 1 = Scan.chunk false (t.val % 34) ∧ win0_0.index t 2 = 0 :=
  (by decide +kernel : ∀ t : Fin grid0.N, win0_0.index t 0 = t.val / 34 ∧ win0_0.index t 1 = Scan.chunk false (t.val % 34) ∧ win0_0.index t 2 = 0)

theorem blk0 (t : Fin cfg0.N) (r : Fin 2) (s : Fin 128) (l : Fin 1536) :
    (iblk m c 0 t : Vec Ideal S2x128x1536 .bf16) (ix3 r s l) = (args m c).x (batch t r) (Scan.row false (t.val % 34) s) l := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 2 + 1 * r.val = t.val / 34 * 2 + r.val; rw [hi.1]; omega
  | ⟨1, _⟩ => show win0_0.index t 1 * 128 + 1 * s.val = (Scan.chunk false (t.val % 34) * 128 + s.val) % 4352; rw [hi.2.1]; simp only [Scan.chunk]; split <;> omega
  | ⟨2, _⟩ => show win0_0.index t 2 * 1536 + 1 * l.val = l.val; rw [hi.2.2]; omega

theorem idx1 : ∀ t : Fin cfg0.N, win0_1.index t 0 = t.val / 34 ∧ win0_1.index t 1 = Scan.chunk false (t.val % 34) ∧ win0_1.index t 2 = 0 :=
  (by decide +kernel : ∀ t : Fin grid0.N, win0_1.index t 0 = t.val / 34 ∧ win0_1.index t 1 = Scan.chunk false (t.val % 34) ∧ win0_1.index t 2 = 0)
theorem idx2 : ∀ t : Fin cfg0.N, win0_2.index t 0 = t.val / 34 ∧ win0_2.index t 1 = Scan.chunk true (t.val % 34) ∧ win0_2.index t 2 = 0 :=
  (by decide +kernel : ∀ t : Fin grid0.N, win0_2.index t 0 = t.val / 34 ∧ win0_2.index t 1 = Scan.chunk true (t.val % 34) ∧ win0_2.index t 2 = 0)
theorem idx3 : ∀ t : Fin cfg0.N, win0_3.index t 0 = t.val / 34 ∧ win0_3.index t 1 = Scan.chunk true (t.val % 34) ∧ win0_3.index t 2 = 0 :=
  (by decide +kernel : ∀ t : Fin grid0.N, win0_3.index t 0 = t.val / 34 ∧ win0_3.index t 1 = Scan.chunk true (t.val % 34) ∧ win0_3.index t 2 = 0)
theorem idx7 : ∀ t : Fin cfg0.N, win0_7.index t 0 = t.val / 34 ∧ win0_7.index t 1 = Scan.chunk false (t.val % 34) ∧ win0_7.index t 2 = 0 :=
  (by decide +kernel : ∀ t : Fin grid0.N, win0_7.index t 0 = t.val / 34 ∧ win0_7.index t 1 = Scan.chunk false (t.val % 34) ∧ win0_7.index t 2 = 0)
theorem idx8 : ∀ t : Fin cfg0.N, win0_8.index t 0 = t.val / 34 ∧ win0_8.index t 1 = Scan.chunk true (t.val % 34) ∧ win0_8.index t 2 = 0 :=
  (by decide +kernel : ∀ t : Fin grid0.N, win0_8.index t 0 = t.val / 34 ∧ win0_8.index t 1 = Scan.chunk true (t.val % 34) ∧ win0_8.index t 2 = 0)

/-- A block's row, as a row of the array. -/
theorem row_val (rev : Bool) (n : ℕ) (s : Fin 128) (hn : n < 34) : (Scan.row rev n s).val = Scan.chunk rev n * 128 + s.val := by
  cases rev <;> simp only [Scan.row, Scan.chunk] <;> (try split) <;> omega

theorem blk1 (t : Fin cfg0.N) (r : Fin 2) (s : Fin 128) (l : Fin 128) :
    (iblk m c 1 t : Vec Ideal S2x128x128 .f32) (ix3 r s l) = (args m c).u (batch t r) (Scan.row false (t.val % 34) s) l := by
  have hi := idx1 t
  unfold iblk
  rw [View.read_apply]
  show V m c main_arg1 _ = m (c.tc.loc main_arg1) _
  rw [V_main_arg1]
  congr 1
  funext a
  apply Fin.ext
  match a with
  | ⟨0, _⟩ => show win0_1.index t 0 * 2 + 1 * r.val = t.val / 34 * 2 + r.val; rw [hi.1]; omega
  | ⟨1, _⟩ => show win0_1.index t 1 * 128 + 1 * s.val = (Scan.row false (t.val % 34) s).val; rw [hi.2.1, row_val _ _ _ (Nat.mod_lt _ (by decide))]; omega
  | ⟨2, _⟩ => show win0_1.index t 2 * 128 + 1 * l.val = l.val; rw [hi.2.2]; omega

theorem blk2 (t : Fin cfg0.N) (r : Fin 2) (s : Fin 128) (l : Fin 1536) :
    (iblk m c 2 t : Vec Ideal S2x128x1536 .bf16) (ix3 r s l) = (args m c).x (batch t r) (Scan.row true (t.val % 34) s) l := by
  have hi := idx2 t
  unfold iblk
  rw [View.read_apply]
  show V m c main_arg0 _ = m (c.tc.loc main_arg0) _
  rw [V_main_arg0]
  congr 1
  funext a
  apply Fin.ext
  match a with
  | ⟨0, _⟩ => show win0_2.index t 0 * 2 + 1 * r.val = t.val / 34 * 2 + r.val; rw [hi.1]; omega
  | ⟨1, _⟩ => show win0_2.index t 1 * 128 + 1 * s.val = (Scan.row true (t.val % 34) s).val; rw [hi.2.1, row_val _ _ _ (Nat.mod_lt _ (by decide))]; omega
  | ⟨2, _⟩ => show win0_2.index t 2 * 1536 + 1 * l.val = l.val; rw [hi.2.2]; omega

theorem blk3 (t : Fin cfg0.N) (r : Fin 2) (s : Fin 128) (l : Fin 128) :
    (iblk m c 3 t : Vec Ideal S2x128x128 .f32) (ix3 r s l) = (args m c).u (batch t r) (Scan.row true (t.val % 34) s) l := by
  have hi := idx3 t
  unfold iblk
  rw [View.read_apply]
  show V m c main_arg1 _ = m (c.tc.loc main_arg1) _
  rw [V_main_arg1]
  congr 1
  funext a
  apply Fin.ext
  match a with
  | ⟨0, _⟩ => show win0_3.index t 0 * 2 + 1 * r.val = t.val / 34 * 2 + r.val; rw [hi.1]; omega
  | ⟨1, _⟩ => show win0_3.index t 1 * 128 + 1 * s.val = (Scan.row true (t.val % 34) s).val; rw [hi.2.1, row_val _ _ _ (Nat.mod_lt _ (by decide))]; omega
  | ⟨2, _⟩ => show win0_3.index t 2 * 128 + 1 * l.val = l.val; rw [hi.2.2]; omega

/-- The padded bias and decay rates, and the skip weights over the lanes. -/
theorem pad1 (d : Bool) (h : Fin 16) : (V m c main_v1 : Vec Ideal S1x128 .f32) (ix2 0 (Scan.col d h)) = (args m c).bias (Scan.dir d) h := by
  unfold V
  after_reads_at
  rw [dif_pos (show (Scan.col d h).val < 32 by cases d <;> simp only [Scan.col, Scan.dir] <;> simp <;> omega)]
  show m _ _ = m _ _
  congr 1
  cases d <;> refine congrArg₂ ix2 (Fin.ext ?_) (Fin.ext ?_) <;> simp only [Scan.col, Scan.dir] <;> simp <;> omega
theorem pad3 (d : Bool) (h : Fin 16) : (V m c main_v3 : Vec Ideal S1x128 .f32) (ix2 0 (Scan.col d h)) = (args m c).alog (Scan.dir d) h := by
  unfold V
  after_reads_at
  rw [dif_pos (show (Scan.col d h).val < 32 by cases d <;> simp only [Scan.col, Scan.dir] <;> simp <;> omega)]
  show m _ _ = m _ _
  congr 1
  cases d <;> refine congrArg₂ ix2 (Fin.ext ?_) (Fin.ext ?_) <;> simp only [Scan.col, Scan.dir] <;> simp <;> omega
theorem pad6 (k : Fin 1024) : (V m c main_v6 : Vec Ideal S1x1024 .f32) (ix2 0 k) = (args m c).skip (Scan.head k) := by
  unfold V
  after_reads_at
  rfl

theorem blk4 (t : Fin cfg0.N) (l : Fin 128) : (iblk m c 4 t : Vec Ideal S1x128 .f32) (ix2 0 l) = (V m c main_v1 : Vec Ideal S1x128 .f32) (ix2 0 l) := by
  unfold iblk
  rw [View.read_apply]
  show V m c main_v1 _ = V m c main_v1 _
  congr 1
  funext a
  apply Fin.ext
  match a with
  | ⟨0, _⟩ => rfl
  | ⟨1, _⟩ => show 0 * 128 + 1 * l.val = l.val; omega
theorem blk5 (t : Fin cfg0.N) (l : Fin 128) : (iblk m c 5 t : Vec Ideal S1x128 .f32) (ix2 0 l) = (V m c main_v3 : Vec Ideal S1x128 .f32) (ix2 0 l) := by
  unfold iblk
  rw [View.read_apply]
  show V m c main_v3 _ = V m c main_v3 _
  congr 1
  funext a
  apply Fin.ext
  match a with
  | ⟨0, _⟩ => rfl
  | ⟨1, _⟩ => show 0 * 128 + 1 * l.val = l.val; omega
theorem blk6 (t : Fin cfg0.N) (l : Fin 1024) : (iblk m c 6 t : Vec Ideal S1x1024 .f32) (ix2 0 l) = (V m c main_v6 : Vec Ideal S1x1024 .f32) (ix2 0 l) := by
  unfold iblk
  rw [View.read_apply]
  show V m c main_v6 _ = V m c main_v6 _
  congr 1
  funext a
  apply Fin.ext
  match a with
  | ⟨0, _⟩ => rfl
  | ⟨1, _⟩ => show 0 * 1024 + 1 * l.val = l.val; omega

/-- At a point the forward buffers hold its chunk, over states that do; the backward ones theirs. -/
theorem holdsF (t : Fin cfg0.N) (r : Fin 2) (S : Vec Ideal S2x8x128x128 .f32)
    (hS : ∀ (q : Fin 8) n (j : Fin 128), S (ix4 r q n j) = Scan.state (args m c) false (batch t r) ⟨q.val * 128 + j.val, by omega⟩ (t.val % 34) n) :
    Scan.Holds (args m c) false (batch t r) (t.val % 34) (iblk m c 0 t) (iblk m c 1 t) (iblk m c 4 t) (iblk m c 5 t) S r :=
  ⟨blk0 m c t r, blk1 m c t r, fun h => (blk4 m c t _).trans (pad1 m c false h), fun h => (blk5 m c t _).trans (pad3 m c false h), hS⟩
theorem holdsB (t : Fin cfg0.N) (r : Fin 2) (S : Vec Ideal S2x8x128x128 .f32)
    (hS : ∀ (q : Fin 8) n (j : Fin 128), S (ix4 r q n j) = Scan.state (args m c) true (batch t r) ⟨q.val * 128 + j.val, by omega⟩ (t.val % 34) n) :
    Scan.Holds (args m c) true (batch t r) (t.val % 34) (iblk m c 2 t) (iblk m c 3 t) (iblk m c 4 t) (iblk m c 5 t) S r :=
  ⟨blk2 m c t r, blk3 m c t r, fun h => (blk4 m c t _).trans (pad1 m c true h), fun h => (blk5 m c t _).trans (pad3 m c true h), hS⟩

/-- What a point leaves: outputs and states of its chunk, from states that hold those of the chunks before it. -/
def Point (t : Fin cfg0.N) : Prop := ∃ S0 S1 : Vec Ideal S2x8x128x128 .f32,
  outsAt0 m c t.val t.isLt = (Pieces.GF (iblk m c 0 t) (iblk m c 1 t) (iblk m c 4 t) (iblk m c 5 t) (iblk m c 6 t) S0,
    Pieces.GB (iblk m c 2 t) (iblk m c 3 t) (iblk m c 4 t) (iblk m c 5 t) S1,
    Pieces.GS (iblk m c 0 t) (iblk m c 1 t) (iblk m c 4 t) (iblk m c 5 t) S0 false,
    Pieces.GS (iblk m c 2 t) (iblk m c 3 t) (iblk m c 4 t) (iblk m c 5 t) S1 true)
  ∧ (∀ r, Scan.Holds (args m c) false (batch t r) (t.val % 34) (iblk m c 0 t) (iblk m c 1 t) (iblk m c 4 t) (iblk m c 5 t) S0 r)
  ∧ (∀ r, Scan.Holds (args m c) true (batch t r) (t.val % 34) (iblk m c 2 t) (iblk m c 3 t) (iblk m c 4 t) (iblk m c 5 t) S1 r)

theorem zero4 (j : S2x8x128x128.Idx) : (k0_pay4 (F := Ideal)) j = (0 : EReal) := by
  unfold k0_pay4
  pointwise
theorem zero5 (j : S2x8x128x128.Idx) : (k0_pay5 (F := Ideal)) j = (0 : EReal) := by
  unfold k0_pay5
  pointwise

/-- A point that begins a sequence. -/
theorem point_first (t : Fin cfg0.N) (h0 : t.val % 34 = 0) : Point m c t := by
  refine ⟨k0_pay4 (F := Ideal), k0_pay5 (F := Ideal), ?_, fun r => holdsF m c t r _ fun q n j => ?_, fun r => holdsB m c t r _ fun q n j => ?_⟩
  · rw [outsAt0_A m c t h0, Pieces.outA7, Pieces.outA8, Pieces.stA0, Pieces.stA1]
  · rw [h0]; exact zero4 _
  · rw [h0]; exact zero5 _

/-- A later point, after the point before it. -/
theorem point_next (t s : Fin cfg0.N) (h0 : ¬t.val % 34 = 0) (hs : s.val = t.val - 1) (P : Point m c s) : Point m c t := by
  obtain ⟨S0, S1, he, hF, hB⟩ := P
  have hst : outsAt0 m c (t.val - 1) (Nat.lt_of_le_of_lt (Nat.sub_le _ _) t.isLt) = outsAt0 m c s.val s.isLt := by
    simp only [hs]
  have hb : ∀ r, batch s r = batch t r := fun r => Fin.ext (by show s.val / 34 * 2 + r.val = t.val / 34 * 2 + r.val; omega)
  have hn : t.val % 34 = s.val % 34 + 1 := by omega
  refine ⟨(outsAt0 m c s.val s.isLt).2.2.1, (outsAt0 m c s.val s.isLt).2.2.2, ?_, fun r => holdsF m c t r _ fun q n j => ?_, fun r => holdsB m c t r _ fun q n j => ?_⟩
  · rw [outsAt0_B m c t h0, Pieces.outB7, Pieces.outB8, Pieces.stB0, Pieces.stB1, hst]
  · rw [he, hn, ← hb r]
    exact Scan.sN_eq (hF r) q j n
  · rw [he, hn, ← hb r]
    exact Scan.sN_eq (hB r) q j n

theorem point (n : ℕ) : ∀ hn : n < cfg0.N, Point m c ⟨n, hn⟩ := by
  induction n with
  | zero => exact fun hn => point_first m c _ rfl
  | succ n ih =>
    intro hn
    by_cases h0 : (n + 1) % 34 = 0
    · exact point_first m c _ h0
    · exact point_next m c _ ⟨n, Nat.lt_of_succ_lt hn⟩ h0 rfl (ih _)

/-! ## The two results -/

def out0 : Vec Ideal S8x4352x1024 .bf16 := fun j => Scan.forward (args m c) (j 0) (j 2) (j 1)
def out1 : Vec Ideal S8x4352x1024 .bf16 := fun j => Scan.scanned (args m c) true (j 0) (j 2) (j 1)

theorem split_col (k : Fin 1024) : (⟨k.val / 128 * 128 + k.val % 128, by omega⟩ : Fin 1024) = k := Fin.ext (by show k.val / 128 * 128 + k.val % 128 = k.val; omega)

theorem left0 (t : Fin cfg0.N) (r : Fin 2) (s : Fin 128) (k : Fin 1024) :
    (outsAt0 m c t.val t.isLt).1 (ix3 r s k) = Scan.forward (args m c) (batch t r) k (Scan.row false (t.val % 34) s) := by
  obtain ⟨S0, S1, he, hF, hB⟩ := point m c t.val t.isLt
  rw [he]
  show Chain.yF _ _ _ _ _ _ r ⟨k.val / 128, _⟩ (ix3 0 s ⟨k.val % 128, _⟩) = _
  rw [Chain.yF_at, Scan.rowY_eq (hF r)]
  unfold Scan.forward
  rw [Scan.scanned_row _ _ _ _ _ (Nat.mod_lt _ (by decide)), blk6, pad6]
  simp only [split_col]
  refine congrArg _ (congrArg _ ?_)
  exact ((hF r).x s _).trans (congrArg _ (Fin.ext (by show k.val / 128 * 128 + k.val % 128 = k.val; omega)))
theorem left1 (t : Fin cfg0.N) (r : Fin 2) (s : Fin 128) (k : Fin 1024) :
    (outsAt0 m c t.val t.isLt).2.1 (ix3 r s k) = Scan.scanned (args m c) true (batch t r) k (Scan.row true (t.val % 34) s) := by
  obtain ⟨S0, S1, he, hF, hB⟩ := point m c t.val t.isLt
  rw [he]
  show Chain.yB _ _ _ _ _ r ⟨k.val / 128, _⟩ (ix3 0 s ⟨k.val % 128, _⟩) = _
  rw [Chain.yB_at, Scan.rowY_eq (hB r), Scan.scanned_row _ _ _ _ _ (Nat.mod_lt _ (by decide))]
  simp only [split_col]

theorem flushed_out0 (t : Fin cfg0.N) (hf : (cfg0.win 7).flush t = true) :
    (dats m 0 c).flushed 7 t = ((cfg0.win 7).blk t).view.read (Elt Ideal) (out0 m c) := by
  rw [Value.flushed7]
  have hi := idx7 t
  funext j
  rw [View.read_apply]
  obtain ⟨r, s, k, rfl⟩ : ∃ (r : Fin 2) (s : Fin 128) (k : Fin 1024), j = ix3 r s k := ⟨j 0, j 1, j 2, by funext a; match a with | ⟨0, _⟩ => rfl | ⟨1, _⟩ => rfl | ⟨2, _⟩ => rfl⟩
  refine (left0 m c t r s k).trans ?_
  show out0 m c (ix3 (batch t r) (Scan.row false (t.val % 34) s) k) = out0 m c _
  congr 1
  funext a
  apply Fin.ext
  match a with
  | ⟨0, _⟩ => show t.val / 34 * 2 + r.val = win0_7.index t 0 * 2 + 1 * r.val; rw [hi.1]; omega
  | ⟨1, _⟩ => show (Scan.row false (t.val % 34) s).val = win0_7.index t 1 * 128 + 1 * s.val; rw [hi.2.1, row_val _ _ _ (Nat.mod_lt _ (by decide))]; omega
  | ⟨2, _⟩ => show k.val = win0_7.index t 2 * 1024 + 1 * k.val; rw [hi.2.2]; omega
theorem flushed_out1 (t : Fin cfg0.N) (hf : (cfg0.win 8).flush t = true) :
    (dats m 0 c).flushed 8 t = ((cfg0.win 8).blk t).view.read (Elt Ideal) (out1 m c) := by
  rw [Value.flushed8]
  have hi := idx8 t
  funext j
  rw [View.read_apply]
  obtain ⟨r, s, k, rfl⟩ : ∃ (r : Fin 2) (s : Fin 128) (k : Fin 1024), j = ix3 r s k := ⟨j 0, j 1, j 2, by funext a; match a with | ⟨0, _⟩ => rfl | ⟨1, _⟩ => rfl | ⟨2, _⟩ => rfl⟩
  refine (left1 m c t r s k).trans ?_
  show out1 m c (ix3 (batch t r) (Scan.row true (t.val % 34) s) k) = out1 m c _
  congr 1
  funext a
  apply Fin.ext
  match a with
  | ⟨0, _⟩ => show t.val / 34 * 2 + r.val = win0_8.index t 0 * 2 + 1 * r.val; rw [hi.1]; omega
  | ⟨1, _⟩ => show (Scan.row true (t.val % 34) s).val = win0_8.index t 1 * 128 + 1 * s.val; rw [hi.2.1, row_val _ _ _ (Nat.mod_lt _ (by decide))]; omega
  | ⟨2, _⟩ => show k.val = win0_8.index t 2 * 1024 + 1 * k.val; rw [hi.2.2]; omega

/-- The point that writes an index. -/
def writer (rev : Bool) (i : S8x4352x1024.Idx) : Fin cfg0.N := ⟨(i 0).val / 2 * 34 + Scan.ord rev (i 1), by
  have := Scan.ord_lt rev (i 1); have h0 : (i 0).val < 8 := (i 0).isLt; have : cfg0.N = 136 := N_0; omega⟩
theorem writer_chunk (rev : Bool) (i : S8x4352x1024.Idx) : (writer rev i).val / 34 = (i 0).val / 2 ∧ Scan.chunk rev ((writer rev i).val % 34) = (i 1).val / 128 := by
  have h1 : (i 1).val < 4352 := (i 1).isLt
  have hl := Scan.ord_lt rev (i 1)
  have hm : (writer rev i).val % 34 = Scan.ord rev (i 1) := by show ((i 0).val / 2 * 34 + Scan.ord rev (i 1)) % 34 = _; omega
  refine ⟨by show ((i 0).val / 2 * 34 + Scan.ord rev (i 1)) / 34 = _; omega, ?_⟩
  rw [hm]
  cases rev <;> simp only [Scan.ord, Scan.chunk] <;> (try split_ifs) <;> omega

theorem final0 : (dats m 0 c).arrAt 7 cfg0.N = out0 m c :=
  (dats m 0 c).arrAt_eq_of_cover 7 (out0 m c) (flushed_out0 m c) fun i =>
    ⟨writer false i, flush0_7 _, by
      show i ∈ ((View.whole main_v7_0).slice (win0_7.rect (writer false i))).set
      rw [View.set_slice_whole, Rect.mem_set_unit]
      have hi := idx7 (writer false i)
      obtain ⟨hw0, hw1⟩ := writer_chunk false i
      have h0 : (i 0 : Nat) < 8 := (i 0).isLt
      have h1 : (i 1 : Nat) < 4352 := (i 1).isLt
      have h2 : (i 2 : Nat) < 1024 := (i 2).isLt
      intro a
      match a with
      | ⟨0, _⟩ => show win0_7.index (writer false i) 0 * 2 ≤ (i 0 : Nat) ∧ (i 0 : Nat) < win0_7.index (writer false i) 0 * 2 + 2; rw [hi.1]; omega
      | ⟨1, _⟩ => show win0_7.index (writer false i) 1 * 128 ≤ (i 1 : Nat) ∧ (i 1 : Nat) < win0_7.index (writer false i) 1 * 128 + 128; rw [hi.2.1]; omega
      | ⟨2, _⟩ => show win0_7.index (writer false i) 2 * 1024 ≤ (i 2 : Nat) ∧ (i 2 : Nat) < win0_7.index (writer false i) 2 * 1024 + 1024; rw [hi.2.2]; omega⟩
theorem final1 : (dats m 0 c).arrAt 8 cfg0.N = out1 m c :=
  (dats m 0 c).arrAt_eq_of_cover 8 (out1 m c) (flushed_out1 m c) fun i =>
    ⟨writer true i, flush0_8 _, by
      show i ∈ ((View.whole main_v7_1).slice (win0_8.rect (writer true i))).set
      rw [View.set_slice_whole, Rect.mem_set_unit]
      have hi := idx8 (writer true i)
      obtain ⟨hw0, hw1⟩ := writer_chunk true i
      have h0 : (i 0 : Nat) < 8 := (i 0).isLt
      have h1 : (i 1 : Nat) < 4352 := (i 1).isLt
      have h2 : (i 2 : Nat) < 1024 := (i 2).isLt
      intro a
      match a with
      | ⟨0, _⟩ => show win0_8.index (writer true i) 0 * 2 ≤ (i 0 : Nat) ∧ (i 0 : Nat) < win0_8.index (writer true i) 0 * 2 + 2; rw [hi.1]; omega
      | ⟨1, _⟩ => show win0_8.index (writer true i) 1 * 128 ≤ (i 1 : Nat) ∧ (i 1 : Nat) < win0_8.index (writer true i) 1 * 128 + 128; rw [hi.2.1]; omega
      | ⟨2, _⟩ => show win0_8.index (writer true i) 2 * 1024 ≤ (i 2 : Nat) ∧ (i 2 : Nat) < win0_8.index (writer true i) 2 * 1024 + 1024; rw [hi.2.2]; omega⟩

end Cert.Proof.Blocks

end
-- ==== Proof.Cumsum.lean ====
/-
  The reference's running sums along the last axis are the sums of the elements up to an index.
-/
module

public import proofs.«01_k».proof.Proof.Spec
public import Idealize.ShloMosaic.Lib.PointwiseCore

@[expose] public section

noncomputable section

namespace Cert.Proof.Spec

open Idealize.ShloMosaic

theorem foldl_add {ι : Type} (f : ι → EReal) (l : List ι) (v : EReal) : l.foldl (fun r n => r + f n) v = v + (l.map f).sum := by
  induction l generalizing v with
  | nil => simp
  | cons n l ih => rw [List.foldl_cons, ih, List.map_cons, List.sum_cons, add_assoc]

/-- The window's elements that lie in the array are those up to the index. -/
theorem window_sum (a : V) (l : Fin 128) :
    (∑ w : Fin 128, if h : 127 ≤ l.val + w.val then a ⟨l.val + w.val - 127, by omega⟩ else 0) = runSum a l := by
  have e1 : (∑ w : Fin 128, if h : 127 ≤ l.val + w.val then a ⟨l.val + w.val - 127, by omega⟩ else 0)
      = ∑ w : Fin 128 with 127 ≤ l.val + w.val, a ⟨l.val + w.val - 127, by omega⟩ := by
    rw [Finset.sum_filter]
    exact Finset.sum_congr rfl fun w _ => by split <;> rfl
  rw [e1]
  unfold runSum
  rw [← Finset.sum_filter]
  refine Finset.sum_nbij' (fun w => ⟨l.val + w.val - 127, by omega⟩) (fun s => ⟨(s.val + 127 - l.val) % 128, Nat.mod_lt _ (by decide)⟩) ?_ ?_ ?_ ?_ ?_
  · intro w hw
    simp only [Finset.mem_filter, Finset.mem_univ, true_and] at hw ⊢
    omega
  · intro s hs
    simp only [Finset.mem_filter, Finset.mem_univ, true_and] at hs ⊢
    omega
  · intro w hw
    simp only [Finset.mem_filter, Finset.mem_univ, true_and] at hw
    apply Fin.ext
    show (l.val + w.val - 127 + 127 - l.val) % 128 = w.val
    omega
  · intro s hs
    simp only [Finset.mem_filter, Finset.mem_univ, true_and] at hs
    apply Fin.ext
    show l.val + (s.val + 127 - l.val) % 128 - 127 = s.val
    omega
  · intro w hw
    rfl

theorem sum_last (f : Shape.Idx ⟨4, ![1, 1, 1, 128]⟩ → EReal) : (∑ w, f w) = ∑ s : Fin 128, f (ix4 0 0 0 s) := by
  symm
  refine Fintype.sum_bijective (fun s : Fin 128 => (ix4 0 0 0 s : Shape.Idx ⟨4, ![1, 1, 1, 128]⟩)) ⟨?_, ?_⟩ _ _ fun _ => rfl
  · intro s t h
    exact congrFun h 3
  · intro w
    refine ⟨w 3, ?_⟩
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem cumsum_at {a0 a1 a2 : ℕ} {u : Shape} (x : FVec Ideal ⟨4, ![a0, a1, a2, 128]⟩ .f32) (init : u.Idx → EReal)
    (h : Shape.ReduceWindows ⟨4, ![a0, a1, a2, 128]⟩ ![1, 1, 1, 128] ![1, 1, 1, 1] ![0, 0, 0, 127] ![0, 0, 0, 0] ⟨4, ![a0, a1, a2, 128]⟩)
    (hu : 0 < u.numel) (hi : ∀ i, init i = 0) (i0 : Fin a0) (i1 : Fin a1) (i2 : Fin a2) (l : Fin 128) :
    Host.reduceWindowAdd ![1, 1, 1, 128] ![1, 1, 1, 1] ![0, 0, 0, 127] ![0, 0, 0, 0] x init h hu (ix4 i0 i1 i2 l)
      = runSum (fun s => x (ix4 i0 i1 i2 s)) l := by
  show Host.reduceWindow (fun r y : EReal => r + y) ![1, 1, 1, 128] ![1, 1, 1, 1] ![0, 0, 0, 127] ![0, 0, 0, 0] x (fun _ : u.Idx => init (Shape.Idx.first hu)) h hu _ = _
  unfold Host.reduceWindow
  dsimp only
  rw [foldl_add, hi, zero_add, ← Fin.sum_univ_def]
  have key : ∀ G : Shape.Idx ⟨4, ![1, 1, 1, 128]⟩ → EReal,
      (∑ n, G ((Shape.rowMajor ⟨4, ![1, 1, 1, 128]⟩).symm n)) = ∑ s : Fin 128, G (ix4 0 0 0 s) :=
    fun G => (Equiv.sum_comp _ G).trans (sum_last G)
  have hG := key fun w => if hin : ∀ a : Fin 4, (![0, 0, 0, 127] : Fin 4 → ℕ) a ≤ (ix4 i0 i1 i2 l a).val * (![1, 1, 1, 1] : Fin 4 → ℕ) a + (w a).val
      ∧ (ix4 i0 i1 i2 l a).val * (![1, 1, 1, 1] : Fin 4 → ℕ) a + (w a).val - (![0, 0, 0, 127] : Fin 4 → ℕ) a < (![a0, a1, a2, 128] : Fin 4 → ℕ) a
      then x (fun a => ⟨(ix4 i0 i1 i2 l a).val * (![1, 1, 1, 1] : Fin 4 → ℕ) a + (w a).val - (![0, 0, 0, 127] : Fin 4 → ℕ) a, (hin a).2⟩) else 0
  refine Eq.trans (Finset.sum_congr rfl fun n _ => dite_congr rfl (fun _ => rfl) (fun _ => rfl)) (hG.trans ?_)
  clear hG key
  rw [← window_sum]
  refine Finset.sum_congr rfl fun w _ => ?_
  by_cases hw : 127 ≤ l.val + w.val
  · rw [dif_pos hw, dif_pos]
    · congr 1
      funext a
      apply Fin.ext
      match a with
      | ⟨0, _⟩ => show i0.val * 1 + 0 - 0 = i0.val; omega
      | ⟨1, _⟩ => show i1.val * 1 + 0 - 0 = i1.val; omega
      | ⟨2, _⟩ => show i2.val * 1 + 0 - 0 = i2.val; omega
      | ⟨3, _⟩ => show l.val * 1 + w.val - 127 = l.val + w.val - 127; omega
    · intro a
      match a with
      | ⟨0, _⟩ => show 0 ≤ i0.val * 1 + 0 ∧ i0.val * 1 + 0 - 0 < a0; omega
      | ⟨1, _⟩ => show 0 ≤ i1.val * 1 + 0 ∧ i1.val * 1 + 0 - 0 < a1; omega
      | ⟨2, _⟩ => show 0 ≤ i2.val * 1 + 0 ∧ i2.val * 1 + 0 - 0 < a2; omega
      | ⟨3, _⟩ => show 127 ≤ l.val * 1 + w.val ∧ l.val * 1 + w.val - 127 < 128; omega
  · rw [dif_neg hw, dif_neg]
    intro h
    have h3 : 127 ≤ l.val * 1 + w.val := (h 3).1
    omega

end Cert.Proof.Spec

end
-- ==== Proof.Trip.lean ====
/-
  One trip of the reference's loop, element by element: the outputs and the state of one chunk of the scan.
-/
module

public import proofs.«01_k».proof.Defs
public import proofs.«01_k».proof.Proof.Cumsum
public import proofs.«01_k».proof.Proof.Gen.ReferenceIdeal.Step
public import Idealize.ShloMosaic.Lib.DynamicIndex
public import Idealize.ShloMosaic.Lib.WordCmp
public import Idealize.ShloMosaic.Lib.Pipeline.Value

@[expose] public section

noncomputable section

namespace Cert.Proof.Trip

open Idealize.ShloMosaic Cert.ReferenceIdeal Cert.ReferenceIdeal.Gen Cert.ReferenceIdeal.Step Cert.Proof

variable (k : ℕ) (s : Step.State Ideal) (hk : k < 34)
  (B : Fin 16) (g : Fin 2) (r : Fin 8) (p : Fin 64)

/-- Trip `k`'s slices of the four scanned arrays, for one row of the batch and one lane of a head. -/
def xs : Spec.V := fun l => s.main_v86_0 (ix6 ⟨k, hk⟩ B l g r p)
def ds : Spec.V := fun l => s.main_v86_1 (ix5 ⟨k, hk⟩ B g r l)
def bs : Fin 128 → Spec.V := fun l n => s.main_v86_2 (ix5 ⟨k, hk⟩ B l g n)
def cs : Fin 128 → Spec.V := fun l n => s.main_v86_3 (ix5 ⟨k, hk⟩ B l g n)
def hs : Spec.V := fun n => s.main_v86_5 (ix5 B g r p n)

theorem start_k (hk : k < 34) : (BitVec.ofNat 32 k).toInt = (k : Int) := toInt_ofNat_of_lt (by omega)

theorem b6_at (l : Fin 128) : b6 k s (ix5 B l g r p) = xs k s hk B g r p l := by
  unfold b6
  have hoff : Shape.Slices S34x16x128x2x8x64 ![k, 0, 0, 0, 0, 0] S1x16x128x2x8x64 :=
    ⟨rfl, fun a => by fin_cases a <;> first | exact (show k + 1 ≤ 34 by omega) | exact Nat.le_of_eq rfl⟩
  have e : b5 k s = extractStridedSlice S1x16x128x2x8x64 ![k, 0, 0, 0, 0, 0] s.main_v86_0 hoff :=
    Host.dynamicSlice_eq_extractStridedSlice _ _ _ _ _ _
      (fun a => by fin_cases a <;> first | exact start_k k hk | rfl)
  rw [e]
  pointwise [xs]
theorem b12_at (l : Fin 128) : b12 k s (ix4 B g r l) = ds k s hk B g r l := by
  unfold b12
  have hoff : Shape.Slices S34x16x2x8x128 ![k, 0, 0, 0, 0] S1x16x2x8x128 :=
    ⟨rfl, fun a => by fin_cases a <;> first | exact (show k + 1 ≤ 34 by omega) | exact Nat.le_of_eq rfl⟩
  have e : b11 k s = extractStridedSlice S1x16x2x8x128 ![k, 0, 0, 0, 0] s.main_v86_1 hoff :=
    Host.dynamicSlice_eq_extractStridedSlice _ _ _ _ _ _
      (fun a => by fin_cases a <;> first | exact start_k k hk | rfl)
  rw [e]
  pointwise [ds]
theorem b18_at (l n : Fin 128) : b18 k s (ix4 B l g n) = bs k s hk B g l n := by
  unfold b18
  have hoff : Shape.Slices S34x16x128x2x128 ![k, 0, 0, 0, 0] S1x16x128x2x128 :=
    ⟨rfl, fun a => by fin_cases a <;> first | exact (show k + 1 ≤ 34 by omega) | exact Nat.le_of_eq rfl⟩
  have e : b17 k s = extractStridedSlice S1x16x128x2x128 ![k, 0, 0, 0, 0] s.main_v86_2 hoff :=
    Host.dynamicSlice_eq_extractStridedSlice _ _ _ _ _ _
      (fun a => by fin_cases a <;> first | exact start_k k hk | rfl)
  rw [e]
  pointwise [bs]
theorem b24_at (l n : Fin 128) : b24 k s (ix4 B l g n) = cs k s hk B g l n := by
  unfold b24
  have hoff : Shape.Slices S34x16x128x2x128 ![k, 0, 0, 0, 0] S1x16x128x2x128 :=
    ⟨rfl, fun a => by fin_cases a <;> first | exact (show k + 1 ≤ 34 by omega) | exact Nat.le_of_eq rfl⟩
  have e : b23 k s = extractStridedSlice S1x16x128x2x128 ![k, 0, 0, 0, 0] s.main_v86_3 hoff :=
    Host.dynamicSlice_eq_extractStridedSlice _ _ _ _ _ _
      (fun a => by fin_cases a <;> first | exact start_k k hk | rfl)
  rw [e]
  pointwise [cs]

theorem b27_at (l : Fin 128) : b27 k s (ix4 B g r l) = Spec.runSum (ds k s hk B g r) l := by
  unfold b27
  refine (Spec.cumsum_at _ _ _ _ (fun i => by pointwise [b26, b25]) _ _ _ _).trans ?_
  exact congrArg (fun a => Spec.runSum a l) (funext fun t => b12_at k s hk B g r t)

theorem b49_at (l t : Fin 128) : b49 k s (ix5 B g r l t)
    = if t.val ≤ l.val then Ideal.exp (Spec.runSum (ds k s hk B g r) l - Spec.runSum (ds k s hk B g r) t) else 0 := by
  pointwise [b49, b48, b47, b46, b45, b44, b43, b42, b41, b40, b39, b38, b37, b36, b35, b34, b33, b32, b31, b30, b29, b28]
  rw [show IntOp.addi (BitVec.ofNat 32 l.val) 0#32 = BitVec.ofNat 32 l.val from BitVec.add_zero _,
    WordCmp.cmpi_sge_ofNat (w := 32) (by have := l.isLt; omega) (by have := t.isLt; omega)]
  simp only [b27_at k s hk]
  by_cases h : t.val ≤ l.val
  · rw [if_pos h, decide_eq_true h]; rfl
  · rw [if_neg h, decide_eq_false h]
    show Ideal.exp (Ideal.ofBits FTy.f32 4286578688#32) = 0
    rw [show Ideal.ofBits FTy.f32 4286578688#32 = ⊥ by simp [Ideal.ofBits, Ideal.ieee], Ideal.exp_bot]

theorem b76_at (n : Fin 128) : b76 k s (ix5 B g r p n)
    = Spec.posS (bs k s hk B g) (ds k s hk B g r) (xs k s hk B g r p) (hs s B g r p) n := by
  pointwise [b76, b75, b74, b73, b72, b71, b70, b55, b56, b57, b58, b59, b60, b61, b62, b63]
  simp only [b27_at k s hk, b18_at k s hk, b6_at k s hk]
  rfl

theorem b77_at (l : Fin 128) : b77 k s (ix5 B g r l p)
    = Spec.posY (cs k s hk B g) (bs k s hk B g) (ds k s hk B g r) (xs k s hk B g r p) (hs s B g r p) l := by
  pointwise [b77, b69, b68, b67, b66, b65, b64, b54, b53, b52, b51, b50]
  simp only [b49_at k s hk, b27_at k s hk, b18_at k s hk, b24_at k s hk, b6_at k s hk]
  rfl

include hk in
/-- The outputs after the trip: the chunk's are written. -/
theorem b84_at (c : Fin 34) (l : Fin 128) : b84 k s (ix6 c B g r l p) = if c.val = k then b77 k s (ix5 B g r l p) else s.main_v86_6 (ix6 c B g r l p) := by
  have hoff : Shape.Slices S34x16x2x8x128x64 ![k, 0, 0, 0, 0, 0] S1x16x2x8x128x64 :=
    ⟨rfl, fun a => by fin_cases a <;> first | exact (show k + 1 ≤ 34 by omega) | exact Nat.le_of_eq rfl⟩
  have e : b84 k s = updateSlice s.main_v86_6 (b78 k s) ![k, 0, 0, 0, 0, 0] hoff :=
    Host.dynamicUpdateSlice_eq_updateSlice _ _ _ _ _
      (fun a => by
        fin_cases a
        · show (min (max (BitVec.ofNat 32 k).toInt 0) ((34 - 1 : ℕ) : Int)).toNat = k
          rw [start_k k hk]; omega
        all_goals rfl) _
  rw [e]
  pointwise [b78]
  simp only [show (k ≤ c.val ∧ c.val < k + 1) = (c.val = k) from propext (by omega)]
  split_ifs <;> rfl

end Cert.Proof.Trip

end
-- ==== Proof.Arrange.lean ====
/-
  The arrays the reference scans, element by element: the two directions stacked on the batch, each in the order in which it goes through the tokens, cut into chunks.
-/
module

public import proofs.«01_k».proof.Defs
public import proofs.«01_k».proof.Proof.Scan
public import proofs.«01_k».proof.Proof.Gen.ReferenceIdeal.Step
public import Idealize.ShloMosaic.Lib.PointwiseCore
public import Idealize.ShloMosaic.Lib.ValueIdxRank6
public import Idealize.ShloMosaic.Lib.Pipeline.Value

@[expose] public section

noncomputable section

namespace Cert.Proof.Arrange

open Idealize.ShloMosaic Cert.ReferenceIdeal Cert.ReferenceIdeal.Gen Cert.ReferenceIdeal.Step Cert.Proof

/-- The token at place `t` of a direction's order: the context and then the latent tokens, or all tokens backwards. -/
def token (rev : Bool) (t : Fin 4352) : Fin 4352 := match rev with
  | false => ⟨if t.val < 256 then 4096 + t.val else t.val - 256, by split_ifs <;> omega⟩
  | true => t.rev
/-- A direction's row of the batch in the stacked arrays, the place of row `l` of chunk `c`, the lane of a group's head. -/
def both (rev : Bool) (b : Fin 8) : Fin 16 := ⟨8 * (Scan.dir rev).val + b.val, by have := (Scan.dir rev).isLt; omega⟩
def place (c : Fin 34) (l : Fin 128) : Fin 4352 := ⟨c.val * 128 + l.val, by omega⟩
def lane (g : Fin 2) (r : Fin 8) (p : Fin 64) : Fin 1024 := ⟨g.val * 512 + (r.val * 64 + p.val), by omega⟩
def hd (g : Fin 2) (r : Fin 8) : Fin 16 := ⟨g.val * 8 + r.val, by omega⟩

theorem token_place (rev : Bool) (c : Fin 34) (l : Fin 128) : token rev (place c l) = Scan.row rev c (Spec.turn rev l) := by
  apply Fin.ext
  cases rev
  · show (if c.val * 128 + l.val < 256 then 4096 + (c.val * 128 + l.val) else c.val * 128 + l.val - 256)
      = ((if c.val < 2 then 32 + c.val else c.val - 2) * 128 + l.val) % 4352
    split_ifs <;> omega
  · have h : (Spec.turn true l).val = 128 - (l.val + 1) := by simp only [Spec.turn, Fin.revPerm_apply, Fin.val_rev]
    simp only [token, place, Fin.val_rev, Scan.row, Scan.chunk, h]
    omega
theorem head_lane (g : Fin 2) (r : Fin 8) (p : Fin 64) : Scan.head (lane g r p) = hd g r :=
  Fin.ext (show (g.val * 512 + (r.val * 64 + p.val)) / 64 = g.val * 8 + r.val by omega)
theorem lane_group (g : Fin 2) (r : Fin 8) (p : Fin 64) : (lane g r p).val / 512 = g.val :=
  show (g.val * 512 + (r.val * 64 + p.val)) / 512 = g.val by omega

variable (x0 : (⟨S8x4352x1536, .bf16⟩ : BufTy).Contents (Elt Ideal)) (x1 : (⟨S8x4352x128, .f32⟩ : BufTy).Contents (Elt Ideal))
  (x2 x3 : (⟨S2x16, .f32⟩ : BufTy).Contents (Elt Ideal)) (x4 : (⟨S16, .f32⟩ : BufTy).Contents (Elt Ideal))

/-- The arguments, element by element. -/
def args : Scan.Args where
  x := fun b t l => x0 (ix3 b t l)
  u := fun b t l => x1 (ix3 b t l)
  bias := fun d h => x2 (ix2 d h)
  alog := fun d h => x3 (ix2 d h)
  skip := fun h => x4 (ix1 h)

variable (rev : Bool) (b : Fin 8) (t : Fin 4352) (g : Fin 2) (r : Fin 8) (p : Fin 64) (n : Fin 128) (d : Fin 2)
  (c : Fin 34) (l : Fin 128) (B : Fin 16)

/-! The arguments cut into heads and groups. -/

theorem v2_at : A_main_v2 x0 x1 x2 x3 (ix5 b t g r p) = x0 (ix3 b t ⟨(lane g r p).val, by omega⟩) := by
  pointwise [A_main_v2, A_main_v1, A_main_v0]
  exact congrArg (fun q => x0 (ix3 b t q)) (Fin.ext (Nat.add_assoc _ _ _))
theorem v5_at : A_main_v5 x0 x1 x2 x3 (ix4 b t g n) = x0 (ix3 b t ⟨1024 + g.val * 128 + n.val, by omega⟩) := by
  pointwise [A_main_v5, A_main_v4, A_main_v3]
  exact congrArg (fun q => x0 (ix3 b t q)) (Fin.ext (Nat.add_assoc _ _ _).symm)
theorem v8_at : A_main_v8 x0 x1 x2 x3 (ix4 b t g n) = x0 (ix3 b t ⟨1280 + g.val * 128 + n.val, by omega⟩) := by
  pointwise [A_main_v8, A_main_v7, A_main_v6]
  exact congrArg (fun q => x0 (ix3 b t q)) (Fin.ext (Nat.add_assoc _ _ _).symm)
theorem v15_at : A_main_v15 x0 x1 x2 x3 (ix5 b t (Scan.dir rev) g r)
    = Spec.sp (x1 (ix3 b t (Scan.col rev (hd g r))) + x2 (ix2 (Scan.dir rev) (hd g r))) := by
  pointwise [A_main_v15, A_main_v14, A_main_v13, A_main_v12, A_main_v11, A_main_v10, A_main_v9, A_main_call0_v1,
    A_main_call0_v3, A_main_call0_v4, A_main_call0_v6, A_main_call0_v7, A_main_call0_v8, A_main_call0_v9, A_main_call0_v10,
    A_main_call0_v11, K_main_call0_cst, K_main_call0_v0, K_main_call0_v2, K_main_call0_v5]
  rw [if_neg (not_not.2 rfl)]
  have e : Scan.col rev (hd g r) = ⟨(Scan.dir rev).val * 16 + (g.val * 8 + r.val), by have := (Scan.dir rev).isLt; omega⟩ :=
    Fin.ext (congrArg (· + _) (Nat.mul_comm _ _))
  rw [e, Spec.sp, zero_sub (FloatOps.absf (F := Ideal) (φ := .f32) _)]
  rfl

/-! What each direction scans, before it is put in order. -/

theorem v24_at : A_main_v24 x0 x1 x2 x3 (ix5 b t g r p) = A_main_v2 x0 x1 x2 x3 (ix5 b t g r p) * A_main_v15 x0 x1 x2 x3 (ix5 b t 0 g r) := by
  pointwise [A_main_v24, A_main_v23, A_main_v22, A_main_v19, A_main_v18]
theorem v27_at : A_main_v27 x0 x1 x2 x3 (ix5 b t g r p) = A_main_v2 x0 x1 x2 x3 (ix5 b t g r p) * A_main_v15 x0 x1 x2 x3 (ix5 b t 1 g r) := by
  pointwise [A_main_v27, A_main_v26, A_main_v25, A_main_v21, A_main_v20]
theorem v42_at : A_main_v42 x0 x1 x2 x3 (ix4 b t g r) = A_main_v15 x0 x1 x2 x3 (ix5 b t 0 g r) * (0 - Ideal.exp (x3 (ix2 0 (hd g r)))) := by
  pointwise [A_main_v42, A_main_v41, A_main_v40, A_main_v39, A_main_v38, A_main_v37, A_main_v17, A_main_v16, A_main_v19, A_main_v18]
  rw [zero_sub (Ideal.exp _)]
  rfl
theorem v48_at : A_main_v48 x0 x1 x2 x3 (ix4 b t g r) = A_main_v15 x0 x1 x2 x3 (ix5 b t 1 g r) * (0 - Ideal.exp (x3 (ix2 1 (hd g r)))) := by
  pointwise [A_main_v48, A_main_v47, A_main_v46, A_main_v45, A_main_v44, A_main_v43, A_main_v17, A_main_v16, A_main_v21, A_main_v20]
  rw [zero_sub (Ideal.exp _)]
  rfl

/-! The two orders. -/

theorem v30_at : A_main_v30 x0 x1 x2 x3 (ix5 b t g r p) = A_main_v24 x0 x1 x2 x3 (ix5 b (token false t) g r p) := by
  pointwise [A_main_v30, A_main_v29, A_main_v28]
  by_cases h : t.val < 256
  · rw [dif_pos h]
    exact congrArg (fun q => A_main_v24 x0 x1 x2 x3 (ix5 b q g r p)) (Fin.ext (if_pos h).symm)
  · rw [dif_neg h]
    exact congrArg (fun q => A_main_v24 x0 x1 x2 x3 (ix5 b q g r p)) (Fin.ext (if_neg h).symm)
theorem v35_at : A_main_v35 x0 x1 x2 x3 (ix5 b t g r p) = A_main_v27 x0 x1 x2 x3 (ix5 b (token true t) g r p) := by
  pointwise [A_main_v35, A_main_v34, A_main_v33, A_main_v32, A_main_v31]
  by_cases h : t.val < 256
  · rw [dif_pos h]
    exact congrArg (fun q => A_main_v27 x0 x1 x2 x3 (ix5 b q g r p)) (Fin.ext (show 4096 + (256 - (t.val + 1)) = 4352 - (t.val + 1) by omega))
  · rw [dif_neg h]
    exact congrArg (fun q => A_main_v27 x0 x1 x2 x3 (ix5 b q g r p)) (Fin.ext (show 4096 - (t.val - 256 + 1) = 4352 - (t.val + 1) by omega))
theorem v36_at : A_main_v36 x0 x1 x2 x3 (ix5 (both rev b) t g r p)
    = match rev with | false => A_main_v24 x0 x1 x2 x3 (ix5 b (token false t) g r p) | true => A_main_v27 x0 x1 x2 x3 (ix5 b (token true t) g r p) := by
  pointwise [A_main_v36]
  cases rev
  · refine (dif_pos (show 8 * 0 + b.val < 8 by omega)).trans ?_
    refine (congrArg (fun q => A_main_v30 x0 x1 x2 x3 (ix5 q t g r p)) (Fin.ext (show 8 * 0 + b.val = b.val by omega))).trans ?_
    exact v30_at x0 x1 x2 x3 b t g r p
  · refine (dif_neg (show ¬8 * 1 + b.val < 8 by omega)).trans ?_
    refine (congrArg (fun q => A_main_v35 x0 x1 x2 x3 (ix5 q t g r p)) (Fin.ext (show 8 * 1 + b.val - 8 = b.val by omega))).trans ?_
    exact v35_at x0 x1 x2 x3 b t g r p
theorem v51_at : A_main_v51 x0 x1 x2 x3 (ix4 b t g r) = A_main_v42 x0 x1 x2 x3 (ix4 b (token false t) g r) := by
  pointwise [A_main_v51, A_main_v50, A_main_v49]
  by_cases h : t.val < 256
  · rw [dif_pos h]
    exact congrArg (fun q => A_main_v42 x0 x1 x2 x3 (ix4 b q g r)) (Fin.ext (if_pos h).symm)
  · rw [dif_neg h]
    exact congrArg (fun q => A_main_v42 x0 x1 x2 x3 (ix4 b q g r)) (Fin.ext (if_neg h).symm)
theorem v56_at : A_main_v56 x0 x1 x2 x3 (ix4 b t g r) = A_main_v48 x0 x1 x2 x3 (ix4 b (token true t) g r) := by
  pointwise [A_main_v56, A_main_v55, A_main_v54, A_main_v53, A_main_v52]
  by_cases h : t.val < 256
  · rw [dif_pos h]
    exact congrArg (fun q => A_main_v48 x0 x1 x2 x3 (ix4 b q g r)) (Fin.ext (show 4096 + (256 - (t.val + 1)) = 4352 - (t.val + 1) by omega))
  · rw [dif_neg h]
    exact congrArg (fun q => A_main_v48 x0 x1 x2 x3 (ix4 b q g r)) (Fin.ext (show 4096 - (t.val - 256 + 1) = 4352 - (t.val + 1) by omega))
theorem v57_at : A_main_v57 x0 x1 x2 x3 (ix4 (both rev b) t g r)
    = match rev with | false => A_main_v42 x0 x1 x2 x3 (ix4 b (token false t) g r) | true => A_main_v48 x0 x1 x2 x3 (ix4 b (token true t) g r) := by
  pointwise [A_main_v57]
  cases rev
  · refine (dif_pos (show 8 * 0 + b.val < 8 by omega)).trans ?_
    refine (congrArg (fun q => A_main_v51 x0 x1 x2 x3 (ix4 q t g r)) (Fin.ext (show 8 * 0 + b.val = b.val by omega))).trans ?_
    exact v51_at x0 x1 x2 x3 b t g r
  · refine (dif_neg (show ¬8 * 1 + b.val < 8 by omega)).trans ?_
    refine (congrArg (fun q => A_main_v56 x0 x1 x2 x3 (ix4 q t g r)) (Fin.ext (show 8 * 1 + b.val - 8 = b.val by omega))).trans ?_
    exact v56_at x0 x1 x2 x3 b t g r
theorem v60_at : A_main_v60 x0 x1 x2 x3 (ix4 b t g n) = A_main_v5 x0 x1 x2 x3 (ix4 b (token false t) g n) := by
  pointwise [A_main_v60, A_main_v59, A_main_v58]
  by_cases h : t.val < 256
  · rw [dif_pos h]
    exact congrArg (fun q => A_main_v5 x0 x1 x2 x3 (ix4 b q g n)) (Fin.ext (if_pos h).symm)
  · rw [dif_neg h]
    exact congrArg (fun q => A_main_v5 x0 x1 x2 x3 (ix4 b q g n)) (Fin.ext (if_neg h).symm)
theorem v65_at : A_main_v65 x0 x1 x2 x3 (ix4 b t g n) = A_main_v5 x0 x1 x2 x3 (ix4 b (token true t) g n) := by
  pointwise [A_main_v65, A_main_v64, A_main_v63, A_main_v62, A_main_v61]
  by_cases h : t.val < 256
  · rw [dif_pos h]
    exact congrArg (fun q => A_main_v5 x0 x1 x2 x3 (ix4 b q g n)) (Fin.ext (show 4096 + (256 - (t.val + 1)) = 4352 - (t.val + 1) by omega))
  · rw [dif_neg h]
    exact congrArg (fun q => A_main_v5 x0 x1 x2 x3 (ix4 b q g n)) (Fin.ext (show 4096 - (t.val - 256 + 1) = 4352 - (t.val + 1) by omega))
theorem v66_at : A_main_v66 x0 x1 x2 x3 (ix4 (both rev b) t g n)
    = match rev with | false => A_main_v5 x0 x1 x2 x3 (ix4 b (token false t) g n) | true => A_main_v5 x0 x1 x2 x3 (ix4 b (token true t) g n) := by
  pointwise [A_main_v66]
  cases rev
  · refine (dif_pos (show 8 * 0 + b.val < 8 by omega)).trans ?_
    refine (congrArg (fun q => A_main_v60 x0 x1 x2 x3 (ix4 q t g n)) (Fin.ext (show 8 * 0 + b.val = b.val by omega))).trans ?_
    exact v60_at x0 x1 x2 x3 b t g n
  · refine (dif_neg (show ¬8 * 1 + b.val < 8 by omega)).trans ?_
    refine (congrArg (fun q => A_main_v65 x0 x1 x2 x3 (ix4 q t g n)) (Fin.ext (show 8 * 1 + b.val - 8 = b.val by omega))).trans ?_
    exact v65_at x0 x1 x2 x3 b t g n
theorem v69_at : A_main_v69 x0 x1 x2 x3 (ix4 b t g n) = A_main_v8 x0 x1 x2 x3 (ix4 b (token false t) g n) := by
  pointwise [A_main_v69, A_main_v68, A_main_v67]
  by_cases h : t.val < 256
  · rw [dif_pos h]
    exact congrArg (fun q => A_main_v8 x0 x1 x2 x3 (ix4 b q g n)) (Fin.ext (if_pos h).symm)
  · rw [dif_neg h]
    exact congrArg (fun q => A_main_v8 x0 x1 x2 x3 (ix4 b q g n)) (Fin.ext (if_neg h).symm)
theorem v74_at : A_main_v74 x0 x1 x2 x3 (ix4 b t g n) = A_main_v8 x0 x1 x2 x3 (ix4 b (token true t) g n) := by
  pointwise [A_main_v74, A_main_v73, A_main_v72, A_main_v71, A_main_v70]
  by_cases h : t.val < 256
  · rw [dif_pos h]
    exact congrArg (fun q => A_main_v8 x0 x1 x2 x3 (ix4 b q g n)) (Fin.ext (show 4096 + (256 - (t.val + 1)) = 4352 - (t.val + 1) by omega))
  · rw [dif_neg h]
    exact congrArg (fun q => A_main_v8 x0 x1 x2 x3 (ix4 b q g n)) (Fin.ext (show 4096 - (t.val - 256 + 1) = 4352 - (t.val + 1) by omega))
theorem v75_at : A_main_v75 x0 x1 x2 x3 (ix4 (both rev b) t g n)
    = match rev with | false => A_main_v8 x0 x1 x2 x3 (ix4 b (token false t) g n) | true => A_main_v8 x0 x1 x2 x3 (ix4 b (token true t) g n) := by
  pointwise [A_main_v75]
  cases rev
  · refine (dif_pos (show 8 * 0 + b.val < 8 by omega)).trans ?_
    refine (congrArg (fun q => A_main_v69 x0 x1 x2 x3 (ix4 q t g n)) (Fin.ext (show 8 * 0 + b.val = b.val by omega))).trans ?_
    exact v69_at x0 x1 x2 x3 b t g n
  · refine (dif_neg (show ¬8 * 1 + b.val < 8 by omega)).trans ?_
    refine (congrArg (fun q => A_main_v74 x0 x1 x2 x3 (ix4 q t g n)) (Fin.ext (show 8 * 1 + b.val - 8 = b.val by omega))).trans ?_
    exact v74_at x0 x1 x2 x3 b t g n

/-! Cut into chunks. -/

theorem v78_at : A_main_v78 x0 x1 x2 x3 (ix6 c B l g r p) = A_main_v36 x0 x1 x2 x3 (ix5 B (place c l) g r p) := by
  unfold A_main_v78 A_main_v77
  refine (transpose_apply _ _ _ (ix6 c B l g r p) (ix6 B c l g r p) fun a => match a with
    | ⟨0, _⟩ => rfl | ⟨1, _⟩ => rfl | ⟨2, _⟩ => rfl | ⟨3, _⟩ => rfl | ⟨4, _⟩ => rfl | ⟨5, _⟩ => rfl).trans ?_
  refine shapeCast_apply _ _ (ix6 B c l g r p) (ix5 B (place c l) g r p) ?_
  rw [Shape.rowMajor_val_six, Shape.rowMajor_val_five]
  show (((B.val * 4352 + (c.val * 128 + l.val)) * 2 + g.val) * 8 + r.val) * 64 + p.val
    = ((((B.val * 34 + c.val) * 128 + l.val) * 2 + g.val) * 8 + r.val) * 64 + p.val
  omega
theorem v84_at : A_main_v84 x0 x1 x2 x3 (ix5 c B g r l) = A_main_v57 x0 x1 x2 x3 (ix4 B (place c l) g r) := by
  unfold A_main_v84 A_main_v83
  refine (transpose_apply _ _ _ (ix5 c B g r l) (ix5 B c l g r) fun a => match a with
    | ⟨0, _⟩ => rfl | ⟨1, _⟩ => rfl | ⟨2, _⟩ => rfl | ⟨3, _⟩ => rfl | ⟨4, _⟩ => rfl).trans ?_
  refine shapeCast_apply _ _ (ix5 B c l g r) (ix4 B (place c l) g r) ?_
  rw [Shape.rowMajor_val_five, Shape.rowMajor_val_four]
  show ((B.val * 4352 + (c.val * 128 + l.val)) * 2 + g.val) * 8 + r.val
    = (((B.val * 34 + c.val) * 128 + l.val) * 2 + g.val) * 8 + r.val
  omega
/-- The same of both `B` and `C`. -/
theorem chunked (x : Vec Ideal S16x4352x2x128 .f32) :
    transpose S34x16x128x2x128 [1, 0, 2, 3, 4] (shapeCast _ x shapeCasts_S16x4352x2x128_S16x34x128x2x128)
      transposes_S16x34x128x2x128_S34x16x128x2x128_1_0_2_3_4 (ix5 c B l g n) = x (ix4 B (place c l) g n) := by
  refine (transpose_apply _ _ _ (ix5 c B l g n) (ix5 B c l g n) fun a => match a with
    | ⟨0, _⟩ => rfl | ⟨1, _⟩ => rfl | ⟨2, _⟩ => rfl | ⟨3, _⟩ => rfl | ⟨4, _⟩ => rfl).trans ?_
  refine shapeCast_apply _ _ (ix5 B c l g n) (ix4 B (place c l) g n) ?_
  rw [Shape.rowMajor_val_five, Shape.rowMajor_val_four]
  show ((B.val * 4352 + (c.val * 128 + l.val)) * 2 + g.val) * 128 + n.val
    = (((B.val * 34 + c.val) * 128 + l.val) * 2 + g.val) * 128 + n.val
  omega

/-! The scanned arrays. -/

theorem xs_at : A_main_v78 x0 x1 x2 x3 (ix6 c (both rev b) l g r p)
    = Scan.xV (args x0 x1 x2 x3 x4) rev b (lane g r p) c (Spec.turn rev l) * Scan.dV (args x0 x1 x2 x3 x4) rev b (lane g r p) c (Spec.turn rev l) := by
  rw [v78_at, v36_at]
  simp only [Scan.xV, Scan.dV, head_lane, ← token_place]
  cases rev
  · exact (v24_at ..).trans (congrArg₂ _ (v2_at ..) (v15_at x0 x1 x2 x3 false ..))
  · exact (v27_at ..).trans (congrArg₂ _ (v2_at ..) (v15_at x0 x1 x2 x3 true ..))
theorem as_at : A_main_v84 x0 x1 x2 x3 (ix5 c (both rev b) g r l)
    = Scan.aV (args x0 x1 x2 x3 x4) rev b (lane g r p) c (Spec.turn rev l) := by
  rw [v84_at, v57_at]
  simp only [Scan.aV, Scan.dV, head_lane, ← token_place]
  cases rev
  · exact (v42_at ..).trans (congrArg (· * _) (v15_at x0 x1 x2 x3 false ..))
  · exact (v48_at ..).trans (congrArg (· * _) (v15_at x0 x1 x2 x3 true ..))
theorem bs_at : A_main_v80 x0 x1 x2 x3 (ix5 c (both rev b) l g n)
    = Scan.bV (args x0 x1 x2 x3 x4) rev b (lane g r p) c (Spec.turn rev l) n := by
  refine (chunked ..).trans ?_
  rw [v66_at]
  simp only [Scan.bV, lane_group, ← token_place]
  cases rev <;> exact v5_at ..
theorem cs_at : A_main_v82 x0 x1 x2 x3 (ix5 c (both rev b) l g n)
    = Scan.cV (args x0 x1 x2 x3 x4) rev b (lane g r p) c (Spec.turn rev l) n := by
  refine (chunked ..).trans ?_
  rw [v75_at]
  simp only [Scan.cV, lane_group, ← token_place]
  cases rev <;> exact v8_at ..

end Cert.Proof.Arrange

end
-- ==== Proof.Loop.lean ====
/-
  The reference's loop: what a trip makes of what the loop carries, what the loop begins with, and, by induction over the trips, the states and outputs of the two scans.
-/
module

public import proofs.«01_k».proof.Defs
public import proofs.«01_k».proof.Proof.Trip
public import proofs.«01_k».proof.Proof.Arrange
public import proofs.«01_k».proof.Proof.Gen.ReferenceIdeal.Run

@[expose] public section

noncomputable section

namespace Cert.Proof.Loop

open Idealize.ShloMosaic Idealize.ShloMosaic.TcCoe Idealize.SL.Sem Idealize.ShloMosaic.StableHlo Cert.ReferenceIdeal
  Cert.ReferenceIdeal.Gen Cert.ReferenceIdeal.Value Cert.Proof

/-- Two arrays laid end to end, as a function of the two. -/
def cat2 {α : Type} (t : Shape) (a : Fin t.rank) (s₁ s₂ : Shape) (x : s₁.Idx → α) (y : s₂.Idx → α)
    (h : Shape.Concatenates [s₁, s₂] t a) : t.Idx → α := concatenate t a [⟨s₁, x⟩, ⟨s₂, y⟩] h
theorem cat2_eq {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = cat2 t a s₁ s₂ x y h := rfl

section
variable {F : FTy → Type} [FloatOps F] (m : (ℓ : Loc nD τ sig) → Buf (Elt F) ℓ) (c : Dev nD)

/-! What the loop begins with. -/

set_option maxRecDepth 65536 in
theorem entry_0 : entryContents preI m c (Proc.devRef .tc main_v86_0) = Step.A_main_v78 (m ((c.tc : Thread nD τ).loc main_arg0))
    (m ((c.tc : Thread nD τ).loc main_arg1)) (m ((c.tc : Thread nD τ).loc main_arg2)) (m ((c.tc : Thread nD τ).loc main_arg3)) := by
  simp only [entryContents, afterL_cons, afterL_nil]; after_reads_simp [cat2_eq]
  rfl
set_option maxRecDepth 65536 in
theorem entry_1 : entryContents preI m c (Proc.devRef .tc main_v86_1) = Step.A_main_v84 (m ((c.tc : Thread nD τ).loc main_arg0))
    (m ((c.tc : Thread nD τ).loc main_arg1)) (m ((c.tc : Thread nD τ).loc main_arg2)) (m ((c.tc : Thread nD τ).loc main_arg3)) := by
  simp only [entryContents, afterL_cons, afterL_nil]; after_reads_simp [cat2_eq]
  rfl
set_option maxRecDepth 65536 in
theorem entry_2 : entryContents preI m c (Proc.devRef .tc main_v86_2) = Step.A_main_v80 (m ((c.tc : Thread nD τ).loc main_arg0))
    (m ((c.tc : Thread nD τ).loc main_arg1)) (m ((c.tc : Thread nD τ).loc main_arg2)) (m ((c.tc : Thread nD τ).loc main_arg3)) := by
  simp only [entryContents, afterL_cons, afterL_nil]; after_reads_simp [cat2_eq]
  rfl
set_option maxRecDepth 65536 in
theorem entry_3 : entryContents preI m c (Proc.devRef .tc main_v86_3) = Step.A_main_v82 (m ((c.tc : Thread nD τ).loc main_arg0))
    (m ((c.tc : Thread nD τ).loc main_arg1)) (m ((c.tc : Thread nD τ).loc main_arg2)) (m ((c.tc : Thread nD τ).loc main_arg3)) := by
  simp only [entryContents, afterL_cons, afterL_nil]; after_reads_simp [cat2_eq]
  rfl
set_option maxRecDepth 65536 in
theorem entry_5 : entryContents preI m c (Proc.devRef .tc main_v86_5) = Step.K_main_v76 (F := F) := by
  simp only [entryContents, afterL_cons, afterL_nil]; after_reads_simp [cat2_eq]
  rfl
set_option maxRecDepth 65536 in
theorem entry_6 : entryContents preI m c (Proc.devRef .tc main_v86_6) = Step.K_main_v85 (F := F) := by
  simp only [entryContents, afterL_cons, afterL_nil]; after_reads_simp [cat2_eq]
  rfl

/-! One trip, of what it finds. -/

/-- What the loop carries, but the counter. -/
def st (V : Valuation τ sig (Elt F)) : Step.State F where
  main_v86_5 := V (Proc.devRef .tc main_v86_5)
  main_v86_6 := V (Proc.devRef .tc main_v86_6)
  main_v86_0 := V (Proc.devRef .tc main_v86_0)
  main_v86_1 := V (Proc.devRef .tc main_v86_1)
  main_v86_2 := V (Proc.devRef .tc main_v86_2)
  main_v86_3 := V (Proc.devRef .tc main_v86_3)

variable (V : Valuation τ sig (Elt F)) (k : ℕ) (h : V (Proc.devRef .tc main_v86_4) = fun _ => (BitVec.ofNat 32 k : BitVec 32))
include h

theorem step_4 : step_main_v86_4 V = fun _ => (BitVec.ofNat 32 (k + 1) : BitVec 32) := by
  unfold step_main_v86_4
  rw [h]
  funext i
  show BitVec.ofNat 32 k + 1#32 = BitVec.ofNat 32 (k + 1)
  exact (BitVec.ofNat_add k 1).symm
set_option maxRecDepth 65536 in
theorem step_5 : step_main_v86_5 V = Step.b76 k (st V) := by
  unfold step_main_v86_5 res_main_while0b_v111 res_main_while0b_v113 res_main_while0b_v115
  rw [h]
  rfl
set_option maxRecDepth 65536 in
theorem step_6 : step_main_v86_6 V = Step.b84 k (st V) := by
  unfold step_main_v86_6 res_main_while0b_v111 res_main_while0b_v113 res_main_while0b_v114 res_main_while0b_v115
  rw [h]
  rfl
end

section
variable (m : (ℓ : Loc nD τ sig) → Buf (Elt Ideal) ℓ) (c : Dev nD)

/-- The arguments in core `c`'s memory. -/
def args : Scan.Args := Arrange.args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

/-- What the loop carries after `k` trips. -/
structure After (k : ℕ) (V : Valuation τ sig (Elt Ideal)) : Prop where
  counter : V (Proc.devRef .tc main_v86_4) = fun _ => (BitVec.ofNat 32 k : BitVec 32)
  x : V (Proc.devRef .tc main_v86_0) = entryContents preI m c (Proc.devRef .tc main_v86_0)
  a : V (Proc.devRef .tc main_v86_1) = entryContents preI m c (Proc.devRef .tc main_v86_1)
  inB : V (Proc.devRef .tc main_v86_2) = entryContents preI m c (Proc.devRef .tc main_v86_2)
  inC : V (Proc.devRef .tc main_v86_3) = entryContents preI m c (Proc.devRef .tc main_v86_3)
  state : ∀ (rev : Bool) (b : Fin 8) (g : Fin 2) (r : Fin 8) (p : Fin 64) (n : Fin 128),
    (st V).main_v86_5 (ix5 (Arrange.both rev b) g r p n) = Scan.state (args m c) rev b (Arrange.lane g r p) k n
  out : ∀ (rev : Bool) (b : Fin 8) (g : Fin 2) (r : Fin 8) (p : Fin 64) (l : Fin 128) (i : Fin 34), i.val < k →
    (st V).main_v86_6 (ix6 i (Arrange.both rev b) g r l p) = Scan.out (args m c) rev b (Arrange.lane g r p) i.val (Spec.turn rev l)

variable {m c}
variable {V : Valuation τ sig (Elt Ideal)} {k : ℕ} (H : After m c k V) (hk : k < 34) (rev : Bool) (b : Fin 8) (g : Fin 2) (r : Fin 8) (p : Fin 64)
include H

theorem xs_eq : Trip.xs k (st V) hk (Arrange.both rev b) g r p = fun l => Scan.xV (args m c) rev b (Arrange.lane g r p) k (Spec.turn rev l)
    * Scan.dV (args m c) rev b (Arrange.lane g r p) k (Spec.turn rev l) :=
  funext fun l => (congrFun (H.x.trans (entry_0 m c)) _).trans (Arrange.xs_at _ _ _ _ _ rev b g r p ⟨k, hk⟩ l)
theorem ds_eq : Trip.ds k (st V) hk (Arrange.both rev b) g r = fun l => Scan.aV (args m c) rev b (Arrange.lane g r p) k (Spec.turn rev l) :=
  funext fun l => (congrFun (H.a.trans (entry_1 m c)) _).trans (Arrange.as_at _ _ _ _ _ rev b g r p ⟨k, hk⟩ l)
theorem bs_eq : Trip.bs k (st V) hk (Arrange.both rev b) g = fun l => Scan.bV (args m c) rev b (Arrange.lane g r p) k (Spec.turn rev l) :=
  funext fun l => funext fun n => (congrFun (H.inB.trans (entry_2 m c)) _).trans (Arrange.bs_at _ _ _ _ _ rev b g r p n ⟨k, hk⟩ l)
theorem cs_eq : Trip.cs k (st V) hk (Arrange.both rev b) g = fun l => Scan.cV (args m c) rev b (Arrange.lane g r p) k (Spec.turn rev l) :=
  funext fun l => funext fun n => (congrFun (H.inC.trans (entry_3 m c)) _).trans (Arrange.cs_at _ _ _ _ _ rev b g r p n ⟨k, hk⟩ l)
theorem hs_eq : Trip.hs (st V) (Arrange.both rev b) g r p = Scan.state (args m c) rev b (Arrange.lane g r p) k :=
  funext fun n => H.state rev b g r p n

include hk in
theorem After.next : After m c (k + 1) (STEP V) where
  counter := (STEP_main_v86_4 V).trans (step_4 V k H.counter)
  x := (STEP_main_v86_0 V).trans H.x
  a := (STEP_main_v86_1 V).trans H.a
  inB := (STEP_main_v86_2 V).trans H.inB
  inC := (STEP_main_v86_3 V).trans H.inC
  state rev b g r p n := by
    have e : (st (STEP V)).main_v86_5 = Step.b76 k (st V) := (STEP_main_v86_5 V).trans (step_5 V k H.counter)
    rw [e, Trip.b76_at k (st V) hk, bs_eq H hk rev b g r p, ds_eq H hk rev b g r p, xs_eq H hk rev b g r p, hs_eq H rev b g r p]
    rw [Scan.state, Spec.rowS_turn]
    rfl
  out rev b g r p l i hi := by
    have e : (st (STEP V)).main_v86_6 = Step.b84 k (st V) := (STEP_main_v86_6 V).trans (step_6 V k H.counter)
    rw [e, Trip.b84_at k (st V) hk]
    by_cases h : i.val = k
    · rw [if_pos h, Trip.b77_at k (st V) hk, cs_eq H hk rev b g r p, bs_eq H hk rev b g r p, ds_eq H hk rev b g r p, xs_eq H hk rev b g r p,
        hs_eq H rev b g r p, h]
      rw [Scan.out, Spec.rowY_turn]
      rfl
    · rw [if_neg h]
      exact H.out rev b g r p l i (by omega)

omit H in
theorem after_entry : After m c 0 (entryContents preI m c) where
  counter := ctr_entry m c
  x := rfl
  a := rfl
  inB := rfl
  inC := rfl
  state rev b g r p n := by
    refine (congrFun (entry_5 m c) _).trans ?_
    pointwise [Step.K_main_v76, Step.K_main_cst, Scan.state]
  out rev b g r p l i hi := absurd hi (Nat.not_lt_zero _)
omit H in
theorem after_all : ∀ k, k ≤ 34 → After m c k (STEP^[k] (entryContents preI m c))
  | 0, _ => after_entry
  | k + 1, hk => by
    rw [Function.iterate_succ_apply']
    exact (after_all k (by omega)).next (by omega)
end

end Cert.Proof.Loop

end
-- ==== Proof.Results.lean ====
/-
  The reference's two results, element by element: the outputs of the two scans put back in the order of the tokens, with the skip added to the forward one.
-/
module

public import proofs.«01_k».proof.Defs
public import proofs.«01_k».proof.Proof.Loop

@[expose] public section

noncomputable section

namespace Cert.Proof.Results

open Idealize.ShloMosaic Idealize.ShloMosaic.TcCoe Idealize.SL.Sem Idealize.ShloMosaic.StableHlo Cert.ReferenceIdeal
  Cert.ReferenceIdeal.Gen Cert.ReferenceIdeal.Value Cert.Proof Cert.Proof.Arrange

/-- The place of token `t` in a direction's order. -/
def placed (rev : Bool) (t : Fin 4352) : Fin 4352 := match rev with
  | false => ⟨if t.val < 4096 then 256 + t.val else t.val - 4096, by split_ifs <;> omega⟩
  | true => t.rev

theorem placed_div (rev : Bool) (t : Fin 4352) : (placed rev t).val / 128 = Scan.ord rev t := by
  cases rev
  · simp only [placed, Scan.ord]
    split_ifs <;> omega
  · simp only [placed, Scan.ord, Fin.val_rev]
    omega
theorem placed_mod (rev : Bool) (t : Fin 4352) :
    Spec.turn rev ⟨(placed rev t).val % 128, Nat.mod_lt _ (by decide)⟩ = ⟨t.val % 128, Nat.mod_lt _ (by decide)⟩ := by
  apply Fin.ext
  cases rev
  · show (if t.val < 4096 then 256 + t.val else t.val - 4096) % 128 = t.val % 128
    split_ifs <;> omega
  · simp only [Spec.turn, Fin.revPerm_apply, Fin.val_rev, placed]
    omega

section
variable (rev : Bool) (b : Fin 8) (t : Fin 4352) (g : Fin 2) (r : Fin 8) (p : Fin 64) (B : Fin 16)

/-- The heads' lanes side by side. -/
theorem flat (x : Vec Ideal S8x4352x2x8x64 .f32) :
    shapeCast S8x4352x1024 x shapeCasts_S8x4352x2x8x64_S8x4352x1024 (ix3 b t (lane g r p)) = x (ix5 b t g r p) := by
  refine shapeCast_apply _ _ (ix3 b t (lane g r p)) (ix5 b t g r p) ?_
  rw [Shape.rowMajor_val_five, Shape.rowMajor_val_three]
  show (((b.val * 4352 + t.val) * 2 + g.val) * 8 + r.val) * 64 + p.val = (b.val * 4352 + t.val) * 1024 + (g.val * 512 + (r.val * 64 + p.val))
  omega

/-- The chunks' outputs laid end to end. -/
def joined (y : Vec Ideal S34x16x2x8x128x64 .f32) : Vec Ideal S16x4352x2x8x64 .f32 :=
  shapeCast _ (transpose S16x34x128x2x8x64 [1, 0, 4, 2, 3, 5] y transposes_S34x16x2x8x128x64_S16x34x128x2x8x64_1_0_4_2_3_5)
    shapeCasts_S16x34x128x2x8x64_S16x4352x2x8x64
theorem joined_at (y : Vec Ideal S34x16x2x8x128x64 .f32) :
    joined y (ix5 B t g r p) = y (ix6 ⟨t.val / 128, by omega⟩ B g r ⟨t.val % 128, Nat.mod_lt _ (by decide)⟩ p) := by
  unfold joined
  refine (shapeCast_apply _ _ (ix5 B t g r p) (ix6 B ⟨t.val / 128, by omega⟩ ⟨t.val % 128, Nat.mod_lt _ (by decide)⟩ g r p) ?_).trans ?_
  · rw [Shape.rowMajor_val_six, Shape.rowMajor_val_five]
    show ((((B.val * 34 + t.val / 128) * 128 + t.val % 128) * 2 + g.val) * 8 + r.val) * 64 + p.val
      = (((B.val * 4352 + t.val) * 2 + g.val) * 8 + r.val) * 64 + p.val
    omega
  · exact transpose_apply _ _ _ _ (ix6 ⟨t.val / 128, by omega⟩ B g r ⟨t.val % 128, Nat.mod_lt _ (by decide)⟩ p) fun a => match a with
      | ⟨0, _⟩ => rfl | ⟨1, _⟩ => rfl | ⟨2, _⟩ => rfl | ⟨3, _⟩ => rfl | ⟨4, _⟩ => rfl | ⟨5, _⟩ => rfl

/-- A direction's rows of the batch, its tokens in the order of memory. -/
def fwd (y : Vec Ideal S16x4352x2x8x64 .f32) : Vec Ideal S8x4352x2x8x64 .f32 :=
  concatenate S8x4352x2x8x64 1 [⟨S8x4096x2x8x64, (extractStridedSlice S8x4096x2x8x64 ![0, 256, 0, 0, 0] (extractStridedSlice S8x4352x2x8x64 ![0, 0, 0, 0, 0] y slices_S16x4352x2x8x64_S8x4352x2x8x64_0_0_0_0_0) slices_S8x4352x2x8x64_S8x4096x2x8x64_0_256_0_0_0)⟩, ⟨S8x256x2x8x64, (extractStridedSlice S8x256x2x8x64 ![0, 0, 0, 0, 0] (extractStridedSlice S8x4352x2x8x64 ![0, 0, 0, 0, 0] y slices_S16x4352x2x8x64_S8x4352x2x8x64_0_0_0_0_0) slices_S8x4352x2x8x64_S8x256x2x8x64_0_0_0_0_0)⟩] concatenates_S8x4096x2x8x64_S8x256x2x8x64_S8x4352x2x8x64_d1
def bwd (y : Vec Ideal S16x4352x2x8x64 .f32) : Vec Ideal S8x4352x2x8x64 .f32 :=
  concatenate S8x4352x2x8x64 1 [⟨S8x4096x2x8x64, (Host.reverse [1] (extractStridedSlice S8x4096x2x8x64 ![0, 256, 0, 0, 0] (extractStridedSlice S8x4352x2x8x64 ![8, 0, 0, 0, 0] y slices_S16x4352x2x8x64_S8x4352x2x8x64_8_0_0_0_0) slices_S8x4352x2x8x64_S8x4096x2x8x64_0_256_0_0_0))⟩, ⟨S8x256x2x8x64, (Host.reverse [1] (extractStridedSlice S8x256x2x8x64 ![0, 0, 0, 0, 0] (extractStridedSlice S8x4352x2x8x64 ![8, 0, 0, 0, 0] y slices_S16x4352x2x8x64_S8x4352x2x8x64_8_0_0_0_0) slices_S8x4352x2x8x64_S8x256x2x8x64_0_0_0_0_0))⟩] concatenates_S8x4096x2x8x64_S8x256x2x8x64_S8x4352x2x8x64_d1
theorem fwd_at (y : Vec Ideal S16x4352x2x8x64 .f32) : fwd y (ix5 b t g r p) = y (ix5 (both false b) (placed false t) g r p) := by
  pointwise [fwd]
  by_cases h : t.val < 4096
  · refine (dif_pos h).trans ?_
    exact congrArg₂ (fun i j => y (ix5 i j g r p)) (Fin.ext (by show b.val = 8 * 0 + b.val; omega)) (Fin.ext (if_pos h).symm)
  · refine (dif_neg h).trans ?_
    exact congrArg₂ (fun i j => y (ix5 i j g r p)) (Fin.ext (by show b.val = 8 * 0 + b.val; omega)) (Fin.ext (if_neg h).symm)
theorem bwd_at (y : Vec Ideal S16x4352x2x8x64 .f32) : bwd y (ix5 b t g r p) = y (ix5 (both true b) (placed true t) g r p) := by
  pointwise [bwd]
  by_cases h : t.val < 4096
  · refine (dif_pos h).trans ?_
    exact congrArg₂ (fun i j => y (ix5 i j g r p)) (Fin.ext (by show 8 + b.val = 8 * 1 + b.val; omega))
      (Fin.ext (by show 256 + (4096 - (t.val + 1)) = 4352 - (t.val + 1); omega))
  · refine (dif_neg h).trans ?_
    exact congrArg₂ (fun i j => y (ix5 i j g r p)) (Fin.ext (by show 8 + b.val = 8 * 1 + b.val; omega))
      (Fin.ext (by show 256 - (t.val - 4096 + 1) = 4352 - (t.val + 1); omega))

/-- The skip: each head's weight times the token's values. -/
def skip (x0 : FVec Ideal S8x4352x1536 .bf16) (x4 : FVec Ideal S16 .f32) : FVec Ideal S8x4352x2x8x64 .f32 :=
  mulf (broadcastInDim S8x4352x2x8x64 ![0, 1, 2, 3, 4] bcast_S1x1x2x8x1_S8x4352x2x8x64_0_1_2_3_4 (broadcastInDim S1x1x2x8x1 ![2, 3, 4] bcast_S2x8x1_S1x1x2x8x1_2_3_4 (shapeCast _ x4 shapeCasts_S16_S2x8x1))) (shapeCast _ (extf .f32 (extractStridedSlice S8x4352x1024 ![0, 0, 0] x0 slices_S8x4352x1536_S8x4352x1024_0_0_0) bitsLt_bf16_f32) shapeCasts_S8x4352x1024_S8x4352x2x8x64)
theorem skip_at (x0 : FVec Ideal S8x4352x1536 .bf16) (x4 : FVec Ideal S16 .f32) :
    skip x0 x4 (ix5 b t g r p) = x4 (ix1 (hd g r)) * x0 (ix3 b t ⟨(lane g r p).val, by omega⟩) := by
  pointwise [skip]
  exact congrArg (fun q => x4 (ix1 (hd g r)) * x0 (ix3 b t q)) (Fin.ext (Nat.add_assoc _ _ _))
end

variable (m : (ℓ : Loc nD τ sig) → Buf (Elt Ideal) ℓ) (c : Dev nD) (b : Fin 8) (t : Fin 4352) (g : Fin 2) (r : Fin 8) (p : Fin 64)

theorem scanned_at {V : Valuation τ sig (Elt Ideal)} (H : Loop.After m c 34 V) (rev : Bool) :
    joined (V (Proc.devRef .tc main_v86_6)) (ix5 (both rev b) (placed rev t) g r p) = Scan.scanned (Loop.args m c) rev b (lane g r p) t := by
  have h := H.out rev b g r p ⟨(placed rev t).val % 128, Nat.mod_lt _ (by decide)⟩
    ⟨(placed rev t).val / 128, by omega⟩ (show (placed rev t).val / 128 < 34 by omega)
  rw [placed_mod] at h
  refine (joined_at ..).trans (h.trans ?_)
  show Scan.out _ _ _ _ ((placed rev t).val / 128) _ = _
  rw [placed_div]
  rfl

theorem v108_at : (out_main_v108 (STEP^[34] (entryContents preI m c)) : Vec Ideal S8x4352x1024 .bf16) (ix3 b t (lane g r p))
    = Scan.forward (Loop.args m c) b (lane g r p) t := by
  have e : (out_main_v108 (STEP^[34] (entryContents preI m c)) : S8x4352x1024.Idx → EReal)
      = shapeCast S8x4352x1024 (addf (F := Ideal) (φ := .f32) (fwd (joined ((STEP^[34] (entryContents preI m c)) (Proc.devRef .tc main_v86_6))))
        (skip (m ((c.tc : Thread nD τ).loc main_arg0)) (m ((c.tc : Thread nD τ).loc main_arg4)))) shapeCasts_S8x4352x2x8x64_S8x4352x1024 := by
    unfold out_main_v108
    rw [iter_main_arg0, iter_main_arg4]
    rfl
  rw [e, flat]
  refine (congrArg₂ (· + ·) ((fwd_at ..).trans (scanned_at m c b t g r p (Loop.after_all 34 (le_refl 34)) false)) (skip_at ..)).trans ?_
  rw [Scan.forward, head_lane]
  rfl
theorem v110_at : (out_main_v110 (STEP^[34] (entryContents preI m c)) : Vec Ideal S8x4352x1024 .bf16) (ix3 b t (lane g r p))
    = Scan.scanned (Loop.args m c) true b (lane g r p) t := by
  have e : (out_main_v110 (STEP^[34] (entryContents preI m c)) : Vec Ideal S8x4352x1024 .bf16)
      = shapeCast S8x4352x1024 (bwd (joined ((STEP^[34] (entryContents preI m c)) (Proc.devRef .tc main_v86_6)))) shapeCasts_S8x4352x2x8x64_S8x4352x1024 := rfl
  rw [e, flat]
  exact (bwd_at ..).trans (scanned_at m c b t g r p (Loop.after_all 34 (le_refl 34)) true)

theorem lane_of (k : Fin 1024) (h₁ : k.val / 512 < 2) (h₂ : k.val / 64 % 8 < 8) (h₃ : k.val % 64 < 64) :
    lane ⟨k.val / 512, h₁⟩ ⟨k.val / 64 % 8, h₂⟩ ⟨k.val % 64, h₃⟩ = k :=
  Fin.ext (by show k.val / 512 * 512 + (k.val / 64 % 8 * 64 + k.val % 64) = k.val; omega)

/-- The two results. -/
theorem v108 : (out_main_v108 (STEP^[34] (entryContents preI m c)) : Vec Ideal S8x4352x1024 .bf16)
    = fun j => Scan.forward (Loop.args m c) (j 0) (j 2) (j 1) := by
  refine funext fun (j : S8x4352x1024.Idx) => ?_
  have h := v108_at m c (j 0) (j 1) ⟨(j 2).val / 512, by have : (j 2).val < 1024 := (j 2).isLt; omega⟩ ⟨(j 2).val / 64 % 8, by omega⟩ ⟨(j 2).val % 64, by omega⟩
  rw [lane_of (j 2)] at h
  refine (congrArg _ ?_).trans h
  funext a
  fin_cases a <;> rfl
theorem v110 : (out_main_v110 (STEP^[34] (entryContents preI m c)) : Vec Ideal S8x4352x1024 .bf16)
    = fun j => Scan.scanned (Loop.args m c) true (j 0) (j 2) (j 1) := by
  refine funext fun (j : S8x4352x1024.Idx) => ?_
  have h := v110_at m c (j 0) (j 1) ⟨(j 2).val / 512, by have : (j 2).val < 1024 := (j 2).isLt; omega⟩ ⟨(j 2).val / 64 % 8, by omega⟩ ⟨(j 2).val % 64, by omega⟩
  rw [lane_of (j 2)] at h
  refine (congrArg _ ?_).trans h
  funext a
  fin_cases a <;> rfl

end Cert.Proof.Results

end
-- ==== Proof.Tok.lean ====
/-
  The input projection of a layer as mathematics: every token is normalised and modulated, multiplied by the weights, and the
  columns of the scan are convolved over the neighbouring tokens of their sequence.
-/
module

public import Idealize.ShloMosaic.Lib.Pointwise

@[expose] public section

noncomputable section

namespace Cert.Proof.Tok

open Idealize.ShloMosaic

/-- The integer zero, as a number. -/
theorem sitofp_zero : FloatOps.sitofp (F := Ideal) FTy.f32 (0#32) = (0 : EReal) := by
  show ((((0#32 : BitVec 32).toInt : ℝ)) : EReal) = 0
  simp

/-- The root-mean-square normalisation of a row, its weight, and the modulation's scale and shift. -/
def norm (v w sc sh : Fin 1024 → EReal) (k : Fin 1024) : EReal :=
  v k * Ideal.rsqrt (Ideal.div (∑ l, v l * v l) (Ideal.ofBits .f32 0x44800000#32) + Ideal.ofBits .f32 0x358637BD#32) * w k
    * (1 + sc k) + sh k

/-- The sum of a product of a row and a column. -/
def dot (u w : Fin 1024 → EReal) : EReal := ∑ k, u k * w k

/-- The five taps of the convolution. -/
def taps (b : EReal) (w n : Fin 5 → EReal) : EReal :=
  ((((b + w 0 * n 0) + w 1 * n 1) + w 2 * n 2) + w 3 * n 3) + w 4 * n 4

/-- The gate of the convolution. -/
def silu (x : EReal) : EReal := x * Ideal.logistic x

/-- The arguments: latent and context tokens, modulations, norm weight, projection, taps and bias of the convolution. -/
structure Args where
  x : Fin 8 → Fin 4096 → Fin 1024 → EReal
  ctx : Fin 8 → Fin 256 → Fin 1024 → EReal
  mod : Fin 8 → Fin 3072 → EReal
  modc : Fin 3072 → EReal
  nw : Fin 1024 → EReal
  w : Fin 1024 → Fin 5184 → EReal
  cw : Fin 5 → Fin 1536 → EReal
  cb : Fin 1536 → EReal

variable (A : Args)

/-- Columns of the modulation: shift, then scale. -/
def shiftCol (k : Fin 1024) : Fin 3072 := ⟨k.val, by omega⟩
def scaleCol (k : Fin 1024) : Fin 3072 := ⟨1024 + k.val, by omega⟩

/-- A normalised latent token, and a normalised context token. -/
def uLat (b : Fin 8) (t : Fin 4096) : Fin 1024 → EReal :=
  norm (A.x b t) A.nw (fun k => A.mod b (scaleCol k)) (fun k => A.mod b (shiftCol k))
def uCtx (b : Fin 8) (t : Fin 256) : Fin 1024 → EReal :=
  norm (A.ctx b t) A.nw (fun k => A.modc (scaleCol k)) (fun k => A.modc (shiftCol k))
/-- Token `t` of the sequence of latents and context. -/
def u (b : Fin 8) (t : Fin 4352) : Fin 1024 → EReal :=
  if h : t.val < 4096 then uLat A b ⟨t.val, h⟩ else uCtx A b ⟨t.val - 4096, by omega⟩

/-- Column `e` of the projection of token `t`. -/
def proj (b : Fin 8) (t : Fin 4352) (e : Fin 5184) : EReal := dot (u A b t) (fun k => A.w k e)

def colZ (e : Fin 1024) : Fin 5184 := ⟨e.val, by omega⟩
def colX (e : Fin 1536) : Fin 5184 := ⟨1024 + e.val, by omega⟩
def colQ (e : Fin 1024) : Fin 5184 := ⟨2592 + e.val, by omega⟩
def colG (e : Fin 512) : Fin 5184 := ⟨3616 + e.val, by omega⟩
def colU (e : Fin 512) : Fin 5184 := ⟨4160 + e.val, by omega⟩
def colS (e : Fin 512) : Fin 5184 := ⟨4672 + e.val, by omega⟩

/-- The projection at place `s - 2` of the sequence of token `t`, nothing outside it. -/
def near (b : Fin 8) (t : Fin 4352) (i : Fin 5) (e : Fin 1536) : EReal :=
  if h : (if t.val < 4096 then 2 ≤ t.val + i.val ∧ t.val + i.val < 4098 else 4098 ≤ t.val + i.val ∧ t.val + i.val < 4354)
    then proj A b ⟨t.val + i.val - 2, by split_ifs at h <;> omega⟩ (colX e) else 0

def outZ (b : Fin 8) (t : Fin 4352) (e : Fin 1024) : EReal := proj A b t (colZ e)
def outX (b : Fin 8) (t : Fin 4352) (e : Fin 1536) : EReal :=
  silu (taps (A.cb e) (fun i => A.cw i e) (fun i => near A b t i e))
/-- The step sizes, the low-rank columns, and zeros up to a whole lane. -/
def outL (b : Fin 8) (t : Fin 4352) (e : Fin 128) : EReal :=
  if h : e.val < 32 then proj A b t ⟨2560 + e.val, by omega⟩
  else if h : e.val < 64 then proj A b t ⟨4128 + (e.val - 32), by omega⟩ else 0
def outQ (b : Fin 8) (t : Fin 4352) (e : Fin 1024) : EReal := proj A b t (colQ e)
def outG (b : Fin 8) (t : Fin 4352) (e : Fin 512) : EReal := proj A b t (colG e)
def outU (b : Fin 8) (g : Fin 4) (t : Fin 4352) (l : Fin 128) : EReal := proj A b t (colU ⟨g.val * 128 + l.val, by omega⟩)
def outS (b : Fin 8) (t : Fin 4352) (e : Fin 512) : EReal := proj A b t (colS e)

end Cert.Proof.Tok

end
-- ==== Proof.Proj.lean ====
/-
  What the body of the projection leaves in its output blocks, as arrays of the input blocks: each of the stores it makes is
  a block of one array, whatever the group of columns.
-/
module

public import proofs.«01_k».proof.Proof.Gen.Kernel2Ideal.Frame
public import proofs.«01_k».proof.Proof.Tok
public import Idealize.ShloMosaic.Lib.Pointwise
public import Idealize.ShloMosaic.Lib.Pipeline.ReadBack

@[expose] public section

noncomputable section

namespace Cert.Proof.Proj

open Idealize.ShloMosaic Idealize.ShloMosaic.TcCoe Idealize.SL.Sem Cert.Kernel2Ideal Cert.Kernel2Ideal.Gen

variable {F : FTy → Type} [FloatOps F]

/-- The grid point is of the context tokens; it has a tile before it in its sequence; it has one after it. -/
def bCtx (i : grid0.Coords) : BitVec 1 := Scalar.cmpi .eq (BitVec.ofNat 32 (i 1).val) 16#32
def bPrev (i : grid0.Coords) : BitVec 1 := Scalar.andi (Scalar.xori (bCtx i) 1#1) (Scalar.cmpi .sgt (BitVec.ofNat 32 (i 1).val) 0#32)
def bNext (i : grid0.Coords) : BitVec 1 := Scalar.andi (Scalar.xori (bCtx i) 1#1) (Scalar.cmpi .slt (BitVec.ofNat 32 (i 1).val) 15#32)

/-- The row of the modulation of a grid point. -/
def modRow (i : grid0.Coords) (x4 : Vec F S16x3072 .f32) : Vec F S1x3072 .f32 :=
  View.ld x4 (Rect.unit (s := S16x3072) (k0_off1 i) S1x3072.size (k0_off1_inb i))

/-- Whole blocks as loaded. -/
def tileOf (x : Vec F S1x256x1024 .f32) : Vec F S1x256x1024 .f32 := View.ld x (Rect.unit ![0, 0, 0] ![1, 256, 1024] inb_S1x256x1024_S1x256x1024_0_0_0)
def edgeOf (x : Vec F S1x8x1024 .f32) : Vec F S1x8x1024 .f32 := View.ld x (Rect.unit ![0, 0, 0] ![1, 8, 1024] inb_S1x8x1024_S1x8x1024_0_0_0)
def rowOf (x : Vec F S1x1024 .f32) : Vec F S1x1024 .f32 := View.ld x (Rect.unit ![0, 0] ![1, 1024] inb_S1x1024_S1x1024_0_0)

/-- The normalised tile, and the normalised rows before and after it. -/
def uT (i : grid0.Coords) (x0 x1 : Vec F S1x256x1024 .f32) (x4 : Vec F S16x3072 .f32) (x5 : Vec F S1x1024 .f32) : FVec F S256x1024 .bf16 :=
  k0_pay8 i (tileOf x0) (tileOf x1) (modRow i x4) (rowOf x5)
def uH (i : grid0.Coords) (x2 x3 : Vec F S1x8x1024 .f32) (x4 : Vec F S16x3072 .f32) (x5 : Vec F S1x1024 .f32) : FVec F S16x1024 .bf16 :=
  k0_pay11 (k0_pay6 (modRow i x4)) (k0_pay7 (modRow i x4)) (k0_pay9 (edgeOf x2)) (k0_pay10 (edgeOf x3)) (rowOf x5)

/-- A group of columns of the convolved part: product, taps and gate. -/
def chunk (u : FVec F S256x1024 .bf16) (uh : FVec F S16x1024 .bf16) (m0 m1 : BitVec 1) (w : Vec F S1024x256 .bf16)
    (b w0 w1 w2 w3 w4 : Vec F S1x256 .f32) : FVec F S1x256x256 .bf16 :=
  k0_pay16 (k0_pay15 u m0 m1 (k0_pay28 uh w) (k0_pay34 uh w) (Scalar.ofBits .f32 0x00000000#32) w b w0 w1 w2 w3 w4)

theorem inW (p : Fin 6) : ∀ a, (![0, 1024 + 256 * p.val] : Fin 2 → Nat) a + (![1024, 256] : Fin 2 → Nat) a ≤ S1024x5248.size a := by
  revert p; decide
theorem inB (p : Fin 6) : ∀ a, (![0, 256 * p.val] : Fin 2 → Nat) a + (![1, 256] : Fin 2 → Nat) a ≤ S1x1536.size a := by
  revert p; decide
theorem inC (n : Fin 5) (p : Fin 6) : ∀ a, (![n.val, 256 * p.val] : Fin 2 → Nat) a + (![1, 256] : Fin 2 → Nat) a ≤ S5x1536.size a := by
  revert n p; decide
theorem inX (p : Fin 6) : ∀ a, (![0, 0, 256 * p.val] : Fin 3 → Nat) a + (![1, 256, 256] : Fin 3 → Nat) a ≤ S1x256x1536.size a := by
  revert p; decide
theorem inU (g : Fin 4) : ∀ a, (![0, g.val, 0, 0] : Fin 4 → Nat) a + (![1, 1, 256, 128] : Fin 4 → Nat) a ≤ S1x4x256x128.size a := by
  revert g; decide

def wX (p : Fin 6) (x6 : Vec F S1024x5248 .bf16) : Vec F S1024x256 .bf16 := View.ld x6 (Rect.unit (s := S1024x5248) ![0, 1024 + 256 * p.val] ![1024, 256] (inW p))
def bX (p : Fin 6) (x8 : Vec F S1x1536 .f32) : Vec F S1x256 .f32 := View.ld x8 (Rect.unit (s := S1x1536) ![0, 256 * p.val] ![1, 256] (inB p))
def cX (n : Fin 5) (p : Fin 6) (x7 : Vec F S5x1536 .f32) : Vec F S1x256 .f32 := View.ld x7 (Rect.unit (s := S5x1536) ![n.val, 256 * p.val] ![1, 256] (inC n p))

variable (i : grid0.Coords) (x0 : Vec F S1x256x1024 .f32) (x1 : Vec F S1x256x1024 .f32) (x2 : Vec F S1x8x1024 .f32) (x3 : Vec F S1x8x1024 .f32)
  (x4 : Vec F S16x3072 .f32) (x5 : Vec F S1x1024 .f32) (x6 : Vec F S1024x5248 .bf16) (x7 : Vec F S5x1536 .f32) (x8 : Vec F S1x1536 .f32)

variable (u : FVec F S256x1024 .bf16) (uh : FVec F S16x1024 .bf16) (m0 m1 : BitVec 1)

/-- Group `p` of the convolved columns, and the groups together. -/
def xPart (p : Fin 6) : FVec F S1x256x256 .bf16 := chunk u uh m0 m1 (wX p x6) (bX p x8) (cX 0 p x7) (cX 1 p x7) (cX 2 p x7) (cX 3 p x7) (cX 4 p x7)
def xOf : Vec F S1x256x1536 .bf16 := fun j => xPart x6 x7 x8 u uh m0 m1
  ⟨(j 2).val / 256, by have := (j 2).isLt; simp [Shape.size] at this; omega⟩ (ix3 0 (j 1) ⟨(j 2).val % 256, Nat.mod_lt _ (by decide)⟩)
/-- The last recurrence's columns, and their groups as the block holds them. -/
def uProd : FVec F S256x512 .f32 := k0_pay40 u (View.ld x6 (Rect.unit ![0, 4224] ![1024, 512] inb_S1024x5248_S1024x512_0_4224))
def uOf : Vec F S1x4x256x128 .f32 := fun j => uProd x6 u (ix2 (j 2) ⟨(j 1).val * 128 + (j 3).val, by
  have := (j 1).isLt; have := (j 3).isLt; simp [Shape.size] at *; omega⟩)
/-- The other columns of a tile of normalised rows. -/
def zOf : Vec F S1x256x1024 .bf16 := k0_pay12 u (View.ld x6 (Rect.unit ![0, 0] ![1024, 1024] inb_S1024x5248_S1024x1024_0_0))
def lOf : Vec F S1x256x128 .f32 := k0_pay37 u (View.ld x6 (Rect.unit ![0, 2560] ![1024, 128] inb_S1024x5248_S1024x128_0_2560))
def qOf : Vec F S1x256x1024 .bf16 := k0_pay38 u (View.ld x6 (Rect.unit ![0, 2688] ![1024, 1024] inb_S1024x5248_S1024x1024_0_2688))
def gOf : Vec F S1x256x512 .bf16 := k0_pay39 u (View.ld x6 (Rect.unit ![0, 3712] ![1024, 512] inb_S1024x5248_S1024x512_0_3712))
def sOf : Vec F S1x256x512 .bf16 := k0_pay4 u (View.ld x6 (Rect.unit ![0, 4736] ![1024, 512] inb_S1024x5248_S1024x512_0_4736))

/-- The seven output blocks. -/
def gZ : Vec F S1x256x1024 .bf16 := zOf x6 (uT i x0 x1 x4 x5)
def gX : Vec F S1x256x1536 .bf16 := xOf x6 x7 x8 (uT i x0 x1 x4 x5) (uH i x2 x3 x4 x5) (bPrev i) (bNext i)
def gL : Vec F S1x256x128 .f32 := lOf x6 (uT i x0 x1 x4 x5)
def gQ : Vec F S1x256x1024 .bf16 := qOf x6 (uT i x0 x1 x4 x5)
def gG : Vec F S1x256x512 .bf16 := gOf x6 (uT i x0 x1 x4 x5)
def gU : Vec F S1x4x256x128 .f32 := uOf x6 (uT i x0 x1 x4 x5)
def gS : Vec F S1x256x512 .bf16 := sOf x6 (uT i x0 x1 x4 x5)

/-- The block of the whole array is the array. -/
theorem emb_whole {n : Nat} {η : EltTy} (G : (⟨3, ![1, 256, n]⟩ : Shape).Idx → Elt F η) (h : ∀ a, (![0, 0, 0] : Fin 3 → Nat) a + (![1, 256, n] : Fin 3 → Nat) a ≤ (⟨3, ![1, 256, n]⟩ : Shape).size a)
    (x : (⟨3, ![1, 256, n]⟩ : Shape).Idx) : G x = G ((Rect.unit (s := ⟨3, ![1, 256, n]⟩) ![0, 0, 0] ![1, 256, n] h).emb x) := by
  congr 1
  funext a
  apply Fin.ext
  rw [Rect.emb_apply]
  match a with
  | 0 => show (x 0).val = 0 + 1 * (x 0).val; omega
  | 1 => show (x 1).val = 0 + 1 * (x 1).val; omega
  | 2 => show (x 2).val = 0 + 1 * (x 2).val; omega

theorem pieceX (p : Fin 6) (x : S1x256x256.Idx) : xPart x6 x7 x8 u uh m0 m1 p x = xOf x6 x7 x8 u uh m0 m1
    ((Rect.unit (s := S1x256x1536) ![0, 0, 256 * p.val] ![1, 256, 256] (inX p)).emb x) := by
  have he : (Rect.unit (s := S1x256x1536) ![0, 0, 256 * p.val] ![1, 256, 256] (inX p)).emb x
      = ix3 0 (x 1) ⟨256 * p.val + (x 2).val, by have := (x 2).isLt; simp [Shape.size] at this; omega⟩ := by
    funext a
    apply Fin.ext
    rw [Rect.emb_apply]
    match a with
    | 0 => show 0 + 1 * (x 0).val = 0; have h : (x 0).val < 1 := (x 0).isLt; omega
    | 1 => show 0 + 1 * (x 1).val = (x 1).val; omega
    | 2 => show 256 * p.val + 1 * (x 2).val = 256 * p.val + (x 2).val; omega
  rw [he]
  have h2 : (x 2).val < 256 := (x 2).isLt
  have h0 : (x 0).val < 1 := (x 0).isLt
  show _ = xPart x6 x7 x8 u uh m0 m1 ⟨(256 * p.val + (x 2).val) / 256, _⟩ (ix3 0 (x 1) ⟨(256 * p.val + (x 2).val) % 256, _⟩)
  congr 1
  · exact Fin.ext (by show p.val = (256 * p.val + (x 2).val) / 256; omega)
  · funext a
    apply Fin.ext
    match a with
    | 0 => show (x 0).val = 0; omega
    | 1 => rfl
    | 2 => show (x 2).val = (256 * p.val + (x 2).val) % 256; omega

/-- A group of columns, as the block that is stored. -/
theorem slab (v : FVec F S256x512 .f32) (g : Fin 4) (h : S256x512.Slices ![0, 128 * g.val] S256x128) (x : S1x1x256x128.Idx) :
    (shapeCast S1x1x256x128 (extractStridedSlice S256x128 ![0, 128 * g.val] v h) shapeCasts_S256x128_S1x1x256x128) x
      = v (ix2 (x 2) ⟨g.val * 128 + (x 3).val, by have := (x 3).isLt; simp [Shape.size] at this; omega⟩) := by
  idx_vars x
  pointwise
  refine congrArg v (congrArg (ix2 x2) (Fin.ext ?_))
  show 128 * g.val + x3.val = g.val * 128 + x3.val
  omega

theorem pieceU (g : Fin 4) (h : S256x512.Slices ![0, 128 * g.val] S256x128) (x : S1x1x256x128.Idx) :
    (shapeCast S1x1x256x128 (extractStridedSlice S256x128 ![0, 128 * g.val] (uProd x6 u) h) shapeCasts_S256x128_S1x1x256x128) x
      = uOf x6 u ((Rect.unit (s := S1x4x256x128) ![0, g.val, 0, 0] ![1, 1, 256, 128] (inU g)).emb x) := by
  rw [slab]
  show _ = uProd x6 u _
  congr 1
  funext a
  apply Fin.ext
  match a with
  | 0 => show (x 2).val = 0 + 1 * (x 2).val; omega
  | 1 =>
    have h1 : (x 1).val < 1 := (x 1).isLt
    show g.val * 128 + (x 3).val = (g.val + 1 * (x 1).val) * 128 + (0 + 1 * (x 3).val); omega

theorem out9 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec F S1x256x1024 .f32) (x1 : Vec F S1x256x1024 .f32) (x2 : Vec F S1x8x1024 .f32) (x3 : Vec F S1x8x1024 .f32) (x4 : Vec F S16x3072 .f32) (x5 : Vec F S1x1024 .f32) (x6 : Vec F S1024x5248 .bf16) (x7 : Vec F S5x1536 .f32) (x8 : Vec F S1x1536 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = gZ i x0 x1 x4 x5 x6 := by
  have cov := cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_9
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨emb_whole (gZ i x0 x1 x4 x5 x6) inb_S1x256x1024_S1x256x1024_0_0_0, trivial⟩
theorem out10 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec F S1x256x1024 .f32) (x1 : Vec F S1x256x1024 .f32) (x2 : Vec F S1x8x1024 .f32) (x3 : Vec F S1x8x1024 .f32) (x4 : Vec F S16x3072 .f32) (x5 : Vec F S1x1024 .f32) (x6 : Vec F S1024x5248 .bf16) (x7 : Vec F S5x1536 .f32) (x8 : Vec F S1x1536 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = gX i x0 x1 x2 x3 x4 x5 x6 x7 x8 := by
  have cov := cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_10
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨pieceX x6 x7 x8 (uT i x0 x1 x4 x5) (uH i x2 x3 x4 x5) (bPrev i) (bNext i) 5, pieceX x6 x7 x8 (uT i x0 x1 x4 x5) (uH i x2 x3 x4 x5) (bPrev i) (bNext i) 4, pieceX x6 x7 x8 (uT i x0 x1 x4 x5) (uH i x2 x3 x4 x5) (bPrev i) (bNext i) 3, pieceX x6 x7 x8 (uT i x0 x1 x4 x5) (uH i x2 x3 x4 x5) (bPrev i) (bNext i) 2, pieceX x6 x7 x8 (uT i x0 x1 x4 x5) (uH i x2 x3 x4 x5) (bPrev i) (bNext i) 1, pieceX x6 x7 x8 (uT i x0 x1 x4 x5) (uH i x2 x3 x4 x5) (bPrev i) (bNext i) 0, trivial⟩
theorem out11 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec F S1x256x1024 .f32) (x1 : Vec F S1x256x1024 .f32) (x2 : Vec F S1x8x1024 .f32) (x3 : Vec F S1x8x1024 .f32) (x4 : Vec F S16x3072 .f32) (x5 : Vec F S1x1024 .f32) (x6 : Vec F S1024x5248 .bf16) (x7 : Vec F S5x1536 .f32) (x8 : Vec F S1x1536 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = gL i x0 x1 x4 x5 x6 := by
  have cov := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_11
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨emb_whole (gL i x0 x1 x4 x5 x6) inb_S1x256x128_S1x256x128_0_0_0, trivial⟩
theorem out12 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec F S1x256x1024 .f32) (x1 : Vec F S1x256x1024 .f32) (x2 : Vec F S1x8x1024 .f32) (x3 : Vec F S1x8x1024 .f32) (x4 : Vec F S16x3072 .f32) (x5 : Vec F S1x1024 .f32) (x6 : Vec F S1024x5248 .bf16) (x7 : Vec F S5x1536 .f32) (x8 : Vec F S1x1536 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = gQ i x0 x1 x4 x5 x6 := by
  have cov := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_12
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨emb_whole (gQ i x0 x1 x4 x5 x6) inb_S1x256x1024_S1x256x1024_0_0_0, trivial⟩
theorem out13 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec F S1x256x1024 .f32) (x1 : Vec F S1x256x1024 .f32) (x2 : Vec F S1x8x1024 .f32) (x3 : Vec F S1x8x1024 .f32) (x4 : Vec F S16x3072 .f32) (x5 : Vec F S1x1024 .f32) (x6 : Vec F S1024x5248 .bf16) (x7 : Vec F S5x1536 .f32) (x8 : Vec F S1x1536 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = gG i x0 x1 x4 x5 x6 := by
  have cov := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_13
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨emb_whole (gG i x0 x1 x4 x5 x6) inb_S1x256x512_S1x256x512_0_0_0, trivial⟩
theorem out14 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec F S1x256x1024 .f32) (x1 : Vec F S1x256x1024 .f32) (x2 : Vec F S1x8x1024 .f32) (x3 : Vec F S1x8x1024 .f32) (x4 : Vec F S16x3072 .f32) (x5 : Vec F S1x1024 .f32) (x6 : Vec F S1024x5248 .bf16) (x7 : Vec F S5x1536 .f32) (x8 : Vec F S1x1536 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = gU i x0 x1 x4 x5 x6 := by
  have cov := cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_14
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨pieceU x6 (uT i x0 x1 x4 x5) 3 slices_S256x512_o0_384_S256x128, pieceU x6 (uT i x0 x1 x4 x5) 2 slices_S256x512_o0_256_S256x128, pieceU x6 (uT i x0 x1 x4 x5) 1 slices_S256x512_o0_128_S256x128, pieceU x6 (uT i x0 x1 x4 x5) 0 slices_S256x512_o0_0_S256x128, trivial⟩
theorem out15 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec F S1x256x1024 .f32) (x1 : Vec F S1x256x1024 .f32) (x2 : Vec F S1x8x1024 .f32) (x3 : Vec F S1x8x1024 .f32) (x4 : Vec F S16x3072 .f32) (x5 : Vec F S1x1024 .f32) (x6 : Vec F S1024x5248 .bf16) (x7 : Vec F S5x1536 .f32) (x8 : Vec F S1x1536 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = gS i x0 x1 x4 x5 x6 := by
  have cov := cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_15
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨emb_whole (gS i x0 x1 x4 x5 x6) inb_S1x256x512_S1x256x512_0_0_0, trivial⟩

end Cert.Proof.Proj

end
-- ==== Proof.ProjElems.lean ====
/-
  The projection's output blocks at one element over the extended reals: normalised rows times columns, and the taps of the
  convolution over the rows of the tile and of its edges.
-/
module

public import proofs.«01_k».proof.Proof.Proj

@[expose] public section

noncomputable section

namespace Cert.Proof.Proj

open Idealize.ShloMosaic Cert.Kernel2Ideal Cert.Kernel2Ideal.Gen Cert.Proof

theorem sel_eq {α : Type} (p : Prop) [Decidable p] (b : BitVec 1) (h : b = BitVec.ofBool (decide p)) (x y : α) : Scalar.select b x y = if p then x else y := by
  subst h; by_cases h : p <;> simp [h, Scalar.select]

theorem bCtx_eq (i : grid0.Coords) : bCtx i = BitVec.ofBool (decide ((i 1).val = 16)) := by
  have e : ∀ x : Fin 17, Scalar.cmpi CmpIPredicate.eq (BitVec.ofNat 32 x.val) 16#32 = BitVec.ofBool (decide (x.val = 16)) := by decide
  exact e (i 1)
theorem bPrev_eq (i : grid0.Coords) : bPrev i = BitVec.ofBool (decide ((i 1).val ≠ 16 ∧ 0 < (i 1).val)) := by
  have e : ∀ x : Fin 17, Scalar.andi (Scalar.xori (Scalar.cmpi CmpIPredicate.eq (BitVec.ofNat 32 x.val) 16#32) 1#1) (Scalar.cmpi .sgt (BitVec.ofNat 32 x.val) 0#32)
    = BitVec.ofBool (decide (x.val ≠ 16 ∧ 0 < x.val)) := by decide
  exact e (i 1)
theorem bNext_eq (i : grid0.Coords) : bNext i = BitVec.ofBool (decide ((i 1).val < 15)) := by
  have e : ∀ x : Fin 17, Scalar.andi (Scalar.xori (Scalar.cmpi CmpIPredicate.eq (BitVec.ofNat 32 x.val) 16#32) 1#1) (Scalar.cmpi .slt (BitVec.ofNat 32 x.val) 15#32)
    = BitVec.ofBool (decide (x.val < 15)) := by decide
  exact e (i 1)

/-! ## Loads -/

theorem tileOf_at (x : Vec Ideal S1x256x1024 .f32) (r : Fin 256) (k : Fin 1024) : tileOf x (ix3 0 r k) = x (ix3 0 r k) := by pointwise [tileOf]
theorem edgeOf_at (x : Vec Ideal S1x8x1024 .f32) (r : Fin 8) (k : Fin 1024) : edgeOf x (ix3 0 r k) = x (ix3 0 r k) := by pointwise [edgeOf]
theorem rowOf_at (x : Vec Ideal S1x1024 .f32) (k : Fin 1024) : rowOf x (ix2 0 k) = x (ix2 0 k) := by pointwise [rowOf]
theorem wX_at (p : Fin 6) (x : Vec Ideal S1024x5248 .bf16) (k : Fin 1024) (e : Fin 256) :
    wX p x (ix2 k e) = x (ix2 k ⟨1024 + 256 * p.val + e.val, by omega⟩) := by pointwise [wX]
theorem bX_at (p : Fin 6) (x : Vec Ideal S1x1536 .f32) (e : Fin 256) : bX p x (ix2 0 e) = x (ix2 0 ⟨256 * p.val + e.val, by omega⟩) := by pointwise [bX]
theorem cX_at (n : Fin 5) (p : Fin 6) (x : Vec Ideal S5x1536 .f32) (e : Fin 256) : cX n p x (ix2 0 e) = x (ix2 n ⟨256 * p.val + e.val, by omega⟩) := by pointwise [cX]

/-- The row of the modulation of a point: its batch's, or the context's. -/
def modIx (i : grid0.Coords) : Fin 16 := if (i 1).val = 16 then 8 else ⟨(i 0).val, by have : (i 0).val < 8 := (i 0).isLt; omega⟩
theorem off_eq (i : grid0.Coords) : k0_off1 i 0 = (modIx i).val ∧ k0_off1 i 1 = 0 := by
  have e : ∀ (a : Fin 8) (b : Fin 17), BitVec.toNat (Scalar.indexCast (Scalar.select (Scalar.cmpi CmpIPredicate.eq (BitVec.ofNat 32 b.val) 16#32) (8#32) (BitVec.ofNat 32 a.val)))
    = (if b.val = 16 then (8 : Fin 16) else ⟨a.val, by omega⟩).val := by decide
  exact ⟨e (i 0) (i 1), rfl⟩
theorem modRow_at (i : grid0.Coords) (x : Vec Ideal S16x3072 .f32) (k : Fin 3072) : modRow i x (ix2 0 k) = x (ix2 (modIx i) k) := by
  unfold modRow View.ld
  show x _ = x _
  congr 1
  funext a
  apply Fin.ext
  match a with
  | 0 => show k0_off1 i 0 + 1 * 0 = _; rw [(off_eq i).1]; rfl
  | 1 => show k0_off1 i 1 + 1 * k.val = k.val; rw [(off_eq i).2]; omega

/-! ## Normalised rows -/

theorem uT_at (i : grid0.Coords) (x0 x1 : Vec Ideal S1x256x1024 .f32) (x4 : Vec Ideal S16x3072 .f32) (x5 : Vec Ideal S1x1024 .f32) (r : Fin 256) (k : Fin 1024) :
    uT i x0 x1 x4 x5 (ix2 r k) = Tok.norm (fun k => if (i 1).val = 16 then x1 (ix3 0 r k) else x0 (ix3 0 r k)) (fun k => x5 (ix2 0 k))
      (fun k => x4 (ix2 (modIx i) (Tok.scaleCol k))) (fun k => x4 (ix2 (modIx i) (Tok.shiftCol k))) k := by
  refine Eq.trans (b := Tok.norm (fun k => if (i 1).val = 16 then tileOf x1 (ix3 0 r k) else tileOf x0 (ix3 0 r k)) (fun k => rowOf x5 (ix2 0 k))
      (fun k => modRow i x4 (ix2 0 (Tok.scaleCol k))) (fun k => modRow i x4 (ix2 0 (Tok.shiftCol k))) k) ?_ (by simp only [tileOf_at, rowOf_at, modRow_at])
  unfold uT
  pointwise [k0_pay8, k0_pay7, k0_pay6, k0_pay5]
  simp only [sel_eq _ _ (show Scalar.cmpi CmpIPredicate.eq (BitVec.ofNat 32 (i 1).val) 16#32 = _ from bCtx_eq i)]
  rfl
theorem uH_at (i : grid0.Coords) (x2 x3 : Vec Ideal S1x8x1024 .f32) (x4 : Vec Ideal S16x3072 .f32) (x5 : Vec Ideal S1x1024 .f32) (r : Fin 16) (k : Fin 1024) :
    uH i x2 x3 x4 x5 (ix2 r k) = Tok.norm (fun k => if h : r.val < 8 then x2 (ix3 0 ⟨r.val, h⟩ k) else x3 (ix3 0 ⟨r.val - 8, by omega⟩ k)) (fun k => x5 (ix2 0 k))
      (fun k => x4 (ix2 (modIx i) (Tok.scaleCol k))) (fun k => x4 (ix2 (modIx i) (Tok.shiftCol k))) k := by
  refine Eq.trans (b := Tok.norm (fun k => if h : r.val < 8 then edgeOf x2 (ix3 0 ⟨r.val, h⟩ k) else edgeOf x3 (ix3 0 ⟨r.val - 8, by omega⟩ k)) (fun k => rowOf x5 (ix2 0 k))
      (fun k => modRow i x4 (ix2 0 (Tok.scaleCol k))) (fun k => modRow i x4 (ix2 0 (Tok.shiftCol k))) k) ?_ (by simp only [edgeOf_at, rowOf_at, modRow_at])
  unfold uH
  pointwise [k0_pay11, k0_pay7, k0_pay6, k0_pay5, k0_pay9, k0_pay10]
  rfl

/-! ## Products with columns -/

variable (i : grid0.Coords) (x0 : Vec Ideal S1x256x1024 .f32) (x1 : Vec Ideal S1x256x1024 .f32) (x2 : Vec Ideal S1x8x1024 .f32) (x3 : Vec Ideal S1x8x1024 .f32)
  (x4 : Vec Ideal S16x3072 .f32) (x5 : Vec Ideal S1x1024 .f32) (x6 : Vec Ideal S1024x5248 .bf16) (x7 : Vec Ideal S5x1536 .f32) (x8 : Vec Ideal S1x1536 .f32)

/-- Row `r` of the normalised tile times column `n` of the weights. -/
def prodT (r : Fin 256) (n : Fin 5248) : EReal := Tok.dot (fun k => uT i x0 x1 x4 x5 (ix2 r k)) (fun k => x6 (ix2 k n))
def prodH (r : Fin 16) (n : Fin 5248) : EReal := Tok.dot (fun k => uH i x2 x3 x4 x5 (ix2 r k)) (fun k => x6 (ix2 k n))

theorem gZ_at (r : Fin 256) (e : Fin 1024) : gZ i x0 x1 x4 x5 x6 (ix3 0 r e) = prodT i x0 x1 x4 x5 x6 r ⟨e.val, by omega⟩ := by
  pointwise [gZ, zOf, k0_pay12]
  rfl
theorem gL_at (r : Fin 256) (e : Fin 128) : gL i x0 x1 x4 x5 x6 (ix3 0 r e) = prodT i x0 x1 x4 x5 x6 r ⟨2560 + e.val, by omega⟩ := by
  pointwise [gL, lOf, k0_pay37]
  rfl
theorem gQ_at (r : Fin 256) (e : Fin 1024) : gQ i x0 x1 x4 x5 x6 (ix3 0 r e) = prodT i x0 x1 x4 x5 x6 r ⟨2688 + e.val, by omega⟩ := by
  pointwise [gQ, qOf, k0_pay38]
  rfl
theorem gG_at (r : Fin 256) (e : Fin 512) : gG i x0 x1 x4 x5 x6 (ix3 0 r e) = prodT i x0 x1 x4 x5 x6 r ⟨3712 + e.val, by omega⟩ := by
  pointwise [gG, gOf, k0_pay39]
  rfl
theorem gS_at (r : Fin 256) (e : Fin 512) : gS i x0 x1 x4 x5 x6 (ix3 0 r e) = prodT i x0 x1 x4 x5 x6 r ⟨4736 + e.val, by omega⟩ := by
  pointwise [gS, sOf, k0_pay4]
  rfl
theorem gU_at (g : Fin 4) (r : Fin 256) (l : Fin 128) :
    gU i x0 x1 x4 x5 x6 (ix4 0 g r l) = prodT i x0 x1 x4 x5 x6 r ⟨4224 + (g.val * 128 + l.val), by omega⟩ := by
  show uProd x6 (uT i x0 x1 x4 x5) (ix2 r ⟨g.val * 128 + l.val, _⟩) = _
  pointwise [uProd, k0_pay40]
  rfl

/-! ## The convolution -/

/-- Row `n` of the rows before the tile, the tile and the rows after it, times a column. -/
def rows (u : FVec Ideal S256x1024 .bf16) (uh : FVec Ideal S16x1024 .bf16) (m0 m1 : BitVec 1) (w : Vec Ideal S1024x256 .bf16) (e : Fin 256) (n : ℕ) (hn : n < 272) : EReal :=
  if h : n < 8 then Scalar.select m0 (∑ x : Fin 1024, uh (ix2 ⟨n, by omega⟩ x) * w (ix2 x e)) (0 : EReal)
  else if h' : n - 8 < 256 then ∑ x : Fin 1024, u (ix2 ⟨n - 8, h'⟩ x) * w (ix2 x e)
  else Scalar.select m1 (∑ x : Fin 1024, uh (ix2 ⟨8 + (n - 8 - 256), by omega⟩ x) * w (ix2 x e)) (0 : EReal)

theorem rows_mid (u : FVec Ideal S256x1024 .bf16) (uh : FVec Ideal S16x1024 .bf16) (m0 m1 : BitVec 1) (w : Vec Ideal S1024x256 .bf16) (e r : Fin 256) (hn : 8 + r.val < 272) :
    rows u uh m0 m1 w e (8 + r.val) hn = ∑ x : Fin 1024, u (ix2 r x) * w (ix2 x e) := by
  have hr : (⟨8 + r.val - 8, by omega⟩ : Fin 256) = r := Fin.ext (by show 8 + r.val - 8 = r.val; omega)
  unfold rows
  rw [dif_neg (by omega), dif_pos (show 8 + r.val - 8 < 256 by omega)]
  simp only [hr]

theorem chunk_at (u : FVec Ideal S256x1024 .bf16) (uh : FVec Ideal S16x1024 .bf16) (m0 m1 : BitVec 1) (w : Vec Ideal S1024x256 .bf16)
    (b w0 w1 w2 w3 w4 : Vec Ideal S1x256 .f32) (r e : Fin 256) : chunk u uh m0 m1 w b w0 w1 w2 w3 w4 (ix3 0 r e)
      = Tok.silu (((((b (ix2 0 e) + w0 (ix2 0 e) * rows u uh m0 m1 w e (6 + r.val) (by omega)) + w1 (ix2 0 e) * rows u uh m0 m1 w e (7 + r.val) (by omega))
        + w2 (ix2 0 e) * rows u uh m0 m1 w e (8 + r.val) (by omega)) + w3 (ix2 0 e) * rows u uh m0 m1 w e (9 + r.val) (by omega))
        + w4 (ix2 0 e) * rows u uh m0 m1 w e (10 + r.val) (by omega)) := by
  rw [rows_mid]
  pointwise [chunk, k0_pay16, k0_pay15, k0_pay28, k0_pay34, k0_pay33]
  rfl

/-- Row `r + n - 2` of the tile's sequence times a column, nothing outside the sequence. -/
def tap (r : Fin 256) (e : Fin 5248) (n : Fin 5) : EReal :=
  if r.val + n.val < 2 then if (i 1).val ≠ 16 ∧ 0 < (i 1).val then prodH i x2 x3 x4 x5 x6 ⟨(6 + n.val + r.val) % 16, by omega⟩ e else 0
  else if h : r.val + n.val - 2 < 256 then prodT i x0 x1 x4 x5 x6 ⟨r.val + n.val - 2, h⟩ e
  else if (i 1).val < 15 then prodH i x2 x3 x4 x5 x6 ⟨(8 + (r.val + n.val - 258)) % 16, by omega⟩ e else 0

theorem rows_tap (p : Fin 6) (r e : Fin 256) (n : Fin 5) (hn : 6 + n.val + r.val < 272) :
    rows (uT i x0 x1 x4 x5) (uH i x2 x3 x4 x5) (bPrev i) (bNext i) (wX p x6) e (6 + n.val + r.val) hn
      = tap i x0 x1 x2 x3 x4 x5 x6 r ⟨1024 + 256 * p.val + e.val, by omega⟩ n := by
  unfold rows tap
  by_cases h1 : r.val + n.val < 2
  · rw [dif_pos (show 6 + n.val + r.val < 8 by omega), if_pos h1, sel_eq _ _ (bPrev_eq i)]
    have hq : (⟨6 + n.val + r.val, by omega⟩ : Fin 16) = ⟨(6 + n.val + r.val) % 16, by omega⟩ := Fin.ext (by show 6 + n.val + r.val = (6 + n.val + r.val) % 16; omega)
    simp only [wX_at, hq]
    rfl
  · rw [dif_neg (show ¬6 + n.val + r.val < 8 by omega), if_neg h1]
    by_cases h2 : r.val + n.val - 2 < 256
    · have hq : (⟨6 + n.val + r.val - 8, by omega⟩ : Fin 256) = ⟨r.val + n.val - 2, h2⟩ := Fin.ext (by show 6 + n.val + r.val - 8 = r.val + n.val - 2; omega)
      rw [dif_pos (show 6 + n.val + r.val - 8 < 256 by omega), dif_pos h2]
      simp only [wX_at, hq]
      rfl
    · have hq : (⟨8 + (6 + n.val + r.val - 8 - 256), by omega⟩ : Fin 16) = ⟨(8 + (r.val + n.val - 258)) % 16, by omega⟩ :=
        Fin.ext (by show 8 + (6 + n.val + r.val - 8 - 256) = (8 + (r.val + n.val - 258)) % 16; omega)
      rw [dif_neg (show ¬6 + n.val + r.val - 8 < 256 by omega), dif_neg h2, sel_eq _ _ (bNext_eq i)]
      simp only [wX_at, hq]
      rfl

theorem gX_at (r : Fin 256) (e : Fin 1536) : gX i x0 x1 x2 x3 x4 x5 x6 x7 x8 (ix3 0 r e)
    = Tok.silu (Tok.taps (x8 (ix2 0 e)) (fun n => x7 (ix2 n e)) (tap i x0 x1 x2 x3 x4 x5 x6 r ⟨1024 + e.val, by omega⟩)) := by
  show xPart x6 x7 x8 (uT i x0 x1 x4 x5) (uH i x2 x3 x4 x5) (bPrev i) (bNext i) ⟨e.val / 256, _⟩ (ix3 0 r ⟨e.val % 256, _⟩) = _
  have he : (⟨256 * (e.val / 256) + e.val % 256, by omega⟩ : Fin 1536) = e := Fin.ext (by show 256 * (e.val / 256) + e.val % 256 = e.val; omega)
  have he' : (⟨1024 + 256 * (e.val / 256) + e.val % 256, by omega⟩ : Fin 5248) = ⟨1024 + e.val, by omega⟩ :=
    Fin.ext (by show 1024 + 256 * (e.val / 256) + e.val % 256 = 1024 + e.val; omega)
  have ht := fun n => rows_tap i x0 x1 x2 x3 x4 x5 x6 ⟨e.val / 256, by omega⟩ r ⟨e.val % 256, by omega⟩ n (by omega)
  simp only [he'] at ht
  unfold xPart
  rw [chunk_at]
  simp only [bX_at, cX_at, he]
  unfold Tok.taps
  rw [← ht 0, ← ht 1, ← ht 2, ← ht 3, ← ht 4]
  rfl

end Cert.Proof.Proj

end
-- ==== Proof.ProjReads.lean ====
/-
  What a grid point of a projection leaves, whatever the order of the latent tokens: from the rows its blocks hold to the
  projected, convolved and split columns of its tokens.
-/
module

public import proofs.«01_k».proof.Proof.ProjElems

@[expose] public section
noncomputable section
namespace Cert.Proof.ProjReads

open Idealize.ShloMosaic Idealize.SL.Sem Cert.Kernel2Ideal Cert.Kernel2Ideal.Gen Cert.Proof

/-! ## The arrays prepared before the launch -/

section
variable (w : FVec Ideal S1024x5184 .f32)

def colOf (k : Fin 1024) (e : Fin 5184) : EReal := w (ix2 k e)
/-- The small columns, filled up to a whole lane. -/
def small : FVec Ideal S1024x128 .f32 :=
  pad S1024x128 ![0, 0] ![0, 64] ![0, 0] (concatenate S1024x64 1 [⟨S1024x32, (extractStridedSlice S1024x32 ![0, 2560] w slices_S1024x5184_S1024x32_0_2560 : FVec Ideal S1024x32 .f32)⟩,
    ⟨S1024x32, (extractStridedSlice S1024x32 ![0, 4128] w slices_S1024x5184_S1024x32_0_4128 : FVec Ideal S1024x32 .f32)⟩] concatenates_S1024x32_S1024x32_S1024x64_d1 : FVec Ideal S1024x64 .f32)
    (sitofp .f32 (constantI S_ 32 0#32)) pads_S1024x64_S1024x128_000_0640 h_S_
/-- The weights' columns in the kernel's order. -/
def packed : FVec Ideal S1024x5248 .bf16 :=
  truncf .bf16 (concatenate S1024x5248 1 [⟨S1024x1024, (extractStridedSlice S1024x1024 ![0, 0] w slices_S1024x5184_S1024x1024_0_0 : FVec Ideal S1024x1024 .f32)⟩,
    ⟨S1024x1536, (extractStridedSlice S1024x1536 ![0, 1024] w slices_S1024x5184_S1024x1536_0_1024 : FVec Ideal S1024x1536 .f32)⟩,
    ⟨S1024x128, small w⟩,
    ⟨S1024x256, (extractStridedSlice S1024x256 ![0, 2592] w slices_S1024x5184_S1024x256_0_2592 : FVec Ideal S1024x256 .f32)⟩,
    ⟨S1024x256, (extractStridedSlice S1024x256 ![0, 2848] w slices_S1024x5184_S1024x256_0_2848 : FVec Ideal S1024x256 .f32)⟩,
    ⟨S1024x512, (extractStridedSlice S1024x512 ![0, 3104] w slices_S1024x5184_S1024x512_0_3104 : FVec Ideal S1024x512 .f32)⟩,
    ⟨S1024x512, (extractStridedSlice S1024x512 ![0, 3616] w slices_S1024x5184_S1024x512_0_3616 : FVec Ideal S1024x512 .f32)⟩,
    ⟨S1024x512, (extractStridedSlice S1024x512 ![0, 4160] w slices_S1024x5184_S1024x512_0_4160 : FVec Ideal S1024x512 .f32)⟩,
    ⟨S1024x512, (extractStridedSlice S1024x512 ![0, 4672] w slices_S1024x5184_S1024x512_0_4672 : FVec Ideal S1024x512 .f32)⟩]
    concatenates_S1024x1024_S1024x1536_S1024x128_S1024x256_S1024x256_S1024x512_S1024x512_S1024x512_S1024x512_S1024x5248_d1 : FVec Ideal S1024x5248 .f32) bitsLt_bf16_f32

/-- The packed columns of the weights, group by group. -/
theorem pack0 (k : Fin 1024) (n : Fin 5248) (h0 : 0 ≤ n.val) (h1 : n.val < 1024) :
    packed w (ix2 k n) = colOf w k ⟨n.val, by omega⟩ := by
  unfold packed
  pointwise
  rw [dif_pos (show n.val < 1024 by omega)]
  pointwise
  rfl

theorem pack1 (k : Fin 1024) (n : Fin 5248) (h0 : 1024 ≤ n.val) (h1 : n.val < 2560) :
    packed w (ix2 k n) = colOf w k ⟨n.val, by omega⟩ := by
  unfold packed
  pointwise
  rw [dif_neg (show ¬ (n.val < 1024) by omega), dif_pos (show n.val - 1024 < 1536 by omega)]
  pointwise
  exact congrArg (colOf w k) (Fin.ext (by simp only []; omega))

theorem pack3 (k : Fin 1024) (n : Fin 5248) (h0 : 2688 ≤ n.val) (h1 : n.val < 2944) :
    packed w (ix2 k n) = colOf w k ⟨n.val - 96, by omega⟩ := by
  unfold packed
  pointwise
  rw [dif_neg (show ¬ (n.val < 1024) by omega), dif_neg (show ¬ (n.val - 1024 < 1536) by omega), dif_neg (show ¬ (n.val - 1024 - 1536 < 128) by omega), dif_pos (show n.val - 1024 - 1536 - 128 < 256 by omega)]
  pointwise
  exact congrArg (colOf w k) (Fin.ext (by simp only []; omega))

theorem pack4 (k : Fin 1024) (n : Fin 5248) (h0 : 2944 ≤ n.val) (h1 : n.val < 3200) :
    packed w (ix2 k n) = colOf w k ⟨n.val - 96, by omega⟩ := by
  unfold packed
  pointwise
  rw [dif_neg (show ¬ (n.val < 1024) by omega), dif_neg (show ¬ (n.val - 1024 < 1536) by omega), dif_neg (show ¬ (n.val - 1024 - 1536 < 128) by omega), dif_neg (show ¬ (n.val - 1024 - 1536 - 128 < 256) by omega), dif_pos (show n.val - 1024 - 1536 - 128 - 256 < 256 by omega)]
  pointwise
  exact congrArg (colOf w k) (Fin.ext (by simp only []; omega))

theorem pack5 (k : Fin 1024) (n : Fin 5248) (h0 : 3200 ≤ n.val) (h1 : n.val < 3712) :
    packed w (ix2 k n) = colOf w k ⟨n.val - 96, by omega⟩ := by
  unfold packed
  pointwise
  rw [dif_neg (show ¬ (n.val < 1024) by omega), dif_neg (show ¬ (n.val - 1024 < 1536) by omega), dif_neg (show ¬ (n.val - 1024 - 1536 < 128) by omega), dif_neg (show ¬ (n.val - 1024 - 1536 - 128 < 256) by omega), dif_neg (show ¬ (n.val - 1024 - 1536 - 128 - 256 < 256) by omega), dif_pos (show n.val - 1024 - 1536 - 128 - 256 - 256 < 512 by omega)]
  pointwise
  exact congrArg (colOf w k) (Fin.ext (by simp only []; omega))

theorem pack6 (k : Fin 1024) (n : Fin 5248) (h0 : 3712 ≤ n.val) (h1 : n.val < 4224) :
    packed w (ix2 k n) = colOf w k ⟨n.val - 96, by omega⟩ := by
  unfold packed
  pointwise
  rw [dif_neg (show ¬ (n.val < 1024) by omega), dif_neg (show ¬ (n.val - 1024 < 1536) by omega), dif_neg (show ¬ (n.val - 1024 - 1536 < 128) by omega), dif_neg (show ¬ (n.val - 1024 - 1536 - 128 < 256) by omega), dif_neg (show ¬ (n.val - 1024 - 1536 - 128 - 256 < 256) by omega), dif_neg (show ¬ (n.val - 1024 - 1536 - 128 - 256 - 256 < 512) by omega), dif_pos (show n.val - 1024 - 1536 - 128 - 256 - 256 - 512 < 512 by omega)]
  pointwise
  exact congrArg (colOf w k) (Fin.ext (by simp only []; omega))

theorem pack7 (k : Fin 1024) (n : Fin 5248) (h0 : 4224 ≤ n.val) (h1 : n.val < 4736) :
    packed w (ix2 k n) = colOf w k ⟨n.val - 64, by omega⟩ := by
  unfold packed
  pointwise
  rw [dif_neg (show ¬ (n.val < 1024) by omega), dif_neg (show ¬ (n.val - 1024 < 1536) by omega), dif_neg (show ¬ (n.val - 1024 - 1536 < 128) by omega), dif_neg (show ¬ (n.val - 1024 - 1536 - 128 < 256) by omega), dif_neg (show ¬ (n.val - 1024 - 1536 - 128 - 256 < 256) by omega), dif_neg (show ¬ (n.val - 1024 - 1536 - 128 - 256 - 256 < 512) by omega), dif_neg (show ¬ (n.val - 1024 - 1536 - 128 - 256 - 256 - 512 < 512) by omega), dif_pos (show n.val - 1024 - 1536 - 128 - 256 - 256 - 512 - 512 < 512 by omega)]
  pointwise
  exact congrArg (colOf w k) (Fin.ext (by simp only []; omega))

theorem pack8 (k : Fin 1024) (n : Fin 5248) (h0 : 4736 ≤ n.val) (h1 : n.val < 5248) :
    packed w (ix2 k n) = colOf w k ⟨n.val - 64, by omega⟩ := by
  unfold packed
  pointwise
  rw [dif_neg (show ¬ (n.val < 1024) by omega), dif_neg (show ¬ (n.val - 1024 < 1536) by omega), dif_neg (show ¬ (n.val - 1024 - 1536 < 128) by omega), dif_neg (show ¬ (n.val - 1024 - 1536 - 128 < 256) by omega), dif_neg (show ¬ (n.val - 1024 - 1536 - 128 - 256 < 256) by omega), dif_neg (show ¬ (n.val - 1024 - 1536 - 128 - 256 - 256 < 512) by omega), dif_neg (show ¬ (n.val - 1024 - 1536 - 128 - 256 - 256 - 512 < 512) by omega), dif_neg (show ¬ (n.val - 1024 - 1536 - 128 - 256 - 256 - 512 - 512 < 512) by omega)]
  pointwise
  exact congrArg (colOf w k) (Fin.ext (by simp only []; omega))

/-- The step sizes and low-rank columns, filled up with zeros. -/
theorem packL (k : Fin 1024) (n : Fin 5248) (h0 : 2560 ≤ n.val) (h1 : n.val < 2688) :
    packed w (ix2 k n) = if h : n.val < 2592 then colOf w k ⟨n.val, by omega⟩
      else if h : n.val < 2624 then colOf w k ⟨n.val + 1536, by omega⟩ else (0 : EReal) := by
  unfold packed small
  pointwise
  rw [dif_neg (show ¬ (n.val < 1024) by omega), dif_neg (show ¬ (n.val - 1024 < 1536) by omega), dif_pos (show n.val - 1024 - 1536 < 128 by omega)]
  pointwise
  by_cases a : n.val < 2592
  · refine Eq.trans ?_ (dif_pos a).symm
    rw [dif_pos (show n.val - 1024 - 1536 < 64 by omega), dif_pos (show n.val - 1024 - 1536 < 32 by omega)]
    pointwise
    exact congrArg (colOf w k) (Fin.ext (by simp only []; omega))
  · refine Eq.trans ?_ (dif_neg a).symm
    by_cases b : n.val < 2624
    · refine Eq.trans ?_ (dif_pos b).symm
      rw [dif_pos (show n.val - 1024 - 1536 < 64 by omega), dif_neg (show ¬ (n.val - 1024 - 1536 < 32) by omega)]
      pointwise
      exact congrArg (colOf w k) (Fin.ext (by simp only []; omega))
    · refine Eq.trans ?_ (dif_neg b).symm
      rw [dif_neg (show ¬ (n.val - 1024 - 1536 < 64) by omega)]
      exact Tok.sitofp_zero
end

/-! ## The neighbours of a token -/

theorem near_in (A : Tok.Args) (b : Fin 8) (s s' : Fin 4352) (n : Fin 5) (e : Fin 1536) (hs : s'.val + 2 = s.val + n.val)
    (h : s.val < 4096 ∧ s'.val < 4096 ∨ 4096 ≤ s.val ∧ 4096 ≤ s'.val) : Tok.near A b s n e = Tok.proj A b s' (Tok.colX e) := by
  have hs' := s'.isLt
  unfold Tok.near
  rw [dif_pos (by split_ifs <;> omega)]
  exact congrArg (fun x => Tok.proj A b x (Tok.colX e)) (Fin.ext (by show s.val + n.val - 2 = s'.val; omega))
theorem near_out (A : Tok.Args) (b : Fin 8) (s : Fin 4352) (n : Fin 5) (e : Fin 1536)
    (h : s.val < 4096 ∧ (s.val + n.val < 2 ∨ 4098 ≤ s.val + n.val) ∨ 4096 ≤ s.val ∧ (s.val + n.val < 4098 ∨ 4354 ≤ s.val + n.val)) : Tok.near A b s n e = 0 := by
  unfold Tok.near
  rw [dif_neg (by split_ifs <;> omega)]

/-- The modulations, the context's in row 8. -/
def mods (a : FVec Ideal S8x3072 .f32) (b : FVec Ideal S3072 .f32) : FVec Ideal S16x3072 .f32 :=
  concatenate S16x3072 0 [⟨S8x3072, a⟩, ⟨S1x3072, (shapeCast S1x3072 b shapeCasts_S3072_S1x3072 : FVec Ideal S1x3072 .f32)⟩,
    ⟨S7x3072, (broadcastInDim S7x3072 ![] bcast_S_S7x3072 (constant (F := Ideal) S_ .f32 0x00000000#32) : FVec Ideal S7x3072 .f32)⟩] concatenates_S8x3072_S1x3072_S7x3072_S16x3072_d0
theorem mods_at (a : FVec Ideal S8x3072 .f32) (b : FVec Ideal S3072 .f32) (k : Fin 16) (hk : k.val < 9) (n : Fin 3072) :
    mods a b (ix2 k n) = if h : k.val < 8 then a (ix2 ⟨k.val, h⟩ n) else b (ix1 n) := by
  unfold mods
  pointwise
  by_cases h : k.val < 8
  · rw [dif_pos h, dif_pos h]
  · rw [dif_neg h, dif_neg h, dif_pos (show k.val - 8 < 1 by omega)]

/-! ## The seven results as arrays -/

/-- The token of row `r` of tile `j`. -/
def tok (j : Fin 17) (r : Fin 256) : Fin 4352 := ⟨j.val * 256 + r.val, by omega⟩

section
variable {n : Nat} {α : Type} (out : Fin 8 → Fin 4352 → Fin n → α)

/-- The array of a row per token. -/
def arr : (⟨3, ![8, 4352, n]⟩ : Shape).Idx → α := fun i => out (i 0) (i 1) (i 2)
/-- A block of 256 tokens' rows is what the array holds where the block lies. -/
theorem block (q : Fin 8) (j : Fin 17) (B : (⟨3, ![1, 256, n]⟩ : Shape).Idx → α) (f : (⟨3, ![1, 256, n]⟩ : Shape).Idx → (⟨3, ![8, 4352, n]⟩ : Shape).Idx)
    (w : Fin 3 → Nat) (hw : w 0 = q.val ∧ w 1 = j.val ∧ w 2 = 0) (hf : ∀ y a, (f y a).val = w a * ![1, 256, n] a + 1 * (y a).val)
    (hB : ∀ (r : Fin 256) (e : Fin n), B (ix3 0 r e) = out q (tok j r) e) (y) : B y = arr out (f y) := by
  obtain ⟨r, e, rfl⟩ : ∃ (r : Fin 256) (e : Fin n), y = ix3 0 r e := ⟨y 1, y 2, by
    funext a; match a with | ⟨0, _⟩ => exact Subsingleton.elim (α := Fin 1) _ _ | ⟨1, _⟩ => rfl | ⟨2, _⟩ => rfl⟩
  have h0 : (f (ix3 0 r e) 0).val = w 0 * 1 + 1 * 0 := hf _ 0
  have h1 : (f (ix3 0 r e) 1).val = w 1 * 256 + 1 * r.val := hf _ 1
  have h2 : (f (ix3 0 r e) 2).val = w 2 * n + 1 * e.val := hf _ 2
  have e0 : f (ix3 0 r e) 0 = q := Fin.ext (by omega)
  have e1 : f (ix3 0 r e) 1 = tok j r := Fin.ext (by show _ = j.val * 256 + r.val; omega)
  have e2 : f (ix3 0 r e) 2 = e := Fin.ext (by rw [h2, hw.2.2]; omega)
  unfold arr
  rw [hB, e0, e1, e2]
/-- The block of its tile holds a token's row. -/
theorem cover (i : (⟨3, ![8, 4352, n]⟩ : Shape).Idx) (w : Fin 3 → Nat) (hw : w 0 = (i 0).val ∧ w 1 = (i 1).val / 256 ∧ w 2 = 0) (a : Fin 3) :
    w a * ![1, 256, n] a ≤ (i a).val ∧ (i a).val < w a * ![1, 256, n] a + ![1, 256, n] a := by
  have h2 : (i 2).val < n := (i 2).isLt
  match a with
  | ⟨0, _⟩ => show w 0 * 1 ≤ (i 0).val ∧ (i 0).val < w 0 * 1 + 1; omega
  | ⟨1, _⟩ => show w 1 * 256 ≤ (i 1).val ∧ (i 1).val < w 1 * 256 + 256; omega
  | ⟨2, _⟩ => show w 2 * n ≤ (i 2).val ∧ (i 2).val < w 2 * n + n; rw [hw.2.2]; omega
end

def arrZ (A : Tok.Args) : Vec Ideal S8x4352x1024 .bf16 := arr (Tok.outZ A)
def arrX (A : Tok.Args) : Vec Ideal S8x4352x1536 .bf16 := arr (Tok.outX A)
def arrL (A : Tok.Args) : Vec Ideal S8x4352x128 .f32 := arr (Tok.outL A)
def arrQ (A : Tok.Args) : Vec Ideal S8x4352x1024 .bf16 := arr (Tok.outQ A)
def arrG (A : Tok.Args) : Vec Ideal S8x4352x512 .bf16 := arr (Tok.outG A)
def arrS (A : Tok.Args) : Vec Ideal S8x4352x512 .bf16 := arr (Tok.outS A)
def arrU (A : Tok.Args) : Vec Ideal S8x4x4352x128 .f32 := fun j => Tok.outU A (j 0) (j 1) (j 2) (j 3)

/-! ## What the blocks of a point hold -/

/-- The blocks of the point of batch `q` and tile `j` hold rows of the arguments: the tile and its edges in the order of the
    latents, the context, the modulations and the weights. -/
structure Reads (A : Tok.Args) (w : FVec Ideal S1024x5184 .f32) (i : grid0.Coords) (q : Fin 8) (j : Fin 17) (x0 x1 : Vec Ideal S1x256x1024 .f32)
    (x2 x3 : Vec Ideal S1x8x1024 .f32) (x4 : Vec Ideal S16x3072 .f32) (x5 : Vec Ideal S1x1024 .f32) (x6 : Vec Ideal S1024x5248 .bf16)
    (x7 : Vec Ideal S5x1536 .f32) (x8 : Vec Ideal S1x1536 .f32) : Prop where
  at0 : (i 0).val = q.val
  at1 : (i 1).val = j.val
  weights : ∀ k e, A.w k e = w (ix2 k e)
  tile : ∀ r k, x0 (ix3 0 r k) = A.x q ⟨(min j.val 15) * 256 + r.val, by omega⟩ k
  ctx : ∀ r k, x1 (ix3 0 r k) = A.ctx q r k
  before : 0 < j.val → ∀ r k, x2 (ix3 0 r k) = A.x q ⟨((min j.val 15) * 32 - 1) * 8 + r.val, by omega⟩ k
  after : j.val < 15 → ∀ r k, x3 (ix3 0 r k) = A.x q ⟨(min ((min j.val 15 + 1) * 32) 511) * 8 + r.val, by omega⟩ k
  mod : ∀ (k : Fin 16) (hk : k.val < 9) n, x4 (ix2 k n) = if h : k.val < 8 then A.mod ⟨k.val, h⟩ n else A.modc n
  nw : ∀ n, x5 (ix2 0 n) = A.nw n
  cols : ∀ k n, x6 (ix2 k n) = packed w (ix2 k n)
  cw : ∀ n e, x7 (ix2 n e) = A.cw n e
  cb : ∀ e, x8 (ix2 0 e) = A.cb e

variable {A : Tok.Args} {w : FVec Ideal S1024x5184 .f32} {i : grid0.Coords} {q : Fin 8} {j : Fin 17} {x0 x1 : Vec Ideal S1x256x1024 .f32}
  {x2 x3 : Vec Ideal S1x8x1024 .f32} {x4 : Vec Ideal S16x3072 .f32} {x5 : Vec Ideal S1x1024 .f32} {x6 : Vec Ideal S1024x5248 .bf16}
  {x7 : Vec Ideal S5x1536 .f32} {x8 : Vec Ideal S1x1536 .f32} (R : Reads A w i q j x0 x1 x2 x3 x4 x5 x6 x7 x8)
include R

/-- A column of the packed weights that is a column of the weights. -/
theorem col_of {n : Fin 5248} {e : Fin 5184} (k : Fin 1024) (h : packed w (ix2 k n) = colOf w k e) : x6 (ix2 k n) = A.w k e :=
  (R.cols k n).trans (h.trans (R.weights k e).symm)

/-! ## The normalised rows -/

/-- The modulation of a point. -/
theorem mod_row (n : Fin 3072) : x4 (ix2 (Proj.modIx i) n)
    = if j.val = 16 then A.modc n else A.mod q n := by
  have h0 := R.at0
  have h1 := R.at1
  have hb := q.isLt
  unfold Proj.modIx
  by_cases h : j.val = 16
  · rw [if_pos (h1.trans h), if_pos h, R.mod 8 (by decide), dif_neg (by decide)]
  · rw [if_neg (fun e => h (h1.symm.trans e)), if_neg h, R.mod _ (by show (i 0).val < 9; omega), dif_pos (show (i 0).val < 8 by omega)]
    exact congrArg (fun b => A.mod b n) (Fin.ext h0)

/-- A row of the tile is its token. -/
theorem uT_tok (r : Fin 256) : (fun k => Proj.uT i x0 x1 x4 x5 (ix2 r k)) = Tok.u A q (tok j r) := by
  have h1 := R.at1
  funext k
  rw [Proj.uT_at]
  simp only [mod_row R, R.nw, h1, R.tile, R.ctx]
  unfold Tok.u
  by_cases h : j.val = 16
  · rw [dif_neg (show ¬ ((tok j r).val < 4096) by show ¬ (j.val * 256 + r.val < 4096); omega)]
    simp only [if_pos h]
    unfold Tok.uCtx
    have e : (⟨(tok j r).val - 4096, by have := (tok j r).isLt; omega⟩ : Fin 256) = r := Fin.ext (by show j.val * 256 + r.val - 4096 = r.val; omega)
    rw [e]
  · rw [dif_pos (show (tok j r).val < 4096 by show j.val * 256 + r.val < 4096; omega)]
    simp only [if_neg h]
    unfold Tok.uLat
    have e : (⟨(min (j.val) 15) * 256 + r.val, by omega⟩ : Fin 4096) = ⟨(tok j r).val, by show j.val * 256 + r.val < 4096; omega⟩ :=
      Fin.ext (by show (min (j.val) 15) * 256 + r.val = j.val * 256 + r.val; omega)
    rw [e]

/-- A row of the edges is the token before or after the tile. -/
theorem uH_tok (r : Fin 16) (s : Fin 4352) (h : j.val < 16)
    (hs : r.val < 8 ∧ 0 < j.val ∧ s.val + 8 = j.val * 256 + r.val ∨ 8 ≤ r.val ∧ j.val < 15 ∧ s.val + 8 = (j.val + 1) * 256 + r.val) :
    (fun k => Proj.uH i x2 x3 x4 x5 (ix2 r k)) = Tok.u A q s := by
  funext k
  rw [Proj.uH_at]
  have hn : ¬ j.val = 16 := by omega
  have hl : s.val < 4096 := by omega
  simp only [mod_row R, R.nw, if_neg hn]
  unfold Tok.u
  rw [dif_pos hl]
  unfold Tok.uLat
  refine congrArg (fun v => Tok.norm v A.nw (fun k => A.mod q (Tok.scaleCol k)) (fun k => A.mod q (Tok.shiftCol k)) k) (funext fun l => ?_)
  by_cases hr : r.val < 8
  · rw [dif_pos hr]
    rw [R.before (by omega)]
    exact congrArg (fun x => A.x q x l) (Fin.ext (by show ((min (j.val) 15) * 32 - 1) * 8 + r.val = s.val; omega))
  · rw [dif_neg hr]
    rw [R.after (by omega)]
    exact congrArg (fun x => A.x q x l) (Fin.ext (by show (min ((min (j.val) 15 + 1) * 32) 511) * 8 + (r.val - 8) = s.val; omega))

/-- A product of a row with a column that is a column of the weights. -/
theorem prodT_proj (r : Fin 256) (n : Fin 5248) (e : Fin 5184) (hp : ∀ k, x6 (ix2 k n) = A.w k e) :
    Proj.prodT i x0 x1 x4 x5 x6 r n = Tok.proj A q (tok j r) e := by
  unfold Proj.prodT Tok.proj
  rw [uT_tok R]
  simp only [hp]
theorem prodH_proj (r : Fin 16) (s : Fin 4352) (h : j.val < 16)
    (hs : r.val < 8 ∧ 0 < j.val ∧ s.val + 8 = j.val * 256 + r.val ∨ 8 ≤ r.val ∧ j.val < 15 ∧ s.val + 8 = (j.val + 1) * 256 + r.val)
    (n : Fin 5248) (e : Fin 5184) (hp : ∀ k, x6 (ix2 k n) = A.w k e) :
    Proj.prodH i x2 x3 x4 x5 x6 r n = Tok.proj A q s e := by
  unfold Proj.prodH Tok.proj
  rw [uH_tok R r s h hs]
  simp only [hp]

/-! ## The neighbours -/

/-- A tap at a point reads the token's neighbour in its own sequence, or nothing. -/
theorem tap_tok (r : Fin 256) (e : Fin 1536) (n : Fin 5) :
    Proj.tap i x0 x1 x2 x3 x4 x5 x6 r ⟨1024 + e.val, by omega⟩ n
      = Tok.near A q (tok j r) n e := by
  have h1 := R.at1
  have hp : ∀ k, x6 (ix2 k ⟨1024 + e.val, by omega⟩) = A.w k (Tok.colX e) := fun k =>
    col_of R k (pack1 w k _ (Nat.le_add_right _ _) (by show 1024 + e.val < 2560; omega))
  have ht : (tok j r).val = j.val * 256 + r.val := rfl
  unfold Proj.tap
  rw [h1]
  by_cases a : r.val + n.val < 2
  · rw [if_pos a]
    by_cases b : j.val ≠ 16 ∧ 0 < j.val
    · rw [if_pos b, prodH_proj R _ ⟨j.val * 256 + r.val + n.val - 2, by omega⟩ (by omega) (Or.inl ⟨by show (6 + n.val + r.val) % 16 < 8; omega, b.2,
        by show j.val * 256 + r.val + n.val - 2 + 8 = j.val * 256 + (6 + n.val + r.val) % 16; omega⟩) _ _ hp]
      exact (near_in _ _ _ _ _ _ (by simp only [ht]; omega) (Or.inl ⟨by omega, by simp only []; omega⟩)).symm
    · rw [if_neg b]
      exact (near_out _ _ _ _ _ (by rw [ht]; omega)).symm
  · rw [if_neg a]
    by_cases b : r.val + n.val - 2 < 256
    · rw [dif_pos b, prodT_proj R _ _ _ hp]
      have hq : (tok j ⟨r.val + n.val - 2, b⟩).val = j.val * 256 + (r.val + n.val - 2) := rfl
      exact (near_in _ _ _ _ _ _ (by rw [ht, hq]; omega) (by rw [ht, hq]; omega)).symm
    · rw [dif_neg b]
      by_cases d : j.val < 15
      · rw [if_pos d, prodH_proj R _ ⟨j.val * 256 + r.val + n.val - 2, by omega⟩ (by omega) (Or.inr ⟨by show 8 ≤ (8 + (r.val + n.val - 258)) % 16; omega, d,
          by show j.val * 256 + r.val + n.val - 2 + 8 = (j.val + 1) * 256 + (8 + (r.val + n.val - 258)) % 16; omega⟩) _ _ hp]
        exact (near_in _ _ _ _ _ _ (by simp only [ht]; omega) (Or.inl ⟨by omega, by simp only []; omega⟩)).symm
      · rw [if_neg d]
        exact (near_out _ _ _ _ _ (by rw [ht]; omega)).symm

/-! ## The seven blocks -/

theorem leftZ (r : Fin 256) (e : Fin 1024) : Proj.gZ i x0 x1 x4 x5 x6 (ix3 0 r e) = Tok.outZ A q (tok j r) e :=
  (Proj.gZ_at _ _ _ _ _ _ r e).trans (prodT_proj R r _ (Tok.colZ e) (fun k => col_of R k <| pack0 w k _ (Nat.zero_le _) e.isLt))
theorem leftX (r : Fin 256) (e : Fin 1536) : Proj.gX i x0 x1 x2 x3 x4 x5 x6 x7 x8 (ix3 0 r e) = Tok.outX A q (tok j r) e := by
  rw [Proj.gX_at, R.cb]
  have h7 : (fun n : Fin 5 => x7 (ix2 n e)) = fun n => A.cw n e := funext fun n => R.cw n e
  have ht : Proj.tap i x0 x1 x2 x3 x4 x5 x6 r ⟨1024 + e.val, by omega⟩
    = fun n => Tok.near A q (tok j r) n e := funext fun n => tap_tok R r e n
  rw [h7, ht]
  rfl
theorem leftL (r : Fin 256) (e : Fin 128) : Proj.gL i x0 x1 x4 x5 x6 (ix3 0 r e) = Tok.outL A q (tok j r) e := by
  rw [Proj.gL_at]
  have hp := fun k => packL w k ⟨2560 + e.val, by omega⟩ (Nat.le_add_right _ _) (by show 2560 + e.val < 2688; omega)
  unfold Tok.outL
  by_cases a : e.val < 32
  · rw [dif_pos a]
    exact prodT_proj R r _ _ (fun k => col_of R k ((hp k).trans (dif_pos (show 2560 + e.val < 2592 by omega))))
  · rw [dif_neg a]
    by_cases b : e.val < 64
    · rw [dif_pos b]
      refine prodT_proj R r _ _ (fun k => col_of R k ((hp k).trans ((dif_neg (show ¬ (2560 + e.val < 2592) by omega)).trans ((dif_pos (show 2560 + e.val < 2624 by omega)).trans ?_))))
      exact congrArg (colOf w k) (Fin.ext (by show 2560 + e.val + 1536 = 4128 + (e.val - 32); omega))
    · rw [dif_neg b]
      unfold Proj.prodT Tok.dot
      refine Finset.sum_eq_zero fun k _ => ?_
      show _ * x6 (ix2 k ⟨2560 + e.val, by omega⟩) = (0 : EReal)
      rw [R.cols, hp k, dif_neg (show ¬ (2560 + e.val < 2592) by omega), dif_neg (show ¬ (2560 + e.val < 2624) by omega)]
      exact mul_zero _
theorem leftQ (r : Fin 256) (e : Fin 1024) : Proj.gQ i x0 x1 x4 x5 x6 (ix3 0 r e) = Tok.outQ A q (tok j r) e := by
  refine (Proj.gQ_at _ _ _ _ _ _ r e).trans (prodT_proj R r _ (Tok.colQ e) (fun k => col_of R k ?_))
  by_cases a : e.val < 256
  · exact (pack3 w k _ (by show 2688 ≤ 2688 + e.val; omega) (by show 2688 + e.val < 2944; omega)).trans
      (congrArg (colOf w k) (Fin.ext (by show 2688 + e.val - 96 = 2592 + e.val; omega)))
  · by_cases b : e.val < 512
    · exact (pack4 w k _ (by show 2944 ≤ 2688 + e.val; omega) (by show 2688 + e.val < 3200; omega)).trans
        (congrArg (colOf w k) (Fin.ext (by show 2688 + e.val - 96 = 2592 + e.val; omega)))
    · exact (pack5 w k _ (by show 3200 ≤ 2688 + e.val; omega) (by show 2688 + e.val < 3712; omega)).trans
        (congrArg (colOf w k) (Fin.ext (by show 2688 + e.val - 96 = 2592 + e.val; omega)))
theorem leftG (r : Fin 256) (e : Fin 512) : Proj.gG i x0 x1 x4 x5 x6 (ix3 0 r e) = Tok.outG A q (tok j r) e :=
  (Proj.gG_at _ _ _ _ _ _ r e).trans (prodT_proj R r _ (Tok.colG e) (fun k => col_of R k <|
    (pack6 w k _ (by show 3712 ≤ 3712 + e.val; omega) (by show 3712 + e.val < 4224; omega)).trans
      (congrArg (colOf w k) (Fin.ext (by show 3712 + e.val - 96 = 3616 + e.val; omega)))))
theorem leftU (g : Fin 4) (r : Fin 256) (l : Fin 128) : Proj.gU i x0 x1 x4 x5 x6 (ix4 0 g r l) = Tok.outU A q g (tok j r) l :=
  (Proj.gU_at _ _ _ _ _ _ g r l).trans (prodT_proj R r _ (Tok.colU ⟨g.val * 128 + l.val, by omega⟩) (fun k => col_of R k <|
    (pack7 w k _ (by show 4224 ≤ 4224 + (g.val * 128 + l.val); omega) (by show 4224 + (g.val * 128 + l.val) < 4736; omega)).trans
      (congrArg (colOf w k) (Fin.ext (by show 4224 + (g.val * 128 + l.val) - 64 = 4160 + (g.val * 128 + l.val); omega)))))
theorem leftS (r : Fin 256) (e : Fin 512) : Proj.gS i x0 x1 x4 x5 x6 (ix3 0 r e) = Tok.outS A q (tok j r) e :=
  (Proj.gS_at _ _ _ _ _ _ r e).trans (prodT_proj R r _ (Tok.colS e) (fun k => col_of R k <|
    (pack8 w k _ (by show 4736 ≤ 4736 + e.val; omega) (by show 4736 + e.val < 5248; omega)).trans
      (congrArg (colOf w k) (Fin.ext (by show 4736 + e.val - 64 = 4672 + e.val; omega)))))

end Cert.Proof.ProjReads

end
-- ==== Proof.ProjBlocks.lean ====
/-
  The projection kernel's seven result arrays: every grid point projects a tile of tokens, with the rows of its neighbours
  for the convolution, and the points' blocks cover the arrays.
-/
module

public import proofs.«01_k».proof.Proof.ProjReads
public import proofs.«01_k».proof.Proof.Gen.Kernel2Ideal.Value
public import Idealize.ShloMosaic.Lib.StableHlo.ReadAt

@[expose] public section
noncomputable section
namespace Cert.Proof.ProjBlocks

open Idealize.ShloMosaic Idealize.ShloMosaic.TcCoe Idealize.SL.Sem Cert.Kernel2Ideal Cert.Kernel2Ideal.Gen Cert.Proof

variable (m : (ℓ : Loc nD τ sig) → Buf (Elt Ideal) ℓ) (c : Dev nD)
/-- The arguments in core `c`'s memory. -/
def args : Tok.Args where
  x := fun b t k => (m ((c : Thread nD τ).loc main_arg0) : Vec Ideal S8x4096x1024 .f32) (ix3 b t k)
  ctx := fun b t k => (m ((c : Thread nD τ).loc main_arg1) : Vec Ideal S8x256x1024 .f32) (ix3 b t k)
  mod := fun b k => (m ((c : Thread nD τ).loc main_arg2) : Vec Ideal S8x3072 .f32) (ix2 b k)
  modc := fun k => (m ((c : Thread nD τ).loc main_arg3) : Vec Ideal S3072 .f32) (ix1 k)
  nw := fun k => (m ((c : Thread nD τ).loc main_arg4) : Vec Ideal S1024 .f32) (ix1 k)
  w := fun k e => (m ((c : Thread nD τ).loc main_arg5) : Vec Ideal S1024x5184 .f32) (ix2 k e)
  cw := fun i e => (m ((c : Thread nD τ).loc main_arg6) : Vec Ideal S5x1536 .f32) (ix2 i e)
  cb := fun e => (m ((c : Thread nD τ).loc main_arg7) : Vec Ideal S1536 .f32) (ix1 e)

/-! ## The arrays prepared before the launch -/

theorem pack_eq : (V m c main_v17 : FVec Ideal S1024x5248 .bf16) = ProjReads.packed (m ((c : Thread nD τ).loc main_arg5)) := by
  unfold V
  after_reads_simp
  rfl
theorem mods_eq : (V m c main_v2 : FVec Ideal S16x3072 .f32) = ProjReads.mods (m ((c : Thread nD τ).loc main_arg2)) (m ((c : Thread nD τ).loc main_arg3)) := by
  unfold V
  after_reads_simp
  rfl
theorem pad3 (n : Fin 1024) : (V m c main_v3 : Vec Ideal S1x1024 .f32) (ix2 0 n) = (args m c).nw n := by
  unfold V args
  after_reads_at
theorem pad18 (n : Fin 1536) : (V m c main_v18 : Vec Ideal S1x1536 .f32) (ix2 0 n) = (args m c).cb n := by
  unfold V args
  after_reads_at

/-! ## The points and their blocks -/

variable (t : Fin cfg0.N)

/-- The grid coordinates of a point; its batch; its tile. -/
def at_ : grid0.Coords := grid0.coords t
theorem at_eq : ∀ t : Fin cfg0.N, (at_ t 0).val = t.val / 17 ∧ (at_ t 1).val = t.val % 17 :=
  (by decide +kernel : ∀ t : Fin grid0.N, (grid0.coords t 0).val = t.val / 17 ∧ (grid0.coords t 1).val = t.val % 17)
def bat : Fin 8 := ⟨t.val / 17, by have := t.isLt; have : cfg0.N = 136 := N_0; omega⟩
def til : Fin 17 := ⟨t.val % 17, Nat.mod_lt _ (by decide)⟩

def b0 : Vec Ideal S1x256x1024 .f32 := iblk m c 0 t
def b1 : Vec Ideal S1x256x1024 .f32 := iblk m c 1 t
def b2 : Vec Ideal S1x8x1024 .f32 := iblk m c 2 t
def b3 : Vec Ideal S1x8x1024 .f32 := iblk m c 3 t
def b4 : Vec Ideal S16x3072 .f32 := iblk m c 4 t
def b5 : Vec Ideal S1x1024 .f32 := iblk m c 5 t
def b6 : Vec Ideal S1024x5248 .bf16 := iblk m c 6 t
def b7 : Vec Ideal S5x1536 .f32 := iblk m c 7 t
def b8 : Vec Ideal S1x1536 .f32 := iblk m c 8 t

theorem idx0 : ∀ t : Fin cfg0.N, win0_0.index t 0 = t.val / 17 ∧ win0_0.index t 1 = min (t.val % 17) 15 ∧ win0_0.index t 2 = 0 :=
  (by decide +kernel : ∀ t : Fin grid0.N, win0_0.index t 0 = t.val / 17 ∧ win0_0.index t 1 = min (t.val % 17) 15 ∧ win0_0.index t 2 = 0)
theorem blk0 (r : Fin 256) (k : Fin 1024) : b0 m c t (ix3 0 r k) = (args m c).x (bat t) ⟨(min (t.val % 17) 15) * 256 + r.val, by omega⟩ k := by
  have hi := idx0 t
  unfold b0 iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 17; rw [hi.1]; omega
  | ⟨1, _⟩ => show win0_0.index t 1 * 256 + 1 * r.val = (min (t.val % 17) 15) * 256 + r.val; rw [hi.2.1]; omega
  | ⟨2, _⟩ => show win0_0.index t 2 * 1024 + 1 * k.val = k.val; rw [hi.2.2]; omega
theorem idx1 : ∀ t : Fin cfg0.N, win0_1.index t 0 = t.val / 17 ∧ win0_1.index t 1 = 0 ∧ win0_1.index t 2 = 0 :=
  (by decide +kernel : ∀ t : Fin grid0.N, win0_1.index t 0 = t.val / 17 ∧ win0_1.index t 1 = 0 ∧ win0_1.index t 2 = 0)
theorem blk1 (r : Fin 256) (k : Fin 1024) : b1 m c t (ix3 0 r k) = (args m c).ctx (bat t) r k := by
  have hi := idx1 t
  unfold b1 iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 17; rw [hi.1]; omega
  | ⟨1, _⟩ => show win0_1.index t 1 * 256 + 1 * r.val = r.val; rw [hi.2.1]; omega
  | ⟨2, _⟩ => show win0_1.index t 2 * 1024 + 1 * k.val = k.val; rw [hi.2.2]; omega
theorem idx2 : ∀ t : Fin cfg0.N, win0_2.index t 0 = t.val / 17 ∧ win0_2.index t 1 = (min (t.val % 17) 15) * 32 - 1 ∧ win0_2.index t 2 = 0 :=
  (by decide +kernel : ∀ t : Fin grid0.N, win0_2.index t 0 = t.val / 17 ∧ win0_2.index t 1 = (min (t.val % 17) 15) * 32 - 1 ∧ win0_2.index t 2 = 0)
theorem blk2 (r : Fin 8) (k : Fin 1024) : b2 m c t (ix3 0 r k) = (args m c).x (bat t) ⟨((min (t.val % 17) 15) * 32 - 1) * 8 + r.val, by omega⟩ k := by
  have hi := idx2 t
  unfold b2 iblk
  rw [View.read_apply]
  show V m c main_arg0 _ = m (c.tc.loc main_arg0) _
  rw [V_main_arg0]
  congr 1
  funext a
  apply Fin.ext
  match a with
  | ⟨0, _⟩ => show win0_2.index t 0 * 1 + 1 * 0 = t.val / 17; rw [hi.1]; omega
  | ⟨1, _⟩ => show win0_2.index t 1 * 8 + 1 * r.val = ((min (t.val % 17) 15) * 32 - 1) * 8 + r.val; rw [hi.2.1]; omega
  | ⟨2, _⟩ => show win0_2.index t 2 * 1024 + 1 * k.val = k.val; rw [hi.2.2]; omega
theorem idx3 : ∀ t : Fin cfg0.N, win0_3.index t 0 = t.val / 17 ∧ win0_3.index t 1 = min ((min (t.val % 17) 15 + 1) * 32) 511 ∧ win0_3.index t 2 = 0 :=
  (by decide +kernel : ∀ t : Fin grid0.N, win0_3.index t 0 = t.val / 17 ∧ win0_3.index t 1 = min ((min (t.val % 17) 15 + 1) * 32) 511 ∧ win0_3.index t 2 = 0)
theorem blk3 (r : Fin 8) (k : Fin 1024) : b3 m c t (ix3 0 r k) = (args m c).x (bat t) ⟨(min ((min (t.val % 17) 15 + 1) * 32) 511) * 8 + r.val, by omega⟩ k := by
  have hi := idx3 t
  unfold b3 iblk
  rw [View.read_apply]
  show V m c main_arg0 _ = m (c.tc.loc main_arg0) _
  rw [V_main_arg0]
  congr 1
  funext a
  apply Fin.ext
  match a with
  | ⟨0, _⟩ => show win0_3.index t 0 * 1 + 1 * 0 = t.val / 17; rw [hi.1]; omega
  | ⟨1, _⟩ => show win0_3.index t 1 * 8 + 1 * r.val = (min ((min (t.val % 17) 15 + 1) * 32) 511) * 8 + r.val; rw [hi.2.1]; omega
  | ⟨2, _⟩ => show win0_3.index t 2 * 1024 + 1 * k.val = k.val; rw [hi.2.2]; omega
theorem blk4 (r : Fin 16) (k : Fin 3072) : b4 m c t (ix2 r k) = (V m c main_v2 : Vec Ideal S16x3072 .f32) (ix2 r k) := by
  unfold b4 iblk
  rw [View.read_apply]
  show V m c main_v2 _ = V m c main_v2 _
  congr 1
  funext a
  apply Fin.ext
  match a with
  | ⟨0, _⟩ => show 0 * 16 + 1 * r.val = r.val; omega
  | ⟨1, _⟩ => show 0 * 3072 + 1 * k.val = k.val; omega
theorem blk5 (r : Fin 1) (k : Fin 1024) : b5 m c t (ix2 r k) = (V m c main_v3 : Vec Ideal S1x1024 .f32) (ix2 r k) := by
  unfold b5 iblk
  rw [View.read_apply]
  show V m c main_v3 _ = V m c main_v3 _
  congr 1
  funext a
  apply Fin.ext
  match a with
  | ⟨0, _⟩ => show 0 * 1 + 1 * r.val = r.val; omega
  | ⟨1, _⟩ => show 0 * 1024 + 1 * k.val = k.val; omega
theorem blk6 (r : Fin 1024) (k : Fin 5248) : b6 m c t (ix2 r k) = (V m c main_v17 : Vec Ideal S1024x5248 .bf16) (ix2 r k) := by
  unfold b6 iblk
  rw [View.read_apply]
  show V m c main_v17 _ = V m c main_v17 _
  congr 1
  funext a
  apply Fin.ext
  match a with
  | ⟨0, _⟩ => show 0 * 1024 + 1 * r.val = r.val; omega
  | ⟨1, _⟩ => show 0 * 5248 + 1 * k.val = k.val; omega
theorem blk7 (r : Fin 5) (k : Fin 1536) : b7 m c t (ix2 r k) = (V m c main_arg6 : Vec Ideal S5x1536 .f32) (ix2 r k) := by
  unfold b7 iblk
  rw [View.read_apply]
  show V m c main_arg6 _ = V m c main_arg6 _
  congr 1
  funext a
  apply Fin.ext
  match a with
  | ⟨0, _⟩ => show 0 * 5 + 1 * r.val = r.val; omega
  | ⟨1, _⟩ => show 0 * 1536 + 1 * k.val = k.val; omega
theorem blk8 (r : Fin 1) (k : Fin 1536) : b8 m c t (ix2 r k) = (V m c main_v18 : Vec Ideal S1x1536 .f32) (ix2 r k) := by
  unfold b8 iblk
  rw [View.read_apply]
  show V m c main_v18 _ = V m c main_v18 _
  congr 1
  funext a
  apply Fin.ext
  match a with
  | ⟨0, _⟩ => show 0 * 1 + 1 * r.val = r.val; omega
  | ⟨1, _⟩ => show 0 * 1536 + 1 * k.val = k.val; omega

/-- What the blocks of a point hold. -/
theorem reads : ProjReads.Reads (args m c) (m ((c : Thread nD τ).loc main_arg5)) (at_ t) (bat t) (til t) (b0 m c t) (b1 m c t) (b2 m c t) (b3 m c t) (b4 m c t)
    (b5 m c t) (b6 m c t) (b7 m c t) (b8 m c t) where
  at0 := (at_eq t).1
  at1 := (at_eq t).2
  weights _ _ := rfl
  tile := blk0 m c t
  ctx := blk1 m c t
  before _ := blk2 m c t
  after _ := blk3 m c t
  mod k hk n := ((blk4 m c t k n).trans (congrFun (mods_eq m c) _)).trans (ProjReads.mods_at _ _ k hk n)
  nw n := (blk5 m c t 0 n).trans (pad3 m c n)
  cols k n := (blk6 m c t k n).trans (congrFun (pack_eq m c) _)
  cw n e := (blk7 m c t n e).trans (congrFun (V_main_arg6 m c) _)
  cb e := (blk8 m c t 0 e).trans (pad18 m c e)

/-! ## The seven results -/

/-- The point that writes a token. -/
def writer (b : Fin 8) (s : Fin 4352) : Fin cfg0.N := ⟨b.val * 17 + s.val / 256, by have : cfg0.N = 136 := N_0; omega⟩
theorem writer_at (b : Fin 8) (s : Fin 4352) : (writer b s).val / 17 = b.val ∧ (writer b s).val % 17 = s.val / 256 := by
  constructor
  · show (b.val * 17 + s.val / 256) / 17 = _; omega
  · show (b.val * 17 + s.val / 256) % 17 = _; omega

theorem written (b : Fin 8) (s : Fin 4352) (w : Fin 3 → Nat) (h : w 0 = (writer b s).val / 17 ∧ w 1 = (writer b s).val % 17 ∧ w 2 = 0) :
    w 0 = b.val ∧ w 1 = s.val / 256 ∧ w 2 = 0 := ⟨h.1.trans (writer_at b s).1, h.2.1.trans (writer_at b s).2, h.2.2⟩

theorem idx9 : ∀ t : Fin cfg0.N, win0_9.index t 0 = t.val / 17 ∧ win0_9.index t 1 = t.val % 17 ∧ win0_9.index t 2 = 0 :=
  (by decide +kernel : ∀ t : Fin grid0.N, win0_9.index t 0 = t.val / 17 ∧ win0_9.index t 1 = t.val % 17 ∧ win0_9.index t 2 = 0)
theorem flushedZ (hf : (cfg0.win 9).flush t = true) :
    (dats m 0 c).flushed 9 t = ((cfg0.win 9).blk t).view.read (Elt Ideal) (ProjReads.arrZ (args m c)) := by
  rw [Value.flushed9_A, Proj.out9]
  funext y
  exact ProjReads.block (Tok.outZ (args m c)) (bat t) (til t) _ ((cfg0.win 9).blk t).view.emb _ (idx9 t) (fun _ _ => rfl) (ProjReads.leftZ (reads m c t)) y
theorem finalZ : (dats m 0 c).arrAt 9 cfg0.N = ProjReads.arrZ (args m c) :=
  (dats m 0 c).arrAt_eq_of_cover 9 (ProjReads.arrZ (args m c)) (flushedZ m c) fun i =>
    ⟨writer (i 0) (i 1), flush0_9 _, by
      show i ∈ ((View.whole main_v19_0).slice (win0_9.rect (writer (i 0) (i 1)))).set
      rw [View.set_slice_whole, Rect.mem_set_unit]
      exact ProjReads.cover i _ (written _ _ _ (idx9 (writer (i 0) (i 1))))⟩

theorem idx10 : ∀ t : Fin cfg0.N, win0_10.index t 0 = t.val / 17 ∧ win0_10.index t 1 = t.val % 17 ∧ win0_10.index t 2 = 0 :=
  (by decide +kernel : ∀ t : Fin grid0.N, win0_10.index t 0 = t.val / 17 ∧ win0_10.index t 1 = t.val % 17 ∧ win0_10.index t 2 = 0)
theorem flushedX (hf : (cfg0.win 10).flush t = true) :
    (dats m 0 c).flushed 10 t = ((cfg0.win 10).blk t).view.read (Elt Ideal) (ProjReads.arrX (args m c)) := by
  rw [Value.flushed10_A, Proj.out10]
  funext y
  exact ProjReads.block (Tok.outX (args m c)) (bat t) (til t) _ ((cfg0.win 10).blk t).view.emb _ (idx10 t) (fun _ _ => rfl) (ProjReads.leftX (reads m c t)) y
theorem finalX : (dats m 0 c).arrAt 10 cfg0.N = ProjReads.arrX (args m c) :=
  (dats m 0 c).arrAt_eq_of_cover 10 (ProjReads.arrX (args m c)) (flushedX m c) fun i =>
    ⟨writer (i 0) (i 1), flush0_10 _, by
      show i ∈ ((View.whole main_v19_1).slice (win0_10.rect (writer (i 0) (i 1)))).set
      rw [View.set_slice_whole, Rect.mem_set_unit]
      exact ProjReads.cover i _ (written _ _ _ (idx10 (writer (i 0) (i 1))))⟩

theorem idx11 : ∀ t : Fin cfg0.N, win0_11.index t 0 = t.val / 17 ∧ win0_11.index t 1 = t.val % 17 ∧ win0_11.index t 2 = 0 :=
  (by decide +kernel : ∀ t : Fin grid0.N, win0_11.index t 0 = t.val / 17 ∧ win0_11.index t 1 = t.val % 17 ∧ win0_11.index t 2 = 0)
theorem flushedL (hf : (cfg0.win 11).flush t = true) :
    (dats m 0 c).flushed 11 t = ((cfg0.win 11).blk t).view.read (Elt Ideal) (ProjReads.arrL (args m c)) := by
  rw [Value.flushed11_A, Proj.out11]
  funext y
  exact ProjReads.block (Tok.outL (args m c)) (bat t) (til t) _ ((cfg0.win 11).blk t).view.emb _ (idx11 t) (fun _ _ => rfl) (ProjReads.leftL (reads m c t)) y
theorem finalL : (dats m 0 c).arrAt 11 cfg0.N = ProjReads.arrL (args m c) :=
  (dats m 0 c).arrAt_eq_of_cover 11 (ProjReads.arrL (args m c)) (flushedL m c) fun i =>
    ⟨writer (i 0) (i 1), flush0_11 _, by
      show i ∈ ((View.whole main_v19_2).slice (win0_11.rect (writer (i 0) (i 1)))).set
      rw [View.set_slice_whole, Rect.mem_set_unit]
      exact ProjReads.cover i _ (written _ _ _ (idx11 (writer (i 0) (i 1))))⟩

theorem idx12 : ∀ t : Fin cfg0.N, win0_12.index t 0 = t.val / 17 ∧ win0_12.index t 1 = t.val % 17 ∧ win0_12.index t 2 = 0 :=
  (by decide +kernel : ∀ t : Fin grid0.N, win0_12.index t 0 = t.val / 17 ∧ win0_12.index t 1 = t.val % 17 ∧ win0_12.index t 2 = 0)
theorem flushedQ (hf : (cfg0.win 12).flush t = true) :
    (dats m 0 c).flushed 12 t = ((cfg0.win 12).blk t).view.read (Elt Ideal) (ProjReads.arrQ (args m c)) := by
  rw [Value.flushed12_A, Proj.out12]
  funext y
  exact ProjReads.block (Tok.outQ (args m c)) (bat t) (til t) _ ((cfg0.win 12).blk t).view.emb _ (idx12 t) (fun _ _ => rfl) (ProjReads.leftQ (reads m c t)) y
theorem finalQ : (dats m 0 c).arrAt 12 cfg0.N = ProjReads.arrQ (args m c) :=
  (dats m 0 c).arrAt_eq_of_cover 12 (ProjReads.arrQ (args m c)) (flushedQ m c) fun i =>
    ⟨writer (i 0) (i 1), flush0_12 _, by
      show i ∈ ((View.whole main_v19_3).slice (win0_12.rect (writer (i 0) (i 1)))).set
      rw [View.set_slice_whole, Rect.mem_set_unit]
      exact ProjReads.cover i _ (written _ _ _ (idx12 (writer (i 0) (i 1))))⟩

theorem idx13 : ∀ t : Fin cfg0.N, win0_13.index t 0 = t.val / 17 ∧ win0_13.index t 1 = t.val % 17 ∧ win0_13.index t 2 = 0 :=
  (by decide +kernel : ∀ t : Fin grid0.N, win0_13.index t 0 = t.val / 17 ∧ win0_13.index t 1 = t.val % 17 ∧ win0_13.index t 2 = 0)
theorem flushedG (hf : (cfg0.win 13).flush t = true) :
    (dats m 0 c).flushed 13 t = ((cfg0.win 13).blk t).view.read (Elt Ideal) (ProjReads.arrG (args m c)) := by
  rw [Value.flushed13_A, Proj.out13]
  funext y
  exact ProjReads.block (Tok.outG (args m c)) (bat t) (til t) _ ((cfg0.win 13).blk t).view.emb _ (idx13 t) (fun _ _ => rfl) (ProjReads.leftG (reads m c t)) y
theorem finalG : (dats m 0 c).arrAt 13 cfg0.N = ProjReads.arrG (args m c) :=
  (dats m 0 c).arrAt_eq_of_cover 13 (ProjReads.arrG (args m c)) (flushedG m c) fun i =>
    ⟨writer (i 0) (i 1), flush0_13 _, by
      show i ∈ ((View.whole main_v19_4).slice (win0_13.rect (writer (i 0) (i 1)))).set
      rw [View.set_slice_whole, Rect.mem_set_unit]
      exact ProjReads.cover i _ (written _ _ _ (idx13 (writer (i 0) (i 1))))⟩

theorem idx15 : ∀ t : Fin cfg0.N, win0_15.index t 0 = t.val / 17 ∧ win0_15.index t 1 = t.val % 17 ∧ win0_15.index t 2 = 0 :=
  (by decide +kernel : ∀ t : Fin grid0.N, win0_15.index t 0 = t.val / 17 ∧ win0_15.index t 1 = t.val % 17 ∧ win0_15.index t 2 = 0)
theorem flushedS (hf : (cfg0.win 15).flush t = true) :
    (dats m 0 c).flushed 15 t = ((cfg0.win 15).blk t).view.read (Elt Ideal) (ProjReads.arrS (args m c)) := by
  rw [Value.flushed15_A, Proj.out15]
  funext y
  exact ProjReads.block (Tok.outS (args m c)) (bat t) (til t) _ ((cfg0.win 15).blk t).view.emb _ (idx15 t) (fun _ _ => rfl) (ProjReads.leftS (reads m c t)) y
theorem finalS : (dats m 0 c).arrAt 15 cfg0.N = ProjReads.arrS (args m c) :=
  (dats m 0 c).arrAt_eq_of_cover 15 (ProjReads.arrS (args m c)) (flushedS m c) fun i =>
    ⟨writer (i 0) (i 1), flush0_15 _, by
      show i ∈ ((View.whole main_v19_6).slice (win0_15.rect (writer (i 0) (i 1)))).set
      rw [View.set_slice_whole, Rect.mem_set_unit]
      exact ProjReads.cover i _ (written _ _ _ (idx15 (writer (i 0) (i 1))))⟩

theorem idx14 : ∀ t : Fin cfg0.N, win0_14.index t 0 = t.val / 17 ∧ win0_14.index t 1 = 0 ∧ win0_14.index t 2 = t.val % 17 ∧ win0_14.index t 3 = 0 :=
  (by decide +kernel : ∀ t : Fin grid0.N, win0_14.index t 0 = t.val / 17 ∧ win0_14.index t 1 = 0 ∧ win0_14.index t 2 = t.val % 17 ∧ win0_14.index t 3 = 0)
theorem flushedU (hf : (cfg0.win 14).flush t = true) :
    (dats m 0 c).flushed 14 t = ((cfg0.win 14).blk t).view.read (Elt Ideal) (ProjReads.arrU (args m c)) := by
  rw [Value.flushed14_A, Proj.out14]
  have hi := idx14 t
  funext j
  rw [View.read_apply]
  obtain ⟨g, r, l, rfl⟩ : ∃ (g : Fin 4) (r : Fin 256) (l : Fin 128), j = ix4 0 g r l := ⟨j 1, j 2, j 3, by
    funext a; match a with | ⟨0, _⟩ => exact Subsingleton.elim (α := Fin 1) _ _ | ⟨1, _⟩ => rfl | ⟨2, _⟩ => rfl | ⟨3, _⟩ => rfl⟩
  refine (ProjReads.leftU (reads m c t) g r l).trans ?_
  show ProjReads.arrU (args m c) (ix4 (bat t) g (ProjReads.tok (til t) r) l) = ProjReads.arrU (args m c) _
  congr 1
  funext a
  apply Fin.ext
  match a with
  | ⟨0, _⟩ => show t.val / 17 = win0_14.index t 0 * 1 + 1 * 0; rw [hi.1]; omega
  | ⟨1, _⟩ => show g.val = win0_14.index t 1 * 4 + 1 * g.val; rw [hi.2.1]; omega
  | ⟨2, _⟩ => show t.val % 17 * 256 + r.val = win0_14.index t 2 * 256 + 1 * r.val; rw [hi.2.2.1]; omega
  | ⟨3, _⟩ => show l.val = win0_14.index t 3 * 128 + 1 * l.val; rw [hi.2.2.2]; omega
theorem finalU : (dats m 0 c).arrAt 14 cfg0.N = ProjReads.arrU (args m c) :=
  (dats m 0 c).arrAt_eq_of_cover 14 (ProjReads.arrU (args m c)) (flushedU m c) fun i =>
    ⟨writer (i 0) (i 2), flush0_14 _, by
      show i ∈ ((View.whole main_v19_5).slice (win0_14.rect (writer (i 0) (i 2)))).set
      rw [View.set_slice_whole, Rect.mem_set_unit]
      have hi := idx14 (writer (i 0) (i 2))
      obtain ⟨hw0, hw1⟩ := writer_at (i 0) (i 2)
      have h1 : (i 1 : Nat) < 4 := (i 1).isLt
      have h3 : (i 3 : Nat) < 128 := (i 3).isLt
      intro a
      match a with
      | ⟨0, _⟩ => show win0_14.index _ 0 * 1 ≤ (i 0 : Nat) ∧ (i 0 : Nat) < win0_14.index _ 0 * 1 + 1; rw [hi.1, hw0]; omega
      | ⟨1, _⟩ => show win0_14.index _ 1 * 4 ≤ (i 1 : Nat) ∧ (i 1 : Nat) < win0_14.index _ 1 * 4 + 4; rw [hi.2.1]; omega
      | ⟨2, _⟩ => show win0_14.index _ 2 * 256 ≤ (i 2 : Nat) ∧ (i 2 : Nat) < win0_14.index _ 2 * 256 + 256; rw [hi.2.2.1, hw1]; omega
      | ⟨3, _⟩ => show win0_14.index _ 3 * 128 ≤ (i 3 : Nat) ∧ (i 3 : Nat) < win0_14.index _ 3 * 128 + 128; rw [hi.2.2.2]; omega⟩

end Cert.Proof.ProjBlocks

end
-- ==== Proof.ProjResults.lean ====
/-
  The plain projection's seven results, element by element, from its product with the weights.
-/
module

public import proofs.«01_k».proof.Proof.ProjReads
public import proofs.«01_k».proof.Proof.Gen.Reference2Ideal.Run

@[expose] public section

noncomputable section

namespace Cert.Proof.ProjResults

open Idealize.ShloMosaic Idealize.ShloMosaic.TcCoe Idealize.SL.Sem Idealize.ShloMosaic.StableHlo Cert.Reference2Ideal
  Cert.Reference2Ideal.Gen Cert.Reference2Ideal.Value Cert.Proof

/-! ## The normalised tokens and their projection -/

section
variable (x : FVec Ideal S8x4096x1024 .f32) (ctx : FVec Ideal S8x256x1024 .f32) (mod : FVec Ideal S8x3072 .f32) (modc : FVec Ideal S3072 .f32)
  (nw : FVec Ideal S1024 .f32) (w : FVec Ideal S1024x5184 .f32)

/-- The latent tokens, normalised and modulated. -/
def lat : FVec Ideal S8x4096x1024 .f32 :=
    (addf (mulf (mulf (mulf x (broadcastInDim S8x4096x1024 ![0, 1, 2] bcast_S8x4096x1_S8x4096x1024_0_1_2 (Host.rsqrt (addf (Host.divf (broadcastInDim
    S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_
    .f32 0x358637BD#32)))))) (broadcastInDim S8x4096x1024 ![0, 1, 2] bcast_S1x1x1024_S8x4096x1024_0_1_2 (broadcastInDim S1x1x1024 ![2]
    bcast_S1024_S1x1x1024_2 nw))) (broadcastInDim S8x4096x1024 ![0, 1, 2] bcast_S8x1x1024_S8x4096x1024_0_1_2 (addf (broadcastInDim S8x1x1024 ![]
    bcast_S_S8x1x1024 (constant S_ .f32 0x3F800000#32)) (broadcastInDim S8x1x1024 ![0, 2] bcast_S8x1024_S8x1x1024_0_2 (extractStridedSlice S8x1024
    ![0, 1024] mod slices_S8x3072_S8x1024_0_1024))))) (broadcastInDim S8x4096x1024 ![0, 1, 2] bcast_S8x1x1024_S8x4096x1024_0_1_2 (broadcastInDim
    S8x1x1024 ![0, 2] bcast_S8x1024_S8x1x1024_0_2 (extractStridedSlice S8x1024 ![0, 0] mod slices_S8x3072_S8x1024_0_0))))
theorem lat_at (b : Fin 8) (t : Fin 4096) (k : Fin 1024) : lat x mod nw (ix3 b t k)
    = Tok.norm (fun k => x (ix3 b t k)) (fun k => nw (ix1 k)) (fun k => mod (ix2 b (Tok.scaleCol k))) (fun k => mod (ix2 b (Tok.shiftCol k))) k := by
  unfold lat
  pointwise
  rfl
/-- The context tokens, normalised and modulated. -/
def con : FVec Ideal S8x256x1024 .f32 :=
    (addf (mulf (mulf (mulf ctx (broadcastInDim S8x256x1024 ![0, 1, 2] bcast_S8x256x1_S8x256x1024_0_1_2 (Host.rsqrt (addf (Host.divf (broadcastInDim
    S8x256x1 ![0, 1] bcast_S8x256_S8x256x1_0_1 (Host.reduceAdd (mulf ctx ctx) (constant S_ .f32 0x00000000#32) reducesTo_S8x256x1024_S8x256_d2 h_S_))
    (broadcastInDim S8x256x1 ![] bcast_S_S8x256x1 (constant S_ .f32 0x44800000#32))) (broadcastInDim S8x256x1 ![] bcast_S_S8x256x1 (constant S_ .f32
    0x358637BD#32)))))) (broadcastInDim S8x256x1024 ![0, 1, 2] bcast_S1x1x1024_S8x256x1024_0_1_2 (broadcastInDim S1x1x1024 ![2]
    bcast_S1024_S1x1x1024_2 nw))) (broadcastInDim S8x256x1024 ![0, 1, 2] bcast_S1x1x1024_S8x256x1024_0_1_2 (broadcastInDim S1x1x1024 ![2]
    bcast_S1024_S1x1x1024_2 (addf (broadcastInDim S1024 ![] bcast_S_S1024 (constant S_ .f32 0x3F800000#32)) (extractStridedSlice S1024 ![1024] modc
    slices_S3072_S1024_1024))))) (broadcastInDim S8x256x1024 ![0, 1, 2] bcast_S1x1x1024_S8x256x1024_0_1_2 (broadcastInDim S1x1x1024 ![2]
    bcast_S1024_S1x1x1024_2 (extractStridedSlice S1024 ![0] modc slices_S3072_S1024_0))))
theorem con_at (b : Fin 8) (t : Fin 256) (k : Fin 1024) : con ctx modc nw (ix3 b t k)
    = Tok.norm (fun k => ctx (ix3 b t k)) (fun k => nw (ix1 k)) (fun k => modc (ix1 (Tok.scaleCol k))) (fun k => modc (ix1 (Tok.shiftCol k))) k := by
  unfold con
  pointwise
  rfl
/-- The projection of a row per latent and a row per context token. -/
def prj (L : FVec Ideal S8x4096x1024 .f32) (C : FVec Ideal S8x256x1024 .f32) : FVec Ideal S8x4352x5184 .f32 :=
  Host.dotGeneral dot_S8x4352x1024_S1024x5184_S8x4352x5184_2_0_01_1_n_n none (concatenate S8x4352x1024 1 [⟨S8x4096x1024, L⟩,
    ⟨S8x256x1024, C⟩] concatenates_S8x4096x1024_S8x256x1024_S8x4352x1024_d1) w
theorem prj_at (L : FVec Ideal S8x4096x1024 .f32) (C : FVec Ideal S8x256x1024 .f32) (b : Fin 8) (t : Fin 4352) (e : Fin 5184) : prj w L C (ix3 b t e)
    = ∑ k : Fin 1024, (if h : t.val < 4096 then L (ix3 b ⟨t.val, h⟩ k) else C (ix3 b ⟨t.val - 4096, by omega⟩ k)) * w (ix2 k e) := by
  unfold prj
  pointwise
/-- If the rows are the tokens' normalised rows, and the weights the arguments' weights, it is the tokens' projection. -/
theorem prj_tok (A : Tok.Args) (L : FVec Ideal S8x4096x1024 .f32) (C : FVec Ideal S8x256x1024 .f32)
    (hL : ∀ b t k, L (ix3 b t k) = Tok.uLat A b t k)
    (hC : ∀ b t k, C (ix3 b t k) = Tok.uCtx A b t k)
    (hw : ∀ k e, w (ix2 k e) = A.w k e) (b : Fin 8) (t : Fin 4352) (e : Fin 5184) : prj w L C (ix3 b t e) = Tok.proj A b t e := by
  unfold Tok.proj Tok.dot
  rw [prj_at]
  refine Finset.sum_congr rfl fun k _ => ?_
  rw [hw]
  refine congrArg (· * _) ?_
  unfold Tok.u
  by_cases h : t.val < 4096
  · rw [dif_pos h, dif_pos h, hL]
  · rw [dif_neg h, dif_neg h, hC]
end

/-! ## The convolution -/

section
variable (X : FVec Ideal S8x4352x1536 .f32) (cw : FVec Ideal S5x1536 .f32) (cb : FVec Ideal S1536 .f32)

def padL : FVec Ideal S8x4100x1536 .f32 :=
    pad S8x4100x1536 ![0, 2, 0] ![0, 2, 0] ![0, 0, 0] (extractStridedSlice S8x4096x1536 ![0, 0, 0] X slices_S8x4352x1536_S8x4096x1536_0_0_0) (sitofp
    .f32 (constantI S_ 32 0#32)) pads_S8x4096x1536_S8x4100x1536_000_220_000 h_S_
def padC : FVec Ideal S8x260x1536 .f32 :=
    pad S8x260x1536 ![0, 2, 0] ![0, 2, 0] ![0, 0, 0] (extractStridedSlice S8x256x1536 ![0, 4096, 0] X slices_S8x4352x1536_S8x256x1536_0_4096_0)
    (sitofp .f32 (constantI S_ 32 0#32)) pads_S8x256x1536_S8x260x1536_000_220_000 h_S_
/-- The taps and the bias over the latents, and over the context. -/
def tapsL : FVec Ideal S8x4096x1536 .f32 :=
    (addf (addf (addf (addf (addf (addf (broadcastInDim S8x4096x1536 ![] bcast_S_S8x4096x1536 (constant S_ .f32 0x00000000#32)) (mulf
    (extractStridedSlice S8x4096x1536 ![0, 0, 0] (padL X) slices_S8x4100x1536_S8x4096x1536_0_0_0) (broadcastInDim S8x4096x1536 ![0, 1, 2]
    bcast_S1x1x1536_S8x4096x1536_0_1_2 (broadcastInDim S1x1x1536 ![2] bcast_S1536_S1x1x1536_2 (shapeCast _ (extractStridedSlice S1x1536 ![0, 0] cw
    slices_S5x1536_S1x1536_0_0) shapeCasts_S1x1536_S1536))))) (mulf (extractStridedSlice S8x4096x1536 ![0, 1, 0] (padL X)
    slices_S8x4100x1536_S8x4096x1536_0_1_0) (broadcastInDim S8x4096x1536 ![0, 1, 2] bcast_S1x1x1536_S8x4096x1536_0_1_2 (broadcastInDim S1x1x1536 ![2]
    bcast_S1536_S1x1x1536_2 (shapeCast _ (extractStridedSlice S1x1536 ![1, 0] cw slices_S5x1536_S1x1536_1_0) shapeCasts_S1x1536_S1536))))) (mulf
    (extractStridedSlice S8x4096x1536 ![0, 2, 0] (padL X) slices_S8x4100x1536_S8x4096x1536_0_2_0) (broadcastInDim S8x4096x1536 ![0, 1, 2]
    bcast_S1x1x1536_S8x4096x1536_0_1_2 (broadcastInDim S1x1x1536 ![2] bcast_S1536_S1x1x1536_2 (shapeCast _ (extractStridedSlice S1x1536 ![2, 0] cw
    slices_S5x1536_S1x1536_2_0) shapeCasts_S1x1536_S1536))))) (mulf (extractStridedSlice S8x4096x1536 ![0, 3, 0] (padL X)
    slices_S8x4100x1536_S8x4096x1536_0_3_0) (broadcastInDim S8x4096x1536 ![0, 1, 2] bcast_S1x1x1536_S8x4096x1536_0_1_2 (broadcastInDim S1x1x1536 ![2]
    bcast_S1536_S1x1x1536_2 (shapeCast _ (extractStridedSlice S1x1536 ![3, 0] cw slices_S5x1536_S1x1536_3_0) shapeCasts_S1x1536_S1536))))) (mulf
    (extractStridedSlice S8x4096x1536 ![0, 4, 0] (padL X) slices_S8x4100x1536_S8x4096x1536_0_4_0) (broadcastInDim S8x4096x1536 ![0, 1, 2]
    bcast_S1x1x1536_S8x4096x1536_0_1_2 (broadcastInDim S1x1x1536 ![2] bcast_S1536_S1x1x1536_2 (shapeCast _ (extractStridedSlice S1x1536 ![4, 0] cw
    slices_S5x1536_S1x1536_4_0) shapeCasts_S1x1536_S1536))))) (broadcastInDim S8x4096x1536 ![0, 1, 2] bcast_S1x1x1536_S8x4096x1536_0_1_2
    (broadcastInDim S1x1x1536 ![2] bcast_S1536_S1x1x1536_2 cb)))
def tapsC : FVec Ideal S8x256x1536 .f32 :=
    (addf (addf (addf (addf (addf (addf (broadcastInDim S8x256x1536 ![] bcast_S_S8x256x1536 (constant S_ .f32 0x00000000#32)) (mulf
    (extractStridedSlice S8x256x1536 ![0, 0, 0] (padC X) slices_S8x260x1536_S8x256x1536_0_0_0) (broadcastInDim S8x256x1536 ![0, 1, 2]
    bcast_S1x1x1536_S8x256x1536_0_1_2 (broadcastInDim S1x1x1536 ![2] bcast_S1536_S1x1x1536_2 (shapeCast _ (extractStridedSlice S1x1536 ![0, 0] cw
    slices_S5x1536_S1x1536_0_0) shapeCasts_S1x1536_S1536))))) (mulf (extractStridedSlice S8x256x1536 ![0, 1, 0] (padC X)
    slices_S8x260x1536_S8x256x1536_0_1_0) (broadcastInDim S8x256x1536 ![0, 1, 2] bcast_S1x1x1536_S8x256x1536_0_1_2 (broadcastInDim S1x1x1536 ![2]
    bcast_S1536_S1x1x1536_2 (shapeCast _ (extractStridedSlice S1x1536 ![1, 0] cw slices_S5x1536_S1x1536_1_0) shapeCasts_S1x1536_S1536))))) (mulf
    (extractStridedSlice S8x256x1536 ![0, 2, 0] (padC X) slices_S8x260x1536_S8x256x1536_0_2_0) (broadcastInDim S8x256x1536 ![0, 1, 2]
    bcast_S1x1x1536_S8x256x1536_0_1_2 (broadcastInDim S1x1x1536 ![2] bcast_S1536_S1x1x1536_2 (shapeCast _ (extractStridedSlice S1x1536 ![2, 0] cw
    slices_S5x1536_S1x1536_2_0) shapeCasts_S1x1536_S1536))))) (mulf (extractStridedSlice S8x256x1536 ![0, 3, 0] (padC X)
    slices_S8x260x1536_S8x256x1536_0_3_0) (broadcastInDim S8x256x1536 ![0, 1, 2] bcast_S1x1x1536_S8x256x1536_0_1_2 (broadcastInDim S1x1x1536 ![2]
    bcast_S1536_S1x1x1536_2 (shapeCast _ (extractStridedSlice S1x1536 ![3, 0] cw slices_S5x1536_S1x1536_3_0) shapeCasts_S1x1536_S1536))))) (mulf
    (extractStridedSlice S8x256x1536 ![0, 4, 0] (padC X) slices_S8x260x1536_S8x256x1536_0_4_0) (broadcastInDim S8x256x1536 ![0, 1, 2]
    bcast_S1x1x1536_S8x256x1536_0_1_2 (broadcastInDim S1x1x1536 ![2] bcast_S1536_S1x1x1536_2 (shapeCast _ (extractStridedSlice S1x1536 ![4, 0] cw
    slices_S5x1536_S1x1536_4_0) shapeCasts_S1x1536_S1536))))) (broadcastInDim S8x256x1536 ![0, 1, 2] bcast_S1x1x1536_S8x256x1536_0_1_2 (broadcastInDim
    S1x1x1536 ![2] bcast_S1536_S1x1x1536_2 cb)))
theorem padL_at (b : Fin 8) (t : Fin 4100) (e : Fin 1536) : padL X (ix3 b t e)
    = if h : 2 ≤ t.val ∧ t.val < 4098 then X (ix3 b ⟨t.val - 2, by omega⟩ e) else (0 : EReal) := by
  unfold padL
  pointwise
  by_cases h : 2 ≤ t.val ∧ t.val < 4098
  · refine Eq.trans (dif_pos ⟨h.1, by omega⟩) ?_
    symm
    exact dif_pos h
  · refine Eq.trans (dif_neg (by omega)) (Eq.trans Tok.sitofp_zero ?_)
    symm
    exact dif_neg h
theorem padC_at (b : Fin 8) (t : Fin 260) (e : Fin 1536) : padC X (ix3 b t e)
    = if h : 2 ≤ t.val ∧ t.val < 258 then X (ix3 b ⟨4096 + (t.val - 2), by omega⟩ e) else (0 : EReal) := by
  unfold padC
  pointwise
  by_cases h : 2 ≤ t.val ∧ t.val < 258
  · refine Eq.trans (dif_pos ⟨h.1, by omega⟩) ?_
    symm
    exact dif_pos h
  · refine Eq.trans (dif_neg (by omega)) (Eq.trans Tok.sitofp_zero ?_)
    symm
    exact dif_neg h
/-- The order of the taps' sum does not matter. -/
theorem taps_eq (b : EReal) (w n : Fin 5 → EReal) :
    (((((0 + n 0 * w 0) + n 1 * w 1) + n 2 * w 2) + n 3 * w 3) + n 4 * w 4) + b = Tok.taps b w n := by
  unfold Tok.taps
  rw [zero_add]
  simp only [mul_comm (n _)]
  ac_rfl
theorem tapsL_at (b : Fin 8) (t : Fin 4096) (e : Fin 1536) : tapsL X cw cb (ix3 b t e)
    = Tok.taps (cb (ix1 e)) (fun i => cw (ix2 i e)) (fun i => padL X (ix3 b ⟨t.val + i.val, by omega⟩ e)) := by
  rw [← taps_eq]
  unfold tapsL
  pointwise
  simp only [Nat.add_comm 1, Nat.add_comm 2, Nat.add_comm 3, Nat.add_comm 4]
theorem tapsC_at (b : Fin 8) (t : Fin 256) (e : Fin 1536) : tapsC X cw cb (ix3 b t e)
    = Tok.taps (cb (ix1 e)) (fun i => cw (ix2 i e)) (fun i => padC X (ix3 b ⟨t.val + i.val, by omega⟩ e)) := by
  rw [← taps_eq]
  unfold tapsC
  pointwise
  simp only [Nat.add_comm 1, Nat.add_comm 2, Nat.add_comm 3, Nat.add_comm 4]
/-- The taps over the whole sequence, and the gate. -/
def tapped : FVec Ideal S8x4352x1536 .f32 :=
  concatenate S8x4352x1536 1 [⟨S8x4096x1536, tapsL X cw cb⟩, ⟨S8x256x1536, tapsC X cw cb⟩] concatenates_S8x4096x1536_S8x256x1536_S8x4352x1536_d1
theorem tapped_at (b : Fin 8) (t : Fin 4352) (e : Fin 1536) : tapped X cw cb (ix3 b t e)
    = if h : t.val < 4096 then tapsL X cw cb (ix3 b ⟨t.val, h⟩ e) else tapsC X cw cb (ix3 b ⟨t.val - 4096, by omega⟩ e) := by
  unfold tapped
  pointwise
def gated (C : FVec Ideal S8x4352x1536 .f32) : FVec Ideal S8x4352x1536 .bf16 :=
    truncf .bf16 (mulf C (Host.divf (broadcastInDim S8x4352x1536 ![] bcast_S_S8x4352x1536 (constant S_ .f32 0x3F800000#32)) (addf (broadcastInDim
    S8x4352x1536 ![] bcast_S_S8x4352x1536 (constant S_ .f32 0x3F800000#32)) (Host.exp (Host.negf C))))) bitsLt_bf16_f32
theorem gated_at (C : FVec Ideal S8x4352x1536 .f32) (b : Fin 8) (t : Fin 4352) (e : Fin 1536) : gated C (ix3 b t e) = Tok.silu (C (ix3 b t e)) := by
  unfold gated
  pointwise
  rfl
end

/-! ## The results of a projection -/

/-- The columns that are convolved. -/
def conv (P : FVec Ideal S8x4352x5184 .f32) : FVec Ideal S8x4352x1536 .f32 := extractStridedSlice S8x4352x1536 ![0, 0, 1024] P slices_S8x4352x5184_S8x4352x1536_0_0_1024
/-- The columns handed on as they are. -/
def outZ (P : FVec Ideal S8x4352x5184 .f32) : FVec Ideal S8x4352x1024 .bf16 := truncf .bf16 (extractStridedSlice S8x4352x1024 ![0, 0, 0] P slices_S8x4352x5184_S8x4352x1024_0_0_0) bitsLt_bf16_f32
def outG (P : FVec Ideal S8x4352x5184 .f32) : FVec Ideal S8x4352x512 .bf16 := truncf .bf16 (extractStridedSlice S8x4352x512 ![0, 0, 3616] P slices_S8x4352x5184_S8x4352x512_0_0_3616) bitsLt_bf16_f32
def outS (P : FVec Ideal S8x4352x5184 .f32) : FVec Ideal S8x4352x512 .bf16 := truncf .bf16 (extractStridedSlice S8x4352x512 ![0, 0, 4672] P slices_S8x4352x5184_S8x4352x512_0_0_4672) bitsLt_bf16_f32
def outU (P : FVec Ideal S8x4352x5184 .f32) : FVec Ideal S8x4x4352x128 .f32 := transpose S8x4x4352x128 [0, 2, 1, 3] (shapeCast _ (extractStridedSlice S8x4352x512 ![0, 0, 4160] P
  slices_S8x4352x5184_S8x4352x512_0_0_4160) shapeCasts_S8x4352x512_S8x4352x4x128) transposes_S8x4352x4x128_S8x4x4352x128_0_2_1_3
def outQ (P : FVec Ideal S8x4352x5184 .f32) : FVec Ideal S8x4352x1024 .bf16 :=
    truncf .bf16 ((concatenate S8x4352x1024 2 [⟨S8x4352x256, ((extractStridedSlice S8x4352x256 ![0, 0, 2592] P
    slices_S8x4352x5184_S8x4352x256_0_0_2592) : (⟨S8x4352x256, .f32⟩ : BufTy).Contents (Elt Ideal))⟩, ⟨S8x4352x256, ((extractStridedSlice S8x4352x256
    ![0, 0, 2848] P slices_S8x4352x5184_S8x4352x256_0_0_2848) : (⟨S8x4352x256, .f32⟩ : BufTy).Contents (Elt Ideal))⟩, ⟨S8x4352x512,
    ((extractStridedSlice S8x4352x512 ![0, 0, 3104] P slices_S8x4352x5184_S8x4352x512_0_0_3104) : (⟨S8x4352x512, .f32⟩ : BufTy).Contents (Elt
    Ideal))⟩] concatenates_S8x4352x256_S8x4352x256_S8x4352x512_S8x4352x1024_d2 : (⟨S8x4352x1024, .f32⟩ : BufTy).Contents (Elt Ideal))) bitsLt_bf16_f32
def outL (P : FVec Ideal S8x4352x5184 .f32) : FVec Ideal S8x4352x128 .f32 :=
    (concatenate S8x4352x128 2 [⟨S8x4352x32, ((extractStridedSlice S8x4352x32 ![0, 0, 2560] P slices_S8x4352x5184_S8x4352x32_0_0_2560) :
    (⟨S8x4352x32, .f32⟩ : BufTy).Contents (Elt Ideal))⟩, ⟨S8x4352x32, ((extractStridedSlice S8x4352x32 ![0, 0, 4128] P
    slices_S8x4352x5184_S8x4352x32_0_0_4128) : (⟨S8x4352x32, .f32⟩ : BufTy).Contents (Elt Ideal))⟩, ⟨S8x4352x64, ((broadcastInDim S8x4352x64 ![]
    bcast_S_S8x4352x64 (constant (F := Ideal) S_ .f32 0x00000000#32)) : (⟨S8x4352x64, .f32⟩ : BufTy).Contents (Elt Ideal))⟩]
    concatenates_S8x4352x32_S8x4352x32_S8x4352x64_S8x4352x128_d2 : (⟨S8x4352x128, .f32⟩ : BufTy).Contents (Elt Ideal))
section
variable (A : Tok.Args) (P : FVec Ideal S8x4352x5184 .f32) (hP : ∀ b t e, P (ix3 b t e) = Tok.proj A b t e)
include hP

theorem conv_at (b : Fin 8) (t : Fin 4352) (e : Fin 1536) : conv P (ix3 b t e) = Tok.proj A b t (Tok.colX e) := by
  rw [← hP]
  unfold conv
  pointwise
  rfl
theorem near_at (b : Fin 8) (t : Fin 4352) (e : Fin 1536) (i : Fin 5) :
    (if h : t.val < 4096 then padL (conv P) (ix3 b ⟨t.val + i.val, by omega⟩ e) else padC (conv P) (ix3 b ⟨t.val - 4096 + i.val, by omega⟩ e))
      = Tok.near A b t i e := by
  unfold Tok.near
  by_cases h : t.val < 4096
  · rw [dif_pos h, padL_at]
    by_cases k : 2 ≤ t.val + i.val ∧ t.val + i.val < 4098
    · rw [dif_pos (show 2 ≤ t.val + i.val ∧ t.val + i.val < 4098 from k), conv_at A P hP]
      symm
      exact dif_pos (by rw [if_pos h]; exact k)
    · rw [dif_neg (show ¬ (2 ≤ t.val + i.val ∧ t.val + i.val < 4098) from k)]
      symm
      exact dif_neg (by rw [if_pos h]; exact k)
  · rw [dif_neg h, padC_at]
    by_cases k : 2 ≤ t.val - 4096 + i.val ∧ t.val - 4096 + i.val < 258
    · rw [dif_pos (show 2 ≤ t.val - 4096 + i.val ∧ t.val - 4096 + i.val < 258 from k), conv_at A P hP]
      refine Eq.trans ?_ (dif_pos (by rw [if_neg h]; omega)).symm
      exact congrArg (fun s => Tok.proj A b s (Tok.colX e)) (Fin.ext (by show 4096 + (t.val - 4096 + i.val - 2) = t.val + i.val - 2; omega))
    · rw [dif_neg (show ¬ (2 ≤ t.val - 4096 + i.val ∧ t.val - 4096 + i.val < 258) from k)]
      symm
      exact dif_neg (by rw [if_neg h]; omega)

theorem x_at (cw : FVec Ideal S5x1536 .f32) (cb : FVec Ideal S1536 .f32) (hw : ∀ i e, cw (ix2 i e) = A.cw i e) (hb : ∀ e, cb (ix1 e) = A.cb e)
    (b : Fin 8) (t : Fin 4352) (e : Fin 1536) : gated (tapped (conv P) cw cb) (ix3 b t e) = Tok.outX A b t e := by
  rw [gated_at, tapped_at]
  unfold Tok.outX
  refine congrArg Tok.silu ?_
  have hn := funext (near_at A P hP b t e)
  rw [← hn]
  by_cases h : t.val < 4096
  · rw [dif_pos h, tapsL_at]
    simp only [dif_pos h, hw, hb]
  · rw [dif_neg h, tapsC_at]
    simp only [dif_neg h, hw, hb]

theorem z_at (b : Fin 8) (t : Fin 4352) (e : Fin 1024) : outZ P (ix3 b t e) = Tok.outZ A b t e := by
  refine Eq.trans ?_ (hP b t (Tok.colZ e))
  unfold outZ
  pointwise
  rfl
theorem g_at (b : Fin 8) (t : Fin 4352) (e : Fin 512) : outG P (ix3 b t e) = Tok.outG A b t e := by
  refine Eq.trans ?_ (hP b t (Tok.colG e))
  unfold outG
  pointwise
  rfl
theorem s_at (b : Fin 8) (t : Fin 4352) (e : Fin 512) : outS P (ix3 b t e) = Tok.outS A b t e := by
  refine Eq.trans ?_ (hP b t (Tok.colS e))
  unfold outS
  pointwise
  rfl
theorem u_at (b : Fin 8) (g : Fin 4) (t : Fin 4352) (l : Fin 128) : outU P (ix4 b g t l) = Tok.outU A b g t l := by
  refine Eq.trans ?_ (hP b t (Tok.colU ⟨g.val * 128 + l.val, by omega⟩))
  unfold outU
  pointwise
  rfl
theorem q_at (b : Fin 8) (t : Fin 4352) (e : Fin 1024) : outQ P (ix3 b t e) = Tok.outQ A b t e := by
  refine Eq.trans ?_ (hP b t (Tok.colQ e))
  unfold outQ
  pointwise
  have h : ∀ n : Fin 5184, n.val = 2592 + e.val → P (ix3 b t n) = P (ix3 b t (Tok.colQ e)) := fun n hn =>
    congrArg (fun n => P (ix3 b t n)) (Fin.ext hn)
  by_cases a : e.val < 256
  · exact (dif_pos a).trans (h _ rfl)
  · refine Eq.trans (dif_neg a) ?_
    by_cases d : e.val - 256 < 256
    · exact (dif_pos d).trans (h _ (by show 2848 + (e.val - 256) = 2592 + e.val; omega))
    · exact (dif_neg d).trans (h _ (by show 3104 + (e.val - 256 - 256) = 2592 + e.val; omega))
theorem l_at (b : Fin 8) (t : Fin 4352) (e : Fin 128) : outL P (ix3 b t e) = Tok.outL A b t e := by
  unfold outL Tok.outL
  simp only [← hP]
  pointwise
  by_cases a : e.val < 32
  · refine Eq.trans (dif_pos a) ?_
    symm
    exact dif_pos a
  · refine Eq.trans (dif_neg a) (Eq.trans ?_ (dif_neg a).symm)
    by_cases d : e.val < 64
    · refine Eq.trans (dif_pos (show e.val - 32 < 32 by omega)) ?_
      symm
      exact dif_pos d
    · refine Eq.trans (dif_neg (by omega)) ?_
      symm
      exact dif_neg d

/-! ## The arrays are those of the tokens -/

theorem eqZ : outZ P = ProjReads.arrZ A := by
  funext j
  idx_vars j
  exact z_at A P hP _ _ _
theorem eqL : outL P = ProjReads.arrL A := by
  funext j
  idx_vars j
  exact l_at A P hP _ _ _
theorem eqQ : outQ P = ProjReads.arrQ A := by
  funext j
  idx_vars j
  exact q_at A P hP _ _ _
theorem eqG : outG P = ProjReads.arrG A := by
  funext j
  idx_vars j
  exact g_at A P hP _ _ _
theorem eqU : outU P = ProjReads.arrU A := by
  funext j
  idx_vars j
  exact u_at A P hP _ _ _ _
theorem eqS : outS P = ProjReads.arrS A := by
  funext j
  idx_vars j
  exact s_at A P hP _ _ _
theorem eqX (cw : FVec Ideal S5x1536 .f32) (cb : FVec Ideal S1536 .f32) (hw : ∀ i e, cw (ix2 i e) = A.cw i e) (hb : ∀ e, cb (ix1 e) = A.cb e) :
    gated (tapped (conv P) cw cb) = ProjReads.arrX A := by
  funext j
  idx_vars j
  exact x_at A P hP cw cb hw hb _ _ _
end

/-! ## The results of the program -/

variable (m : (ℓ : Loc nD τ sig) → Buf (Elt Ideal) ℓ) (c : Dev nD)

/-- The arguments in core `c`'s memory. -/
def args : Tok.Args where
  x := fun b t k => (m ((c : Thread nD τ).loc main_arg0) : Vec Ideal S8x4096x1024 .f32) (ix3 b t k)
  ctx := fun b t k => (m ((c : Thread nD τ).loc main_arg1) : Vec Ideal S8x256x1024 .f32) (ix3 b t k)
  mod := fun b k => (m ((c : Thread nD τ).loc main_arg2) : Vec Ideal S8x3072 .f32) (ix2 b k)
  modc := fun k => (m ((c : Thread nD τ).loc main_arg3) : Vec Ideal S3072 .f32) (ix1 k)
  nw := fun k => (m ((c : Thread nD τ).loc main_arg4) : Vec Ideal S1024 .f32) (ix1 k)
  w := fun k e => (m ((c : Thread nD τ).loc main_arg5) : Vec Ideal S1024x5184 .f32) (ix2 k e)
  cw := fun i e => (m ((c : Thread nD τ).loc main_arg6) : Vec Ideal S5x1536 .f32) (ix2 i e)
  cb := fun e => (m ((c : Thread nD τ).loc main_arg7) : Vec Ideal S1536 .f32) (ix1 e)

/-- The projection of the arguments. -/
def prod : FVec Ideal S8x4352x5184 .f32 := ProjResults.prj (m ((c.tc : Thread nD τ).loc main_arg5)) (ProjResults.lat (m ((c.tc : Thread nD τ).loc main_arg0)) (m ((c.tc : Thread nD τ).loc main_arg2)) (m ((c.tc : Thread nD τ).loc main_arg4)))
  (ProjResults.con (m ((c.tc : Thread nD τ).loc main_arg1)) (m ((c.tc : Thread nD τ).loc main_arg3)) (m ((c.tc : Thread nD τ).loc main_arg4)))
theorem prod_at (b : Fin 8) (t : Fin 4352) (e : Fin 5184) : prod m c (ix3 b t e) = Tok.proj (args m c) b t e :=
  ProjResults.prj_tok _ (args m c) _ _ (fun b t k => ProjResults.lat_at _ _ _ b t k) (fun b t k => ProjResults.con_at _ _ _ b t k) (fun _ _ => rfl) b t e
theorem resX : res_main_v148 m c = ProjReads.arrX (args m c) :=
  (show res_main_v148 m c = ProjResults.gated (ProjResults.tapped (ProjResults.conv (prod m c)) (m ((c.tc : Thread nD τ).loc main_arg6)) (m ((c.tc : Thread nD τ).loc main_arg7))) from rfl).trans
    (ProjResults.eqX (args m c) (prod m c) (prod_at m c) _ _ (fun _ _ => rfl) (fun _ => rfl))
theorem resQ : res_main_v149 m c = ProjReads.arrQ (args m c) :=
  (show res_main_v149 m c = ProjResults.outQ (prod m c) from rfl).trans (ProjResults.eqQ (args m c) (prod m c) (prod_at m c))
theorem resL : res_main_v143 m c = ProjReads.arrL (args m c) :=
  (show res_main_v143 m c = ProjResults.outL (prod m c) from rfl).trans (ProjResults.eqL (args m c) (prod m c) (prod_at m c))

end Cert.Proof.ProjResults

end
-- ==== Proof.ProjEqual.lean ====
/-
  The projection's reference leaves the results of the projection's kernel, and its arguments unchanged.
-/
module

public import proofs.«01_k».proof.Defs
public import proofs.«01_k».proof.Proof.ProjBlocks
public import proofs.«01_k».proof.Proof.ProjResults
public import Idealize.ShloMosaic.Lib.Quiescent

@[expose] public section

noncomputable section

namespace Cert.Proof.ProjEqual

open Idealize.ShloMosaic Idealize.ShloMosaic.TcCoe Idealize.SL.Sem Cert.Proof

/-- The reference's frame. -/
theorem frame : Cert.quiescent_Reference2Ideal := fun m ρ _ =>
  (θ_run Cert.Reference2Ideal.defs _ _).mono
    (fun r h => ⟨fun c => (h c).2.2.2.2.2.2.2, Idealize.ShloMosaic.sem_eq_zero_of_no_sems (by decide) r.2⟩)
    (Cert.Reference2Ideal.Value.run (F := Ideal) m ρ)

section
variable (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ)
  (c : Dev Cert.Kernel2Ideal.nD)

/-- Memories that agree on the arguments hold the same arguments of the projection. -/
theorem args_eq (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) : ProjResults.args m' c = ProjBlocks.args m c := by
  obtain ⟨h0, h1, h2, h3, h4, h5, h6, h7⟩ := h
  unfold ProjResults.args
  rw [h0, h1, h2, h3, h4, h5, h6, h7]
  rfl
end

/-- The kernel's results are the reference's. -/
theorem algebraic : Cert.algebraic_Kernel2Ideal_Reference2Ideal (hKernel2Ideal := Cert.Kernel2Ideal.Gen.facts) (hReference2Ideal := Cert.Reference2Ideal.Gen.facts) := by
  intro m g m' g' _ h
  have ha := fun c => args_eq m m' c (h c)
  have hP := ProjResults.prod_at m'
  refine ⟨fun c => ProjReads.arrZ (ProjBlocks.args m c), fun c => ProjReads.arrX (ProjBlocks.args m c), fun c => ProjReads.arrL (ProjBlocks.args m c), fun c => ProjReads.arrQ (ProjBlocks.args m c), fun c => ProjReads.arrG (ProjBlocks.args m c), fun c => ProjReads.arrU (ProjBlocks.args m c), fun c => ProjReads.arrS (ProjBlocks.args m c), ?_, ?_⟩
  · exact (θ_run Cert.Kernel2Ideal.defs _ _).mono (fun r hr c => ⟨(hr c).1.trans (ProjBlocks.finalZ m c), (hr c).2.1.trans (ProjBlocks.finalX m c), (hr c).2.2.1.trans (ProjBlocks.finalL m c), (hr c).2.2.2.1.trans (ProjBlocks.finalQ m c), (hr c).2.2.2.2.1.trans (ProjBlocks.finalG m c), (hr c).2.2.2.2.2.1.trans (ProjBlocks.finalU m c), (hr c).2.2.2.2.2.2.1.trans (ProjBlocks.finalS m c), (hr c).2.2.2.2.2.2.2⟩)
      (Cert.Kernel2Ideal.Value.run_blocks m g)
  · exact (θ_run Cert.Reference2Ideal.defs _ _).mono (fun r hr c => ⟨(hr c).1.trans ((ProjResults.eqZ _ _ (hP c)).trans (congrArg ProjReads.arrZ (ha c))),
      (hr c).2.1.trans ((ProjResults.resX m' c).trans (congrArg ProjReads.arrX (ha c))),
      (hr c).2.2.1.trans ((ProjResults.resL m' c).trans (congrArg ProjReads.arrL (ha c))),
      (hr c).2.2.2.1.trans ((ProjResults.resQ m' c).trans (congrArg ProjReads.arrQ (ha c))),
      (hr c).2.2.2.2.1.trans ((ProjResults.eqG _ _ (hP c)).trans (congrArg ProjReads.arrG (ha c))),
      (hr c).2.2.2.2.2.1.trans ((ProjResults.eqU _ _ (hP c)).trans (congrArg ProjReads.arrU (ha c))),
      (hr c).2.2.2.2.2.2.1.trans ((ProjResults.eqS _ _ (hP c)).trans (congrArg ProjReads.arrS (ha c))), (hr c).2.2.2.2.2.2.2⟩)
      (Cert.Reference2Ideal.Value.run m' g')

end Cert.Proof.ProjEqual

end
-- ==== Proof.ProjCol.lean ====
/-
  What the body of the projection of the transposed grid leaves in its output blocks: the blocks of the projection, of the
  rows picked from columns of the grid.
-/
module

public import proofs.«01_k».proof.Proof.Gen.Kernel3Ideal.Frame
public import proofs.«01_k».proof.Proof.ProjElems

@[expose] public section

noncomputable section

namespace Cert.Proof.ProjCol

open Idealize.ShloMosaic Idealize.ShloMosaic.TcCoe Idealize.SL.Sem Cert.Kernel3Ideal Cert.Kernel3Ideal.Gen Cert.Proof

/-- A column of a block of the grid, and a column of a block at an edge. -/
def col (i : grid0.Coords) (r : Fin 4) (x0 : Vec Ideal S1x64x8x1024 .f32) : Vec Ideal S1x64x1x1024 .f32 :=
  View.ld x0 (Rect.unit (s := S1x64x8x1024) (k0_off1 i (BitVec.ofNat 32 r.val)) S1x64x1x1024.size (k0_off1_inb i r))
def side (o : Fin 4 → Nat) (h : ∀ a, o a + S1x8x1x1024.size a ≤ S1x8x8x1024.size a) (x : Vec Ideal S1x8x8x1024 .f32) : Vec Ideal S1x8x1x1024 .f32 :=
  View.ld x (Rect.unit (s := S1x8x8x1024) o S1x8x1x1024.size h)
/-- The rows of four columns one after another, and of one column. -/
def tile (i : grid0.Coords) (x0 : Vec Ideal S1x64x8x1024 .f32) : Vec Ideal S1x256x1024 .f32 := fun a =>
  col i ⟨(a 1).val / 64, by have h : (a 1).val < 256 := (a 1).isLt; omega⟩ x0 (ix4 0 ⟨(a 1).val % 64, Nat.mod_lt _ (by decide)⟩ 0 (a 2))
def edge (o : Fin 4 → Nat) (h : ∀ a, o a + S1x8x1x1024.size a ≤ S1x8x8x1024.size a) (x : Vec Ideal S1x8x8x1024 .f32) : Vec Ideal Cert.Kernel2Ideal.S1x8x1024 .f32 := fun a =>
  side o h x (ix4 0 (a 1) 0 (a 2))

theorem tile_eq (i : grid0.Coords) (x0 : Vec Ideal S1x64x8x1024 .f32) : k0_pay2 (col i 0 x0) (col i 1 x0) (col i 2 x0) (col i 3 x0)
    = shapeCast S256x1024 (Proj.tileOf (tile i x0)) Cert.Kernel2Ideal.Gen.shapeCasts_S1x256x1024_S256x1024 := by
  funext a
  idx_vars a
  refine Eq.trans (b := tile i x0 (ix3 0 a0 a1)) ?_ (Eq.symm (by pointwise [Proj.tileOf]))
  show _ = col i ⟨a0.val / 64, by omega⟩ x0 (ix4 0 ⟨a0.val % 64, Nat.mod_lt _ (by decide)⟩ 0 a1)
  unfold k0_pay2
  pointwise
  have pick : ∀ (p q : Fin 4) (r s : Fin 64), p.val = q.val → r.val = s.val → col i p x0 (ix4 0 r 0 a1) = col i q x0 (ix4 0 s 0 a1) := fun p q r s hp hr => by
    rw [Fin.ext hp, Fin.ext hr]
  by_cases h0 : a0.val < 64
  · exact (dif_pos h0).trans (pick _ _ _ _ (by show 0 = a0.val / 64; omega) (by show a0.val = a0.val % 64; omega))
  · refine (dif_neg h0).trans ?_
    by_cases h1 : a0.val - 64 < 64
    · exact (dif_pos h1).trans (pick _ _ _ _ (by show 1 = a0.val / 64; omega) (by show a0.val - 64 = a0.val % 64; omega))
    · refine (dif_neg h1).trans ?_
      by_cases h2 : a0.val - 64 - 64 < 64
      · exact (dif_pos h2).trans (pick _ _ _ _ (by show 2 = a0.val / 64; omega) (by show a0.val - 64 - 64 = a0.val % 64; omega))
      · exact (dif_neg h2).trans (pick _ _ _ _ (by show 3 = a0.val / 64; omega) (by show a0.val - 64 - 64 - 64 = a0.val % 64; omega))
theorem edge_eq (o : Fin 4 → Nat) (h : ∀ a, o a + S1x8x1x1024.size a ≤ S1x8x8x1024.size a) (x : Vec Ideal S1x8x8x1024 .f32) :
    shapeCast S8x1024 (side o h x) shapeCasts_S1x8x1x1024_S8x1024 = Cert.Kernel2Ideal.Gen.k0_pay9 (Proj.edgeOf (edge o h x)) := by
  funext a
  idx_vars a
  refine Eq.trans (b := side o h x (ix4 0 a0 0 a1)) (by pointwise) (Eq.symm ?_)
  refine Eq.trans (b := edge o h x (ix3 0 a0 a1)) (by pointwise [Cert.Kernel2Ideal.Gen.k0_pay9, Proj.edgeOf]) rfl

/-- The row of the modulation of a grid point. -/
def modRow (i : grid0.Coords) (x4 : Vec Ideal S16x3072 .f32) : Vec Ideal S1x3072 .f32 :=
  View.ld x4 (Rect.unit (s := S16x3072) (k0_off2 i) S1x3072.size (k0_off2_inb i))
/-- The normalised tile, and the normalised rows before and after it. -/
def uT (i : grid0.Coords) (x0 : Vec Ideal S1x64x8x1024 .f32) (x1 : Vec Ideal S1x256x1024 .f32) (x4 : Vec Ideal S16x3072 .f32) (x5 : Vec Ideal S1x1024 .f32) : FVec Ideal S256x1024 .bf16 :=
  k0_pay6 (Proj.bCtx i) (k0_pay2 (col i 0 x0) (col i 1 x0) (col i 2 x0) (col i 3 x0)) (Proj.tileOf x1) (modRow i x4) (Proj.rowOf x5)
def uH (i : grid0.Coords) (x2 x3 : Vec Ideal S1x8x8x1024 .f32) (x4 : Vec Ideal S16x3072 .f32) (x5 : Vec Ideal S1x1024 .f32) : FVec Ideal S16x1024 .bf16 :=
  k0_pay9 (k0_pay7 (k0_pay5 (modRow i x4)) (side (k0_off3 i) (k0_off3_inb i) x2) (side (k0_off4 i) (k0_off4_inb i) x3) (Proj.rowOf x5)) (k0_pay8 (k0_pay4 (modRow i x4)))
theorem uT_eq (i : grid0.Coords) (x0 : Vec Ideal S1x64x8x1024 .f32) (x1 : Vec Ideal S1x256x1024 .f32) (x4 : Vec Ideal S16x3072 .f32) (x5 : Vec Ideal S1x1024 .f32) :
    uT i x0 x1 x4 x5 = Proj.uT i (tile i x0) x1 x4 x5 := by
  unfold uT
  rw [tile_eq]
  rfl
theorem uH_eq (i : grid0.Coords) (x2 x3 : Vec Ideal S1x8x8x1024 .f32) (x4 : Vec Ideal S16x3072 .f32) (x5 : Vec Ideal S1x1024 .f32) :
    uH i x2 x3 x4 x5 = Proj.uH i (edge (k0_off3 i) (k0_off3_inb i) x2) (edge (k0_off4 i) (k0_off4_inb i) x3) x4 x5 := by
  unfold uH k0_pay7
  dsimp only
  rw [edge_eq, edge_eq]
  rfl

theorem out9 (c : Dev nD) (i : grid0.Coords) (arg2 : Memref sig .tc .vmem S1x64x8x1024 .f32) (harg2 : arg2.IsWhole) (arg3 : Memref sig .tc .vmem S1x256x1024 .f32) (harg3 : arg3.IsWhole) (arg4 : Memref sig .tc .vmem S1x8x8x1024 .f32) (harg4 : arg4.IsWhole) (arg5 : Memref sig .tc .vmem S1x8x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec Ideal S1x64x8x1024 .f32) (x1 : Vec Ideal S1x256x1024 .f32) (x2 : Vec Ideal S1x8x8x1024 .f32) (x3 : Vec Ideal S1x8x8x1024 .f32) (x4 : Vec Ideal S16x3072 .f32) (x5 : Vec Ideal S1x1024 .f32) (x6 : Vec Ideal S1024x5248 .bf16) (x7 : Vec Ideal S5x1536 .f32) (x8 : Vec Ideal S1x1536 .f32) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = Proj.gZ i (tile i x0) x1 x4 x5 x6 := by
  unfold Proj.gZ
  rw [← uT_eq]
  have cov := cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_9
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨Proj.emb_whole (Proj.zOf x6 (uT i x0 x1 x4 x5)) inb_S1x256x1024_S1x256x1024_0_0_0, trivial⟩
theorem out10 (c : Dev nD) (i : grid0.Coords) (arg2 : Memref sig .tc .vmem S1x64x8x1024 .f32) (harg2 : arg2.IsWhole) (arg3 : Memref sig .tc .vmem S1x256x1024 .f32) (harg3 : arg3.IsWhole) (arg4 : Memref sig .tc .vmem S1x8x8x1024 .f32) (harg4 : arg4.IsWhole) (arg5 : Memref sig .tc .vmem S1x8x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec Ideal S1x64x8x1024 .f32) (x1 : Vec Ideal S1x256x1024 .f32) (x2 : Vec Ideal S1x8x8x1024 .f32) (x3 : Vec Ideal S1x8x8x1024 .f32) (x4 : Vec Ideal S16x3072 .f32) (x5 : Vec Ideal S1x1024 .f32) (x6 : Vec Ideal S1024x5248 .bf16) (x7 : Vec Ideal S5x1536 .f32) (x8 : Vec Ideal S1x1536 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = Proj.gX i (tile i x0) x1 (edge (k0_off3 i) (k0_off3_inb i) x2) (edge (k0_off4 i) (k0_off4_inb i) x3) x4 x5 x6 x7 x8 := by
  unfold Proj.gX
  rw [← uT_eq, ← uH_eq]
  have cov := cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_10
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨Proj.pieceX x6 x7 x8 (uT i x0 x1 x4 x5) (uH i x2 x3 x4 x5) (Proj.bPrev i) (Proj.bNext i) 5, Proj.pieceX x6 x7 x8 (uT i x0 x1 x4 x5) (uH i x2 x3 x4 x5) (Proj.bPrev i) (Proj.bNext i) 4, Proj.pieceX x6 x7 x8 (uT i x0 x1 x4 x5) (uH i x2 x3 x4 x5) (Proj.bPrev i) (Proj.bNext i) 3, Proj.pieceX x6 x7 x8 (uT i x0 x1 x4 x5) (uH i x2 x3 x4 x5) (Proj.bPrev i) (Proj.bNext i) 2, Proj.pieceX x6 x7 x8 (uT i x0 x1 x4 x5) (uH i x2 x3 x4 x5) (Proj.bPrev i) (Proj.bNext i) 1, Proj.pieceX x6 x7 x8 (uT i x0 x1 x4 x5) (uH i x2 x3 x4 x5) (Proj.bPrev i) (Proj.bNext i) 0, trivial⟩
theorem out11 (c : Dev nD) (i : grid0.Coords) (arg2 : Memref sig .tc .vmem S1x64x8x1024 .f32) (harg2 : arg2.IsWhole) (arg3 : Memref sig .tc .vmem S1x256x1024 .f32) (harg3 : arg3.IsWhole) (arg4 : Memref sig .tc .vmem S1x8x8x1024 .f32) (harg4 : arg4.IsWhole) (arg5 : Memref sig .tc .vmem S1x8x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec Ideal S1x64x8x1024 .f32) (x1 : Vec Ideal S1x256x1024 .f32) (x2 : Vec Ideal S1x8x8x1024 .f32) (x3 : Vec Ideal S1x8x8x1024 .f32) (x4 : Vec Ideal S16x3072 .f32) (x5 : Vec Ideal S1x1024 .f32) (x6 : Vec Ideal S1024x5248 .bf16) (x7 : Vec Ideal S5x1536 .f32) (x8 : Vec Ideal S1x1536 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = Proj.gL i (tile i x0) x1 x4 x5 x6 := by
  unfold Proj.gL
  rw [← uT_eq]
  have cov := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_11
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨Proj.emb_whole (Proj.lOf x6 (uT i x0 x1 x4 x5)) inb_S1x256x128_S1x256x128_0_0_0, trivial⟩
theorem out12 (c : Dev nD) (i : grid0.Coords) (arg2 : Memref sig .tc .vmem S1x64x8x1024 .f32) (harg2 : arg2.IsWhole) (arg3 : Memref sig .tc .vmem S1x256x1024 .f32) (harg3 : arg3.IsWhole) (arg4 : Memref sig .tc .vmem S1x8x8x1024 .f32) (harg4 : arg4.IsWhole) (arg5 : Memref sig .tc .vmem S1x8x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec Ideal S1x64x8x1024 .f32) (x1 : Vec Ideal S1x256x1024 .f32) (x2 : Vec Ideal S1x8x8x1024 .f32) (x3 : Vec Ideal S1x8x8x1024 .f32) (x4 : Vec Ideal S16x3072 .f32) (x5 : Vec Ideal S1x1024 .f32) (x6 : Vec Ideal S1024x5248 .bf16) (x7 : Vec Ideal S5x1536 .f32) (x8 : Vec Ideal S1x1536 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = Proj.gQ i (tile i x0) x1 x4 x5 x6 := by
  unfold Proj.gQ
  rw [← uT_eq]
  have cov := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_12
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨Proj.emb_whole (Proj.qOf x6 (uT i x0 x1 x4 x5)) inb_S1x256x1024_S1x256x1024_0_0_0, trivial⟩
theorem out13 (c : Dev nD) (i : grid0.Coords) (arg2 : Memref sig .tc .vmem S1x64x8x1024 .f32) (harg2 : arg2.IsWhole) (arg3 : Memref sig .tc .vmem S1x256x1024 .f32) (harg3 : arg3.IsWhole) (arg4 : Memref sig .tc .vmem S1x8x8x1024 .f32) (harg4 : arg4.IsWhole) (arg5 : Memref sig .tc .vmem S1x8x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec Ideal S1x64x8x1024 .f32) (x1 : Vec Ideal S1x256x1024 .f32) (x2 : Vec Ideal S1x8x8x1024 .f32) (x3 : Vec Ideal S1x8x8x1024 .f32) (x4 : Vec Ideal S16x3072 .f32) (x5 : Vec Ideal S1x1024 .f32) (x6 : Vec Ideal S1024x5248 .bf16) (x7 : Vec Ideal S5x1536 .f32) (x8 : Vec Ideal S1x1536 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = Proj.gG i (tile i x0) x1 x4 x5 x6 := by
  unfold Proj.gG
  rw [← uT_eq]
  have cov := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_13
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨Proj.emb_whole (Proj.gOf x6 (uT i x0 x1 x4 x5)) inb_S1x256x512_S1x256x512_0_0_0, trivial⟩
theorem out14 (c : Dev nD) (i : grid0.Coords) (arg2 : Memref sig .tc .vmem S1x64x8x1024 .f32) (harg2 : arg2.IsWhole) (arg3 : Memref sig .tc .vmem S1x256x1024 .f32) (harg3 : arg3.IsWhole) (arg4 : Memref sig .tc .vmem S1x8x8x1024 .f32) (harg4 : arg4.IsWhole) (arg5 : Memref sig .tc .vmem S1x8x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec Ideal S1x64x8x1024 .f32) (x1 : Vec Ideal S1x256x1024 .f32) (x2 : Vec Ideal S1x8x8x1024 .f32) (x3 : Vec Ideal S1x8x8x1024 .f32) (x4 : Vec Ideal S16x3072 .f32) (x5 : Vec Ideal S1x1024 .f32) (x6 : Vec Ideal S1024x5248 .bf16) (x7 : Vec Ideal S5x1536 .f32) (x8 : Vec Ideal S1x1536 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = Proj.gU i (tile i x0) x1 x4 x5 x6 := by
  unfold Proj.gU
  rw [← uT_eq]
  have cov := cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_14
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨Proj.pieceU x6 (uT i x0 x1 x4 x5) 3 Cert.Kernel2Ideal.Gen.slices_S256x512_o0_384_S256x128, Proj.pieceU x6 (uT i x0 x1 x4 x5) 2 Cert.Kernel2Ideal.Gen.slices_S256x512_o0_256_S256x128, Proj.pieceU x6 (uT i x0 x1 x4 x5) 1 Cert.Kernel2Ideal.Gen.slices_S256x512_o0_128_S256x128, Proj.pieceU x6 (uT i x0 x1 x4 x5) 0 Cert.Kernel2Ideal.Gen.slices_S256x512_o0_0_S256x128, trivial⟩
theorem out15 (c : Dev nD) (i : grid0.Coords) (arg2 : Memref sig .tc .vmem S1x64x8x1024 .f32) (harg2 : arg2.IsWhole) (arg3 : Memref sig .tc .vmem S1x256x1024 .f32) (harg3 : arg3.IsWhole) (arg4 : Memref sig .tc .vmem S1x8x8x1024 .f32) (harg4 : arg4.IsWhole) (arg5 : Memref sig .tc .vmem S1x8x8x1024 .f32) (harg5 : arg5.IsWhole) (arg6 : Memref sig .tc .vmem S16x3072 .f32) (harg6 : arg6.IsWhole) (arg7 : Memref sig .tc .vmem S1x1024 .f32) (harg7 : arg7.IsWhole) (arg8 : Memref sig .tc .vmem S1024x5248 .bf16) (harg8 : arg8.IsWhole) (arg9 : Memref sig .tc .vmem S5x1536 .f32) (harg9 : arg9.IsWhole) (arg10 : Memref sig .tc .vmem S1x1536 .f32) (harg10 : arg10.IsWhole) (arg11 : Memref sig .tc .vmem S1x256x1024 .bf16) (harg11 : arg11.IsWhole) (arg12 : Memref sig .tc .vmem S1x256x1536 .bf16) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x4x256x128 .f32) (harg16 : arg16.IsWhole) (arg17 : Memref sig .tc .vmem S1x256x512 .bf16) (harg17 : arg17.IsWhole)
    (x0 : Vec Ideal S1x64x8x1024 .f32) (x1 : Vec Ideal S1x256x1024 .f32) (x2 : Vec Ideal S1x8x8x1024 .f32) (x3 : Vec Ideal S1x8x8x1024 .f32) (x4 : Vec Ideal S16x3072 .f32) (x5 : Vec Ideal S1x1024 .f32) (x6 : Vec Ideal S1024x5248 .bf16) (x7 : Vec Ideal S5x1536 .f32) (x8 : Vec Ideal S1x1536 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = Proj.gS i (tile i x0) x1 x4 x5 x6 := by
  unfold Proj.gS
  rw [← uT_eq]
  have cov := cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_15
  rw [View.read_writes_eq_canon _ _ _ cov]
  funext y
  refine View.canon_apply_of_pieces _ _ (View.PiecesOf.mem ?_) y (cov y)
  clear cov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  exact ⟨Proj.emb_whole (Proj.sOf x6 (uT i x0 x1 x4 x5)) inb_S1x256x512_S1x256x512_0_0_0, trivial⟩

end Cert.Proof.ProjCol

end
-- ==== Proof.ColBlocks.lean ====
/-
  The seven result arrays of the projection of the transposed grid: every grid point projects four columns of the grid, with
  rows of the neighbouring columns for the convolution, and the points' blocks cover the arrays.
-/
module

public import proofs.«01_k».proof.Proof.ProjReads
public import proofs.«01_k».proof.Proof.ProjCol
public import proofs.«01_k».proof.Proof.Gen.Kernel3Ideal.Value
public import Idealize.ShloMosaic.Lib.StableHlo.ReadAt

@[expose] public section
noncomputable section
namespace Cert.Proof.ColBlocks

open Idealize.ShloMosaic Idealize.ShloMosaic.TcCoe Idealize.SL.Sem Cert.Kernel3Ideal Cert.Kernel3Ideal.Gen Cert.Proof

variable (m : (ℓ : Loc nD τ sig) → Buf (Elt Ideal) ℓ) (c : Dev nD)
/-- The arguments in core `c`'s memory, the latents in the order of the transposed grid. -/
def args : Tok.Args where
  x := fun b t k => (m ((c : Thread nD τ).loc main_arg0) : Vec Ideal S8x4096x1024 .f32) (ix3 b ⟨t.val % 64 * 64 + t.val / 64, by omega⟩ k)
  ctx := fun b t k => (m ((c : Thread nD τ).loc main_arg1) : Vec Ideal S8x256x1024 .f32) (ix3 b t k)
  mod := fun b k => (m ((c : Thread nD τ).loc main_arg2) : Vec Ideal S8x3072 .f32) (ix2 b k)
  modc := fun k => (m ((c : Thread nD τ).loc main_arg3) : Vec Ideal S3072 .f32) (ix1 k)
  nw := fun k => (m ((c : Thread nD τ).loc main_arg4) : Vec Ideal S1024 .f32) (ix1 k)
  w := fun k e => (m ((c : Thread nD τ).loc main_arg5) : Vec Ideal S1024x5184 .f32) (ix2 k e)
  cw := fun i e => (m ((c : Thread nD τ).loc main_arg6) : Vec Ideal S5x1536 .f32) (ix2 i e)
  cb := fun e => (m ((c : Thread nD τ).loc main_arg7) : Vec Ideal S1536 .f32) (ix1 e)

/-! ## The arrays prepared before the launch -/

theorem pack_eq : (V m c main_v18 : FVec Ideal S1024x5248 .bf16) = ProjReads.packed (m ((c : Thread nD τ).loc main_arg5)) := by
  unfold V
  after_reads_simp
  rfl
theorem mods_eq : (V m c main_v2 : FVec Ideal S16x3072 .f32) = ProjReads.mods (m ((c : Thread nD τ).loc main_arg2)) (m ((c : Thread nD τ).loc main_arg3)) := by
  unfold V
  after_reads_simp
  rfl
theorem pad3 (n : Fin 1024) : (V m c main_v4 : Vec Ideal S1x1024 .f32) (ix2 0 n) = (args m c).nw n := by
  unfold V args
  after_reads_at
theorem pad18 (n : Fin 1536) : (V m c main_v19 : Vec Ideal S1x1536 .f32) (ix2 0 n) = (args m c).cb n := by
  unfold V args
  after_reads_at

/-- The latents as a grid. -/
theorem grid_at (b : Fin 8) (p s : Fin 64) (k : Fin 1024) : (V m c main_v3 : Vec Ideal S8x64x64x1024 .f32) (ix4 b p s k)
    = (m ((c : Thread nD τ).loc main_arg0) : Vec Ideal S8x4096x1024 .f32) (ix3 b ⟨p.val * 64 + s.val, by omega⟩ k) := by
  unfold V
  after_reads_at

/-! ## The points and their blocks -/

variable (t : Fin cfg0.N)

/-- The grid coordinates of a point; its batch; its tile. -/
def at_ : grid0.Coords := grid0.coords t
theorem at_eq : ∀ t : Fin cfg0.N, (at_ t 0).val = t.val / 17 ∧ (at_ t 1).val = t.val % 17 :=
  (by decide +kernel : ∀ t : Fin grid0.N, (grid0.coords t 0).val = t.val / 17 ∧ (grid0.coords t 1).val = t.val % 17)
def bat : Fin 8 := ⟨t.val / 17, by have := t.isLt; have : cfg0.N = 136 := N_0; omega⟩
def til : Fin 17 := ⟨t.val % 17, Nat.mod_lt _ (by decide)⟩

def b0 : Vec Ideal S1x64x8x1024 .f32 := iblk m c 0 t
def b1 : Vec Ideal S1x256x1024 .f32 := iblk m c 1 t
def b2 : Vec Ideal S1x8x8x1024 .f32 := iblk m c 2 t
def b3 : Vec Ideal S1x8x8x1024 .f32 := iblk m c 3 t
def b4 : Vec Ideal S16x3072 .f32 := iblk m c 4 t
def b5 : Vec Ideal S1x1024 .f32 := iblk m c 5 t
def b6 : Vec Ideal S1024x5248 .bf16 := iblk m c 6 t
def b7 : Vec Ideal S5x1536 .f32 := iblk m c 7 t
def b8 : Vec Ideal S1x1536 .f32 := iblk m c 8 t

theorem idx0 : ∀ t : Fin cfg0.N, win0_0.index t 0 = t.val / 17 ∧ win0_0.index t 1 = 0 ∧ win0_0.index t 2 = min (t.val % 17) 15 / 2 ∧ win0_0.index t 3 = 0 :=
  (by decide +kernel : ∀ t : Fin grid0.N, win0_0.index t 0 = t.val / 17 ∧ win0_0.index t 1 = 0 ∧ win0_0.index t 2 = min (t.val % 17) 15 / 2 ∧ win0_0.index t 3 = 0)
theorem blk0 (r : Fin 64) (s : Fin 8) (k : Fin 1024) : b0 m c t (ix4 0 r s k)
    = (V m c main_v3 : Vec Ideal S8x64x64x1024 .f32) (ix4 (bat t) ⟨r.val, by omega⟩ ⟨min (t.val % 17) 15 / 2 * 8 + s.val, by omega⟩ k) := by
  have hi := idx0 t
  unfold b0 iblk
  rw [View.read_apply]
  show V m c main_v3 _ = V m c main_v3 _
  congr 1
  funext a
  apply Fin.ext
  match a with
  | ⟨0, _⟩ => show win0_0.index t 0 * 1 + 1 * 0 = t.val / 17; rw [hi.1]; omega
  | ⟨1, _⟩ => show win0_0.index t 1 * 64 + 1 * r.val = r.val; rw [hi.2.1]; omega
  | ⟨2, _⟩ => show win0_0.index t 2 * 8 + 1 * s.val = min (t.val % 17) 15 / 2 * 8 + s.val; rw [hi.2.2.1]; omega
  | ⟨3, _⟩ => show win0_0.index t 3 * 1024 + 1 * k.val = k.val; rw [hi.2.2.2]; omega
theorem idx1 : ∀ t : Fin cfg0.N, win0_1.index t 0 = t.val / 17 ∧ win0_1.index t 1 = 0 ∧ win0_1.index t 2 = 0 :=
  (by decide +kernel : ∀ t : Fin grid0.N, win0_1.index t 0 = t.val / 17 ∧ win0_1.index t 1 = 0 ∧ win0_1.index t 2 = 0)
theorem blk1 (r : Fin 256) (k : Fin 1024) : b1 m c t (ix3 0 r k) = (args m c).ctx (bat t) r k := by
  have hi := idx1 t
  unfold b1 iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 17; rw [hi.1]; omega
  | ⟨1, _⟩ => show win0_1.index t 1 * 256 + 1 * r.val = r.val; rw [hi.2.1]; omega
  | ⟨2, _⟩ => show win0_1.index t 2 * 1024 + 1 * k.val = k.val; rw [hi.2.2]; omega
theorem idx2 : ∀ t : Fin cfg0.N, win0_2.index t 0 = t.val / 17 ∧ win0_2.index t 1 = 7 ∧ win0_2.index t 2 = ((min (t.val % 17) 15) * 4 - 1) / 8 ∧ win0_2.index t 3 = 0 :=
  (by decide +kernel : ∀ t : Fin grid0.N, win0_2.index t 0 = t.val / 17 ∧ win0_2.index t 1 = 7 ∧ win0_2.index t 2 = ((min (t.val % 17) 15) * 4 - 1) / 8 ∧ win0_2.index t 3 = 0)
theorem blk2 (r : Fin 8) (s : Fin 8) (k : Fin 1024) : b2 m c t (ix4 0 r s k)
    = (V m c main_v3 : Vec Ideal S8x64x64x1024 .f32) (ix4 (bat t) ⟨7 * 8 + r.val, by omega⟩ ⟨((min (t.val % 17) 15) * 4 - 1) / 8 * 8 + s.val, by omega⟩ k) := by
  have hi := idx2 t
  unfold b2 iblk
  rw [View.read_apply]
  show V m c main_v3 _ = V m c main_v3 _
  congr 1
  funext a
  apply Fin.ext
  match a with
  | ⟨0, _⟩ => show win0_2.index t 0 * 1 + 1 * 0 = t.val / 17; rw [hi.1]; omega
  | ⟨1, _⟩ => show win0_2.index t 1 * 8 + 1 * r.val = 7 * 8 + r.val; rw [hi.2.1]; omega
  | ⟨2, _⟩ => show win0_2.index t 2 * 8 + 1 * s.val = ((min (t.val % 17) 15) * 4 - 1) / 8 * 8 + s.val; rw [hi.2.2.1]; omega
  | ⟨3, _⟩ => show win0_2.index t 3 * 1024 + 1 * k.val = k.val; rw [hi.2.2.2]; omega
theorem idx3 : ∀ t : Fin cfg0.N, win0_3.index t 0 = t.val / 17 ∧ win0_3.index t 1 = 0 ∧ win0_3.index t 2 = min ((min (t.val % 17) 15 + 1) * 4) 63 / 8 ∧ win0_3.index t 3 = 0 :=
  (by decide +kernel : ∀ t : Fin grid0.N, win0_3.index t 0 = t.val / 17 ∧ win0_3.index t 1 = 0 ∧ win0_3.index t 2 = min ((min (t.val % 17) 15 + 1) * 4) 63 / 8 ∧ win0_3.index t 3 = 0)
theorem blk3 (r : Fin 8) (s : Fin 8) (k : Fin 1024) : b3 m c t (ix4 0 r s k)
    = (V m c main_v3 : Vec Ideal S8x64x64x1024 .f32) (ix4 (bat t) ⟨r.val, by omega⟩ ⟨min ((min (t.val % 17) 15 + 1) * 4) 63 / 8 * 8 + s.val, by omega⟩ k) := by
  have hi := idx3 t
  unfold b3 iblk
  rw [View.read_apply]
  show V m c main_v3 _ = V m c main_v3 _
  congr 1
  funext a
  apply Fin.ext
  match a with
  | ⟨0, _⟩ => show win0_3.index t 0 * 1 + 1 * 0 = t.val / 17; rw [hi.1]; omega
  | ⟨1, _⟩ => show win0_3.index t 1 * 8 + 1 * r.val = r.val; rw [hi.2.1]; omega
  | ⟨2, _⟩ => show win0_3.index t 2 * 8 + 1 * s.val = min ((min (t.val % 17) 15 + 1) * 4) 63 / 8 * 8 + s.val; rw [hi.2.2.1]; omega
  | ⟨3, _⟩ => show win0_3.index t 3 * 1024 + 1 * k.val = k.val; rw [hi.2.2.2]; omega
theorem blk4 (r : Fin 16) (k : Fin 3072) : b4 m c t (ix2 r k) = (V m c main_v2 : Vec Ideal S16x3072 .f32) (ix2 r k) := by
  unfold b4 iblk
  rw [View.read_apply]
  show V m c main_v2 _ = V m c main_v2 _
  congr 1
  funext a
  apply Fin.ext
  match a with
  | ⟨0, _⟩ => show 0 * 16 + 1 * r.val = r.val; omega
  | ⟨1, _⟩ => show 0 * 3072 + 1 * k.val = k.val; omega
theorem blk5 (r : Fin 1) (k : Fin 1024) : b5 m c t (ix2 r k) = (V m c main_v4 : Vec Ideal S1x1024 .f32) (ix2 r k) := by
  unfold b5 iblk
  rw [View.read_apply]
  show V m c main_v4 _ = V m c main_v4 _
  congr 1
  funext a
  apply Fin.ext
  match a with
  | ⟨0, _⟩ => show 0 * 1 + 1 * r.val = r.val; omega
  | ⟨1, _⟩ => show 0 * 1024 + 1 * k.val = k.val; omega
theorem blk6 (r : Fin 1024) (k : Fin 5248) : b6 m c t (ix2 r k) = (V m c main_v18 : Vec Ideal S1024x5248 .bf16) (ix2 r k) := by
  unfold b6 iblk
  rw [View.read_apply]
  show V m c main_v18 _ = V m c main_v18 _
  congr 1
  funext a
  apply Fin.ext
  match a with
  | ⟨0, _⟩ => show 0 * 1024 + 1 * r.val = r.val; omega
  | ⟨1, _⟩ => show 0 * 5248 + 1 * k.val = k.val; omega
theorem blk7 (r : Fin 5) (k : Fin 1536) : b7 m c t (ix2 r k) = (V m c main_arg6 : Vec Ideal S5x1536 .f32) (ix2 r k) := by
  unfold b7 iblk
  rw [View.read_apply]
  show V m c main_arg6 _ = V m c main_arg6 _
  congr 1
  funext a
  apply Fin.ext
  match a with
  | ⟨0, _⟩ => show 0 * 5 + 1 * r.val = r.val; omega
  | ⟨1, _⟩ => show 0 * 1536 + 1 * k.val = k.val; omega
theorem blk8 (r : Fin 1) (k : Fin 1536) : b8 m c t (ix2 r k) = (V m c main_v19 : Vec Ideal S1x1536 .f32) (ix2 r k) := by
  unfold b8 iblk
  rw [View.read_apply]
  show V m c main_v19 _ = V m c main_v19 _
  congr 1
  funext a
  apply Fin.ext
  match a with
  | ⟨0, _⟩ => show 0 * 1 + 1 * r.val = r.val; omega
  | ⟨1, _⟩ => show 0 * 1536 + 1 * k.val = k.val; omega

/-- The columns a point picks from its blocks. -/
theorem off1 : ∀ (i : grid0.Coords) (r : Fin 4), k0_off1 i (BitVec.ofNat 32 r.val) 0 = 0 ∧ k0_off1 i (BitVec.ofNat 32 r.val) 1 = 0
    ∧ k0_off1 i (BitVec.ofNat 32 r.val) 2 = min (i 1).val 15 % 2 * 4 + r.val ∧ k0_off1 i (BitVec.ofNat 32 r.val) 3 = 0 := by decide +kernel
theorem off3 : ∀ i : grid0.Coords, k0_off3 i 0 = 0 ∧ k0_off3 i 1 = 0 ∧ k0_off3 i 2 = (min (i 1).val 15 * 4 - 1) % 8 ∧ k0_off3 i 3 = 0 := by decide +kernel
theorem off4 : ∀ i : grid0.Coords, k0_off4 i 0 = 0 ∧ k0_off4 i 1 = 0 ∧ k0_off4 i 2 = min ((min (i 1).val 15 + 1) * 4) 63 % 8 ∧ k0_off4 i 3 = 0 := by decide +kernel
theorem col_at (i : grid0.Coords) (r : Fin 4) (x : Vec Ideal S1x64x8x1024 .f32) (p : Fin 64) (k : Fin 1024) :
    ProjCol.col i r x (ix4 0 p 0 k) = x (ix4 0 p ⟨min (i 1).val 15 % 2 * 4 + r.val, by omega⟩ k) := by
  obtain ⟨h0, h1, h2, h3⟩ := off1 i r
  unfold ProjCol.col View.ld
  show x _ = x _
  congr 1
  funext a
  apply Fin.ext
  match a with
  | 0 => show k0_off1 i (BitVec.ofNat 32 r.val) 0 + 1 * 0 = 0; omega
  | 1 => show k0_off1 i (BitVec.ofNat 32 r.val) 1 + 1 * p.val = p.val; omega
  | 2 => show k0_off1 i (BitVec.ofNat 32 r.val) 2 + 1 * 0 = min (i 1).val 15 % 2 * 4 + r.val; omega
  | 3 => show k0_off1 i (BitVec.ofNat 32 r.val) 3 + 1 * k.val = k.val; omega
theorem side_at (o : Fin 4 → Nat) (h : ∀ a, o a + S1x8x1x1024.size a ≤ S1x8x8x1024.size a) (s : Fin 8) (ho : o 0 = 0 ∧ o 1 = 0 ∧ o 2 = s.val ∧ o 3 = 0)
    (x : Vec Ideal S1x8x8x1024 .f32) (p : Fin 8) (k : Fin 1024) : ProjCol.side o h x (ix4 0 p 0 k) = x (ix4 0 p s k) := by
  obtain ⟨h0, h1, h2, h3⟩ := ho
  unfold ProjCol.side View.ld
  show x _ = x _
  congr 1
  funext a
  apply Fin.ext
  match a with
  | 0 => show o 0 + 1 * 0 = 0; omega
  | 1 => show o 1 + 1 * p.val = p.val; omega
  | 2 => show o 2 + 1 * 0 = s.val; omega
  | 3 => show o 3 + 1 * k.val = k.val; omega

/-- The rows of the tile, and of its edges, in the order of the transposed grid. -/
def e0 : Vec Ideal Cert.Kernel2Ideal.S1x256x1024 .f32 := ProjCol.tile (at_ t) (b0 m c t)
def e2 : Vec Ideal Cert.Kernel2Ideal.S1x8x1024 .f32 := ProjCol.edge (k0_off3 (at_ t)) (k0_off3_inb (at_ t)) (b2 m c t)
def e3 : Vec Ideal Cert.Kernel2Ideal.S1x8x1024 .f32 := ProjCol.edge (k0_off4 (at_ t)) (k0_off4_inb (at_ t)) (b3 m c t)
/-- Place `n` of the order is row `n % 64` of column `n / 64` of the grid. -/
theorem x_at (b : Fin 8) (p s : Fin 64) (k : Fin 1024) (n : Fin 4096) (hp : p.val = n.val % 64) (hs : s.val = n.val / 64) :
    (V m c main_v3 : Vec Ideal S8x64x64x1024 .f32) (ix4 b p s k) = (args m c).x b n k := by
  rw [grid_at]
  exact congrArg (fun n => (m ((c : Thread nD τ).loc main_arg0) : Vec Ideal S8x4096x1024 .f32) (ix3 b n k))
    (Fin.ext (by show p.val * 64 + s.val = n.val % 64 * 64 + n.val / 64; rw [hp, hs]))
theorem e0_at (r : Fin 256) (k : Fin 1024) : e0 m c t (ix3 0 r k) = (args m c).x (bat t) ⟨(min (t.val % 17) 15) * 256 + r.val, by omega⟩ k := by
  have h1 := (at_eq t).2
  show ProjCol.col (at_ t) ⟨r.val / 64, _⟩ (b0 m c t) (ix4 0 ⟨r.val % 64, _⟩ 0 k) = _
  rw [col_at, blk0]
  exact x_at m c _ _ _ _ _ (by show r.val % 64 = (min (t.val % 17) 15 * 256 + r.val) % 64; omega)
    (by show min (t.val % 17) 15 / 2 * 8 + (min (at_ t 1).val 15 % 2 * 4 + r.val / 64) = (min (t.val % 17) 15 * 256 + r.val) / 64; rw [h1]; omega)
theorem e2_at (h : 0 < t.val % 17) (r : Fin 8) (k : Fin 1024) : e2 m c t (ix3 0 r k) = (args m c).x (bat t) ⟨((min (t.val % 17) 15) * 32 - 1) * 8 + r.val, by omega⟩ k := by
  have h1 := (at_eq t).2
  have ho := off3 (at_ t)
  show ProjCol.side _ _ (b2 m c t) (ix4 0 r 0 k) = _
  rw [side_at _ _ ⟨(min (t.val % 17) 15 * 4 - 1) % 8, by omega⟩ (by rw [h1] at ho; exact ho), blk2]
  exact x_at m c _ _ _ _ _ (by show 7 * 8 + r.val = ((min (t.val % 17) 15 * 32 - 1) * 8 + r.val) % 64; omega)
    (by show (min (t.val % 17) 15 * 4 - 1) / 8 * 8 + (min (t.val % 17) 15 * 4 - 1) % 8 = ((min (t.val % 17) 15 * 32 - 1) * 8 + r.val) / 64; omega)
theorem e3_at (h : t.val % 17 < 15) (r : Fin 8) (k : Fin 1024) : e3 m c t (ix3 0 r k) = (args m c).x (bat t) ⟨(min ((min (t.val % 17) 15 + 1) * 32) 511) * 8 + r.val, by omega⟩ k := by
  have h1 := (at_eq t).2
  have ho := off4 (at_ t)
  show ProjCol.side _ _ (b3 m c t) (ix4 0 r 0 k) = _
  rw [side_at _ _ ⟨min ((min (t.val % 17) 15 + 1) * 4) 63 % 8, by omega⟩ (by rw [h1] at ho; exact ho), blk3]
  exact x_at m c _ _ _ _ _ (by show r.val = (min ((min (t.val % 17) 15 + 1) * 32) 511 * 8 + r.val) % 64; omega)
    (by show min ((min (t.val % 17) 15 + 1) * 4) 63 / 8 * 8 + min ((min (t.val % 17) 15 + 1) * 4) 63 % 8 = (min ((min (t.val % 17) 15 + 1) * 32) 511 * 8 + r.val) / 64; omega)

/-- What the blocks of a point hold. -/
theorem reads : ProjReads.Reads (args m c) (m ((c : Thread nD τ).loc main_arg5)) (at_ t) (bat t) (til t) (e0 m c t) (b1 m c t) (e2 m c t) (e3 m c t) (b4 m c t)
    (b5 m c t) (b6 m c t) (b7 m c t) (b8 m c t) where
  at0 := (at_eq t).1
  at1 := (at_eq t).2
  weights _ _ := rfl
  tile := e0_at m c t
  ctx := blk1 m c t
  before := e2_at m c t
  after := e3_at m c t
  mod k hk n := ((blk4 m c t k n).trans (congrFun (mods_eq m c) _)).trans (ProjReads.mods_at _ _ k hk n)
  nw n := (blk5 m c t 0 n).trans (pad3 m c n)
  cols k n := (blk6 m c t k n).trans (congrFun (pack_eq m c) _)
  cw n e := (blk7 m c t n e).trans (congrFun (V_main_arg6 m c) _)
  cb e := (blk8 m c t 0 e).trans (pad18 m c e)

/-! ## The seven results -/

/-- The point that writes a token. -/
def writer (b : Fin 8) (s : Fin 4352) : Fin cfg0.N := ⟨b.val * 17 + s.val / 256, by have : cfg0.N = 136 := N_0; omega⟩
theorem writer_at (b : Fin 8) (s : Fin 4352) : (writer b s).val / 17 = b.val ∧ (writer b s).val % 17 = s.val / 256 := by
  constructor
  · show (b.val * 17 + s.val / 256) / 17 = _; omega
  · show (b.val * 17 + s.val / 256) % 17 = _; omega

theorem written (b : Fin 8) (s : Fin 4352) (w : Fin 3 → Nat) (h : w 0 = (writer b s).val / 17 ∧ w 1 = (writer b s).val % 17 ∧ w 2 = 0) :
    w 0 = b.val ∧ w 1 = s.val / 256 ∧ w 2 = 0 := ⟨h.1.trans (writer_at b s).1, h.2.1.trans (writer_at b s).2, h.2.2⟩

theorem idx9 : ∀ t : Fin cfg0.N, win0_9.index t 0 = t.val / 17 ∧ win0_9.index t 1 = t.val % 17 ∧ win0_9.index t 2 = 0 :=
  (by decide +kernel : ∀ t : Fin grid0.N, win0_9.index t 0 = t.val / 17 ∧ win0_9.index t 1 = t.val % 17 ∧ win0_9.index t 2 = 0)
theorem flushedZ (hf : (cfg0.win 9).flush t = true) :
    (dats m 0 c).flushed 9 t = ((cfg0.win 9).blk t).view.read (Elt Ideal) (ProjReads.arrZ (args m c)) := by
  rw [Value.flushed9_A, ProjCol.out9]
  funext y
  exact ProjReads.block (Tok.outZ (args m c)) (bat t) (til t) _ ((cfg0.win 9).blk t).view.emb _ (idx9 t) (fun _ _ => rfl) (ProjReads.leftZ (reads m c t)) y
theorem finalZ : (dats m 0 c).arrAt 9 cfg0.N = ProjReads.arrZ (args m c) :=
  (dats m 0 c).arrAt_eq_of_cover 9 (ProjReads.arrZ (args m c)) (flushedZ m c) fun i =>
    ⟨writer (i 0) (i 1), flush0_9 _, by
      show i ∈ ((View.whole main_v20_0).slice (win0_9.rect (writer (i 0) (i 1)))).set
      rw [View.set_slice_whole, Rect.mem_set_unit]
      exact ProjReads.cover i _ (written _ _ _ (idx9 (writer (i 0) (i 1))))⟩

theorem idx10 : ∀ t : Fin cfg0.N, win0_10.index t 0 = t.val / 17 ∧ win0_10.index t 1 = t.val % 17 ∧ win0_10.index t 2 = 0 :=
  (by decide +kernel : ∀ t : Fin grid0.N, win0_10.index t 0 = t.val / 17 ∧ win0_10.index t 1 = t.val % 17 ∧ win0_10.index t 2 = 0)
theorem flushedX (hf : (cfg0.win 10).flush t = true) :
    (dats m 0 c).flushed 10 t = ((cfg0.win 10).blk t).view.read (Elt Ideal) (ProjReads.arrX (args m c)) := by
  rw [Value.flushed10_A, ProjCol.out10]
  funext y
  exact ProjReads.block (Tok.outX (args m c)) (bat t) (til t) _ ((cfg0.win 10).blk t).view.emb _ (idx10 t) (fun _ _ => rfl) (ProjReads.leftX (reads m c t)) y
theorem finalX : (dats m 0 c).arrAt 10 cfg0.N = ProjReads.arrX (args m c) :=
  (dats m 0 c).arrAt_eq_of_cover 10 (ProjReads.arrX (args m c)) (flushedX m c) fun i =>
    ⟨writer (i 0) (i 1), flush0_10 _, by
      show i ∈ ((View.whole main_v20_1).slice (win0_10.rect (writer (i 0) (i 1)))).set
      rw [View.set_slice_whole, Rect.mem_set_unit]
      exact ProjReads.cover i _ (written _ _ _ (idx10 (writer (i 0) (i 1))))⟩

theorem idx11 : ∀ t : Fin cfg0.N, win0_11.index t 0 = t.val / 17 ∧ win0_11.index t 1 = t.val % 17 ∧ win0_11.index t 2 = 0 :=
  (by decide +kernel : ∀ t : Fin grid0.N, win0_11.index t 0 = t.val / 17 ∧ win0_11.index t 1 = t.val % 17 ∧ win0_11.index t 2 = 0)
theorem flushedL (hf : (cfg0.win 11).flush t = true) :
    (dats m 0 c).flushed 11 t = ((cfg0.win 11).blk t).view.read (Elt Ideal) (ProjReads.arrL (args m c)) := by
  rw [Value.flushed11_A, ProjCol.out11]
  funext y
  exact ProjReads.block (Tok.outL (args m c)) (bat t) (til t) _ ((cfg0.win 11).blk t).view.emb _ (idx11 t) (fun _ _ => rfl) (ProjReads.leftL (reads m c t)) y
theorem finalL : (dats m 0 c).arrAt 11 cfg0.N = ProjReads.arrL (args m c) :=
  (dats m 0 c).arrAt_eq_of_cover 11 (ProjReads.arrL (args m c)) (flushedL m c) fun i =>
    ⟨writer (i 0) (i 1), flush0_11 _, by
      show i ∈ ((View.whole main_v20_2).slice (win0_11.rect (writer (i 0) (i 1)))).set
      rw [View.set_slice_whole, Rect.mem_set_unit]
      exact ProjReads.cover i _ (written _ _ _ (idx11 (writer (i 0) (i 1))))⟩

theorem idx12 : ∀ t : Fin cfg0.N, win0_12.index t 0 = t.val / 17 ∧ win0_12.index t 1 = t.val % 17 ∧ win0_12.index t 2 = 0 :=
  (by decide +kernel : ∀ t : Fin grid0.N, win0_12.index t 0 = t.val / 17 ∧ win0_12.index t 1 = t.val % 17 ∧ win0_12.index t 2 = 0)
theorem flushedQ (hf : (cfg0.win 12).flush t = true) :
    (dats m 0 c).flushed 12 t = ((cfg0.win 12).blk t).view.read (Elt Ideal) (ProjReads.arrQ (args m c)) := by
  rw [Value.flushed12_A, ProjCol.out12]
  funext y
  exact ProjReads.block (Tok.outQ (args m c)) (bat t) (til t) _ ((cfg0.win 12).blk t).view.emb _ (idx12 t) (fun _ _ => rfl) (ProjReads.leftQ (reads m c t)) y
theorem finalQ : (dats m 0 c).arrAt 12 cfg0.N = ProjReads.arrQ (args m c) :=
  (dats m 0 c).arrAt_eq_of_cover 12 (ProjReads.arrQ (args m c)) (flushedQ m c) fun i =>
    ⟨writer (i 0) (i 1), flush0_12 _, by
      show i ∈ ((View.whole main_v20_3).slice (win0_12.rect (writer (i 0) (i 1)))).set
      rw [View.set_slice_whole, Rect.mem_set_unit]
      exact ProjReads.cover i _ (written _ _ _ (idx12 (writer (i 0) (i 1))))⟩

theorem idx13 : ∀ t : Fin cfg0.N, win0_13.index t 0 = t.val / 17 ∧ win0_13.index t 1 = t.val % 17 ∧ win0_13.index t 2 = 0 :=
  (by decide +kernel : ∀ t : Fin grid0.N, win0_13.index t 0 = t.val / 17 ∧ win0_13.index t 1 = t.val % 17 ∧ win0_13.index t 2 = 0)
theorem flushedG (hf : (cfg0.win 13).flush t = true) :
    (dats m 0 c).flushed 13 t = ((cfg0.win 13).blk t).view.read (Elt Ideal) (ProjReads.arrG (args m c)) := by
  rw [Value.flushed13_A, ProjCol.out13]
  funext y
  exact ProjReads.block (Tok.outG (args m c)) (bat t) (til t) _ ((cfg0.win 13).blk t).view.emb _ (idx13 t) (fun _ _ => rfl) (ProjReads.leftG (reads m c t)) y
theorem finalG : (dats m 0 c).arrAt 13 cfg0.N = ProjReads.arrG (args m c) :=
  (dats m 0 c).arrAt_eq_of_cover 13 (ProjReads.arrG (args m c)) (flushedG m c) fun i =>
    ⟨writer (i 0) (i 1), flush0_13 _, by
      show i ∈ ((View.whole main_v20_4).slice (win0_13.rect (writer (i 0) (i 1)))).set
      rw [View.set_slice_whole, Rect.mem_set_unit]
      exact ProjReads.cover i _ (written _ _ _ (idx13 (writer (i 0) (i 1))))⟩

theorem idx15 : ∀ t : Fin cfg0.N, win0_15.index t 0 = t.val / 17 ∧ win0_15.index t 1 = t.val % 17 ∧ win0_15.index t 2 = 0 :=
  (by decide +kernel : ∀ t : Fin grid0.N, win0_15.index t 0 = t.val / 17 ∧ win0_15.index t 1 = t.val % 17 ∧ win0_15.index t 2 = 0)
theorem flushedS (hf : (cfg0.win 15).flush t = true) :
    (dats m 0 c).flushed 15 t = ((cfg0.win 15).blk t).view.read (Elt Ideal) (ProjReads.arrS (args m c)) := by
  rw [Value.flushed15_A, ProjCol.out15]
  funext y
  exact ProjReads.block (Tok.outS (args m c)) (bat t) (til t) _ ((cfg0.win 15).blk t).view.emb _ (idx15 t) (fun _ _ => rfl) (ProjReads.leftS (reads m c t)) y
theorem finalS : (dats m 0 c).arrAt 15 cfg0.N = ProjReads.arrS (args m c) :=
  (dats m 0 c).arrAt_eq_of_cover 15 (ProjReads.arrS (args m c)) (flushedS m c) fun i =>
    ⟨writer (i 0) (i 1), flush0_15 _, by
      show i ∈ ((View.whole main_v20_6).slice (win0_15.rect (writer (i 0) (i 1)))).set
      rw [View.set_slice_whole, Rect.mem_set_unit]
      exact ProjReads.cover i _ (written _ _ _ (idx15 (writer (i 0) (i 1))))⟩

theorem idx14 : ∀ t : Fin cfg0.N, win0_14.index t 0 = t.val / 17 ∧ win0_14.index t 1 = 0 ∧ win0_14.index t 2 = t.val % 17 ∧ win0_14.index t 3 = 0 :=
  (by decide +kernel : ∀ t : Fin grid0.N, win0_14.index t 0 = t.val / 17 ∧ win0_14.index t 1 = 0 ∧ win0_14.index t 2 = t.val % 17 ∧ win0_14.index t 3 = 0)
theorem flushedU (hf : (cfg0.win 14).flush t = true) :
    (dats m 0 c).flushed 14 t = ((cfg0.win 14).blk t).view.read (Elt Ideal) (ProjReads.arrU (args m c)) := by
  rw [Value.flushed14_A, ProjCol.out14]
  have hi := idx14 t
  funext j
  rw [View.read_apply]
  obtain ⟨g, r, l, rfl⟩ : ∃ (g : Fin 4) (r : Fin 256) (l : Fin 128), j = ix4 0 g r l := ⟨j 1, j 2, j 3, by
    funext a; match a with | ⟨0, _⟩ => exact Subsingleton.elim (α := Fin 1) _ _ | ⟨1, _⟩ => rfl | ⟨2, _⟩ => rfl | ⟨3, _⟩ => rfl⟩
  refine (ProjReads.leftU (reads m c t) g r l).trans ?_
  show ProjReads.arrU (args m c) (ix4 (bat t) g (ProjReads.tok (til t) r) l) = ProjReads.arrU (args m c) _
  congr 1
  funext a
  apply Fin.ext
  match a with
  | ⟨0, _⟩ => show t.val / 17 = win0_14.index t 0 * 1 + 1 * 0; rw [hi.1]; omega
  | ⟨1, _⟩ => show g.val = win0_14.index t 1 * 4 + 1 * g.val; rw [hi.2.1]; omega
  | ⟨2, _⟩ => show t.val % 17 * 256 + r.val = win0_14.index t 2 * 256 + 1 * r.val; rw [hi.2.2.1]; omega
  | ⟨3, _⟩ => show l.val = win0_14.index t 3 * 128 + 1 * l.val; rw [hi.2.2.2]; omega
theorem finalU : (dats m 0 c).arrAt 14 cfg0.N = ProjReads.arrU (args m c) :=
  (dats m 0 c).arrAt_eq_of_cover 14 (ProjReads.arrU (args m c)) (flushedU m c) fun i =>
    ⟨writer (i 0) (i 2), flush0_14 _, by
      show i ∈ ((View.whole main_v20_5).slice (win0_14.rect (writer (i 0) (i 2)))).set
      rw [View.set_slice_whole, Rect.mem_set_unit]
      have hi := idx14 (writer (i 0) (i 2))
      obtain ⟨hw0, hw1⟩ := writer_at (i 0) (i 2)
      have h1 : (i 1 : Nat) < 4 := (i 1).isLt
      have h3 : (i 3 : Nat) < 128 := (i 3).isLt
      intro a
      match a with
      | ⟨0, _⟩ => show win0_14.index _ 0 * 1 ≤ (i 0 : Nat) ∧ (i 0 : Nat) < win0_14.index _ 0 * 1 + 1; rw [hi.1, hw0]; omega
      | ⟨1, _⟩ => show win0_14.index _ 1 * 4 ≤ (i 1 : Nat) ∧ (i 1 : Nat) < win0_14.index _ 1 * 4 + 4; rw [hi.2.1]; omega
      | ⟨2, _⟩ => show win0_14.index _ 2 * 256 ≤ (i 2 : Nat) ∧ (i 2 : Nat) < win0_14.index _ 2 * 256 + 256; rw [hi.2.2.1, hw1]; omega
      | ⟨3, _⟩ => show win0_14.index _ 3 * 128 ≤ (i 3 : Nat) ∧ (i 3 : Nat) < win0_14.index _ 3 * 128 + 128; rw [hi.2.2.2]; omega⟩

end Cert.Proof.ColBlocks

end
-- ==== Proof.ColResults.lean ====
/-
  The plain projection's seven results where the latents are taken in the order of the transposed grid.
-/
module

public import proofs.«01_k».proof.Proof.ProjResults
public import proofs.«01_k».proof.Proof.Gen.Reference3Ideal.Run

@[expose] public section

noncomputable section

namespace Cert.Proof.ColResults

open Idealize.ShloMosaic Idealize.ShloMosaic.TcCoe Idealize.SL.Sem Idealize.ShloMosaic.StableHlo Cert.Reference3Ideal
  Cert.Reference3Ideal.Gen Cert.Reference3Ideal.Value Cert.Proof

/-- Rows of the grid's places in the order of the transposed grid. -/
def turn (L : FVec Ideal S8x4096x1024 .f32) : FVec Ideal S8x4096x1024 .f32 :=
  shapeCast _ (transpose S8x64x64x1024 [0, 2, 1, 3] (shapeCast _ L shapeCasts_S8x4096x1024_S8x64x64x1024) transposes_S8x64x64x1024_S8x64x64x1024_0_2_1_3)
    shapeCasts_S8x64x64x1024_S8x4096x1024
theorem turn_at (L : FVec Ideal S8x4096x1024 .f32) (b : Fin 8) (t : Fin 4096) (k : Fin 1024) :
    turn L (ix3 b t k) = L (ix3 b ⟨t.val % 64 * 64 + t.val / 64, by omega⟩ k) := by
  unfold turn
  pointwise

variable (m : (ℓ : Loc nD τ sig) → Buf (Elt Ideal) ℓ) (c : Dev nD)

/-- The arguments in core `c`'s memory, the latents in the order of the transposed grid. -/
def args : Tok.Args where
  x := fun b t k => (m ((c : Thread nD τ).loc main_arg0) : Vec Ideal S8x4096x1024 .f32) (ix3 b ⟨t.val % 64 * 64 + t.val / 64, by omega⟩ k)
  ctx := fun b t k => (m ((c : Thread nD τ).loc main_arg1) : Vec Ideal S8x256x1024 .f32) (ix3 b t k)
  mod := fun b k => (m ((c : Thread nD τ).loc main_arg2) : Vec Ideal S8x3072 .f32) (ix2 b k)
  modc := fun k => (m ((c : Thread nD τ).loc main_arg3) : Vec Ideal S3072 .f32) (ix1 k)
  nw := fun k => (m ((c : Thread nD τ).loc main_arg4) : Vec Ideal S1024 .f32) (ix1 k)
  w := fun k e => (m ((c : Thread nD τ).loc main_arg5) : Vec Ideal S1024x5184 .f32) (ix2 k e)
  cw := fun i e => (m ((c : Thread nD τ).loc main_arg6) : Vec Ideal S5x1536 .f32) (ix2 i e)
  cb := fun e => (m ((c : Thread nD τ).loc main_arg7) : Vec Ideal S1536 .f32) (ix1 e)

/-- The projection of the arguments. -/
def prod : FVec Ideal S8x4352x5184 .f32 := ProjResults.prj (m ((c.tc : Thread nD τ).loc main_arg5)) (turn (ProjResults.lat (m ((c.tc : Thread nD τ).loc main_arg0)) (m ((c.tc : Thread nD τ).loc main_arg2)) (m ((c.tc : Thread nD τ).loc main_arg4))))
  (ProjResults.con (m ((c.tc : Thread nD τ).loc main_arg1)) (m ((c.tc : Thread nD τ).loc main_arg3)) (m ((c.tc : Thread nD τ).loc main_arg4)))
theorem prod_at (b : Fin 8) (t : Fin 4352) (e : Fin 5184) : prod m c (ix3 b t e) = Tok.proj (args m c) b t e :=
  ProjResults.prj_tok _ (args m c) _ _ (fun b t k => (turn_at _ b t k).trans (ProjResults.lat_at _ _ _ b _ k)) (fun b t k => ProjResults.con_at _ _ _ b t k) (fun _ _ => rfl) b t e
theorem resX : res_main_v151 m c = ProjReads.arrX (args m c) :=
  (show res_main_v151 m c = ProjResults.gated (ProjResults.tapped (ProjResults.conv (prod m c)) (m ((c.tc : Thread nD τ).loc main_arg6)) (m ((c.tc : Thread nD τ).loc main_arg7))) from rfl).trans
    (ProjResults.eqX (args m c) (prod m c) (prod_at m c) _ _ (fun _ _ => rfl) (fun _ => rfl))
theorem resQ : res_main_v152 m c = ProjReads.arrQ (args m c) :=
  (show res_main_v152 m c = ProjResults.outQ (prod m c) from rfl).trans (ProjResults.eqQ (args m c) (prod m c) (prod_at m c))
theorem resL : res_main_v146 m c = ProjReads.arrL (args m c) :=
  (show res_main_v146 m c = ProjResults.outL (prod m c) from rfl).trans (ProjResults.eqL (args m c) (prod m c) (prod_at m c))

end Cert.Proof.ColResults

end
-- ==== Proof.ColEqual.lean ====
/-
  The reference of the projection of the transposed grid leaves the results of its kernel, and its arguments unchanged.
-/
module

public import proofs.«01_k».proof.Defs
public import proofs.«01_k».proof.Proof.ColBlocks
public import proofs.«01_k».proof.Proof.ColResults
public import Idealize.ShloMosaic.Lib.Quiescent

@[expose] public section

noncomputable section

namespace Cert.Proof.ColEqual

open Idealize.ShloMosaic Idealize.ShloMosaic.TcCoe Idealize.SL.Sem Cert.Proof

/-- The reference's frame. -/
theorem frame : Cert.quiescent_Reference3Ideal := fun m ρ _ =>
  (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)

section
variable (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ)
  (c : Dev Cert.Kernel3Ideal.nD)

/-- Memories that agree on the arguments hold the same arguments of the projection. -/
theorem args_eq (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) : ColResults.args m' c = ColBlocks.args m c := by
  obtain ⟨h0, h1, h2, h3, h4, h5, h6, h7⟩ := h
  unfold ColResults.args
  rw [h0, h1, h2, h3, h4, h5, h6, h7]
  rfl
end

/-- The kernel's results are the reference's. -/
theorem algebraic : Cert.algebraic_Kernel3Ideal_Reference3Ideal (hKernel3Ideal := Cert.Kernel3Ideal.Gen.facts) (hReference3Ideal := Cert.Reference3Ideal.Gen.facts) := by
  intro m g m' g' _ h
  have ha := fun c => args_eq m m' c (h c)
  have hP := ColResults.prod_at m'
  refine ⟨fun c => ProjReads.arrZ (ColBlocks.args m c), fun c => ProjReads.arrX (ColBlocks.args m c), fun c => ProjReads.arrL (ColBlocks.args m c), fun c => ProjReads.arrQ (ColBlocks.args m c), fun c => ProjReads.arrG (ColBlocks.args m c), fun c => ProjReads.arrU (ColBlocks.args m c), fun c => ProjReads.arrS (ColBlocks.args m c), ?_, ?_⟩
  · exact (θ_run Cert.Kernel3Ideal.defs _ _).mono (fun r hr c => ⟨(hr c).1.trans (ColBlocks.finalZ m c), (hr c).2.1.trans (ColBlocks.finalX m c), (hr c).2.2.1.trans (ColBlocks.finalL m c), (hr c).2.2.2.1.trans (ColBlocks.finalQ m c), (hr c).2.2.2.2.1.trans (ColBlocks.finalG m c), (hr c).2.2.2.2.2.1.trans (ColBlocks.finalU m c), (hr c).2.2.2.2.2.2.1.trans (ColBlocks.finalS m c), (hr c).2.2.2.2.2.2.2⟩)
      (Cert.Kernel3Ideal.Value.run_blocks m g)
  · exact (θ_run Cert.Reference3Ideal.defs _ _).mono (fun r hr c => ⟨(hr c).1.trans ((ProjResults.eqZ _ _ (hP c)).trans (congrArg ProjReads.arrZ (ha c))),
      (hr c).2.1.trans ((ColResults.resX m' c).trans (congrArg ProjReads.arrX (ha c))),
      (hr c).2.2.1.trans ((ColResults.resL m' c).trans (congrArg ProjReads.arrL (ha c))),
      (hr c).2.2.2.1.trans ((ColResults.resQ m' c).trans (congrArg ProjReads.arrQ (ha c))),
      (hr c).2.2.2.2.1.trans ((ProjResults.eqG _ _ (hP c)).trans (congrArg ProjReads.arrG (ha c))),
      (hr c).2.2.2.2.2.1.trans ((ProjResults.eqU _ _ (hP c)).trans (congrArg ProjReads.arrU (ha c))),
      (hr c).2.2.2.2.2.2.1.trans ((ProjResults.eqS _ _ (hP c)).trans (congrArg ProjReads.arrS (ha c))), (hr c).2.2.2.2.2.2.2⟩)
      (Cert.Reference3Ideal.Value.run m' g')

end Cert.Proof.ColEqual

end
-- ==== Proof.lean ====
/- The certificate of the scan `Kernel` and the projections `Kernel2` and `Kernel3`: every frame, and the equality of the results. -/
module

public import proofs.«01_k».proof.Defs
public import proofs.«01_k».proof.Proof.Gen.Kernel.Frame
public import proofs.«01_k».proof.Proof.Gen.KernelIdeal.Frame
public import proofs.«01_k».proof.Proof.RefFrame
public import proofs.«01_k».proof.Proof.Blocks
public import proofs.«01_k».proof.Proof.Results
public import proofs.«01_k».proof.Proof.Gen.Kernel2.Frame
public import proofs.«01_k».proof.Proof.Gen.Kernel2Ideal.Frame
public import proofs.«01_k».proof.Proof.ProjEqual
public import proofs.«01_k».proof.Proof.Gen.Kernel3.Frame
public import proofs.«01_k».proof.Proof.Gen.Kernel3Ideal.Frame
public import proofs.«01_k».proof.Proof.ColEqual

@[expose] public section

noncomputable section

namespace Cert.Proof

open Idealize.ShloMosaic Idealize.SL.Sem

/-- Memories that agree on the arguments hold the same arguments of the scans. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Loop.args m' c = Blocks.args m c := by
  obtain ⟨h0, h1, h2, h3, h4⟩ := h
  unfold Loop.args
  rw [h0, h1, h2, h3, h4]
  rfl

/-- The kernel's results are the reference's. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Blocks.out0 m c, fun c => Blocks.out1 m c, ?_, ?_⟩
  · exact (θ_run Cert.KernelIdeal.defs _ _).mono (fun r hr c => ⟨(hr c).1.trans (Blocks.final0 m c), (hr c).2.1.trans (Blocks.final1 m c), (hr c).2.2⟩)
      (Cert.KernelIdeal.Value.run_blocks m g)
  · refine (θ_run Cert.ReferenceIdeal.defs _ _).mono (fun r hr c => ⟨(hr c).1.trans ((Results.v108 m' c).trans ?_), (hr c).2.1.trans ((Results.v110 m' c).trans ?_), (hr c).2.2⟩)
      (Cert.ReferenceIdeal.Value.run m' g')
    · rw [args_eq m m' c (h c)]; rfl
    · rw [args_eq m m' c (h c)]; rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, Ref.frame,
  fun m ρ _ => Cert.Kernel2.Gen.frame m ρ, fun m ρ _ => Cert.Kernel2Ideal.Gen.frame m ρ, ProjEqual.frame,
  fun m ρ _ => Cert.Kernel3.Gen.frame m ρ, fun m ρ _ => Cert.Kernel3Ideal.Gen.frame m ρ, ColEqual.frame,
  trivial, algebraic, trivial, ProjEqual.algebraic, trivial, ColEqual.algebraic⟩

end Cert.Proof

end
